-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1)
      ∧ r.2.mem ((c.tc : Thread Cert.Project.nD Cert.Project.τ).loc Cert.Project.main_arg2) = m ((c.tc : Thread Cert.Project.nD Cert.Project.τ).loc Cert.Project.main_arg2)
      ∧ r.2.mem ((c.tc : Thread Cert.Project.nD Cert.Project.τ).loc Cert.Project.main_arg3) = m ((c.tc : Thread Cert.Project.nD Cert.Project.τ).loc Cert.Project.main_arg3))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
      ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
      ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1)
      ∧ r.2.mem ((c.tc : Thread Cert.ProjectReferenceIdeal.nD Cert.ProjectReferenceIdeal.τ).loc Cert.ProjectReferenceIdeal.main_arg2) = m ((c.tc : Thread Cert.ProjectReferenceIdeal.nD Cert.ProjectReferenceIdeal.τ).loc Cert.ProjectReferenceIdeal.main_arg2)
      ∧ r.2.mem ((c.tc : Thread Cert.ProjectReferenceIdeal.nD Cert.ProjectReferenceIdeal.τ).loc Cert.ProjectReferenceIdeal.main_arg3) = m ((c.tc : Thread Cert.ProjectReferenceIdeal.nD Cert.ProjectReferenceIdeal.τ).loc Cert.ProjectReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)
      ∧ m' ((c.tc : Thread Cert.ProjectReferenceIdeal.nD Cert.ProjectReferenceIdeal.τ).loc Cert.ProjectReferenceIdeal.main_arg2) = m ((c.tc : Thread Cert.ProjectIdeal.nD Cert.ProjectIdeal.τ).loc Cert.ProjectIdeal.main_arg2)
      ∧ m' ((c.tc : Thread Cert.ProjectReferenceIdeal.nD Cert.ProjectReferenceIdeal.τ).loc Cert.ProjectReferenceIdeal.main_arg3) = m ((c.tc : Thread Cert.ProjectIdeal.nD Cert.ProjectIdeal.τ).loc Cert.ProjectIdeal.main_arg3)) →
    ∃ (v0 : (c : Dev Cert.ProjectIdeal.nD) → Buf (Elt Ideal) ((c.tc : Thread Cert.ProjectIdeal.nD Cert.ProjectIdeal.τ).loc Cert.ProjectIdeal.main_v7_0)) (v1 : (c : Dev Cert.ProjectIdeal.nD) → Buf (Elt Ideal) ((c.tc : Thread Cert.ProjectIdeal.nD Cert.ProjectIdeal.τ).loc Cert.ProjectIdeal.main_v7_1)) (v2 : (c : Dev Cert.ProjectIdeal.nD) → Buf (Elt Ideal) ((c.tc : Thread Cert.ProjectIdeal.nD Cert.ProjectIdeal.τ).loc Cert.ProjectIdeal.main_v7_2)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v7_0) = v0 c
          ∧ r.2.mem ((c.tc : Thread Cert.ProjectIdeal.nD Cert.ProjectIdeal.τ).loc Cert.ProjectIdeal.main_v7_1) = v1 c
          ∧ r.2.mem ((c.tc : Thread Cert.ProjectIdeal.nD Cert.ProjectIdeal.τ).loc Cert.ProjectIdeal.main_v7_2) = v2 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1)
          ∧ r.2.mem ((c.tc : Thread Cert.ProjectIdeal.nD Cert.ProjectIdeal.τ).loc Cert.ProjectIdeal.main_arg2) = m ((c.tc : Thread Cert.ProjectIdeal.nD Cert.ProjectIdeal.τ).loc Cert.ProjectIdeal.main_arg2)
          ∧ r.2.mem ((c.tc : Thread Cert.ProjectIdeal.nD Cert.ProjectIdeal.τ).loc Cert.ProjectIdeal.main_arg3) = m ((c.tc : Thread Cert.ProjectIdeal.nD Cert.ProjectIdeal.τ).loc Cert.ProjectIdeal.main_arg3))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v3_0) = v0 c
          ∧ r.2.mem ((c.tc : Thread Cert.ProjectReferenceIdeal.nD Cert.ProjectReferenceIdeal.τ).loc Cert.ProjectReferenceIdeal.main_v3_1) = v1 c
          ∧ r.2.mem ((c.tc : Thread Cert.ProjectReferenceIdeal.nD Cert.ProjectReferenceIdeal.τ).loc Cert.ProjectReferenceIdeal.main_v3_2) = v2 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1)
          ∧ r.2.mem ((c.tc : Thread Cert.ProjectReferenceIdeal.nD Cert.ProjectReferenceIdeal.τ).loc Cert.ProjectReferenceIdeal.main_arg2) = m' ((c.tc : Thread Cert.ProjectReferenceIdeal.nD Cert.ProjectReferenceIdeal.τ).loc Cert.ProjectReferenceIdeal.main_arg2)
          ∧ r.2.mem ((c.tc : Thread Cert.ProjectReferenceIdeal.nD Cert.ProjectReferenceIdeal.τ).loc Cert.ProjectReferenceIdeal.main_arg3) = m' ((c.tc : Thread Cert.ProjectReferenceIdeal.nD Cert.ProjectReferenceIdeal.τ).loc Cert.ProjectReferenceIdeal.main_arg3))

def Claim : Prop :=
  ∃ (hKernel : Cert.Kernel.Facts) (hKernelIdeal : Cert.KernelIdeal.Facts) (hReferenceIdeal : Cert.ReferenceIdeal.Facts) (hProject : Cert.Project.Facts) (hProjectIdeal : Cert.ProjectIdeal.Facts) (hProjectReferenceIdeal : Cert.ProjectReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ preserves_Kernel_KernelIdeal
    ∧ algebraic_KernelIdeal_ReferenceIdeal (hKernelIdeal := hKernelIdeal) (hReferenceIdeal := hReferenceIdeal)
    ∧ preserves_Project_ProjectIdeal
    ∧ algebraic_ProjectIdeal_ProjectReferenceIdeal (hProjectIdeal := hProjectIdeal) (hProjectReferenceIdeal := hProjectReferenceIdeal)
-- ==== Kernel.lean ====
abbrev S2x128x3584 : Shape := ⟨3, ![2, 128, 3584]⟩
abbrev S2x128x7680 : Shape := ⟨3, ![2, 128, 7680]⟩
abbrev S2x128 : Shape := ⟨2, ![2, 128]⟩
abbrev S7680x3584 : Shape := ⟨2, ![7680, 3584]⟩
abbrev S3584 : Shape := ⟨1, ![3584]⟩
abbrev S256x3584 : Shape := ⟨2, ![256, 3584]⟩
abbrev S1x3584 : Shape := ⟨2, ![1, 3584]⟩
abbrev S256x7680 : Shape := ⟨2, ![256, 7680]⟩
abbrev S7x7680x512 : Shape := ⟨3, ![7, 7680, 512]⟩
abbrev S256x128 : Shape := ⟨2, ![256, 128]⟩
abbrev S_ : Shape := ⟨0, ![]⟩
abbrev S7 : Shape := ⟨1, ![7]⟩
abbrev S1 : Shape := ⟨1, ![1]⟩
abbrev S1x7680x512 : Shape := ⟨3, ![1, 7680, 512]⟩
abbrev S7680x512 : Shape := ⟨2, ![7680, 512]⟩
abbrev S1x128 : Shape := ⟨2, ![1, 128]⟩
abbrev S128x128 : Shape := ⟨2, ![128, 128]⟩
abbrev S256x512 : Shape := ⟨2, ![256, 512]⟩

abbrev nBuf : Space → Nat
  | .hbm => 9
  | .vmem => 7
  | .smem => 0
  | _ => 0

abbrev bufTy : (tb : Table) → Fin (tcTables nBuf tb) → BufTy
  | .hbm, ⟨0, _⟩ => ⟨S2x128x3584, .bf16⟩
  | .hbm, ⟨1, _⟩ => ⟨S2x128x7680, .fp8e4m3⟩
  | .hbm, ⟨2, _⟩ => ⟨S2x128, .f32⟩
  | .hbm, ⟨3, _⟩ => ⟨S7680x3584, .fp8e4m3⟩
  | .hbm, ⟨4, _⟩ => ⟨S3584, .f32⟩
  | .hbm, ⟨5, _⟩ => ⟨S256x3584, .bf16⟩
  | .hbm, ⟨6, _⟩ => ⟨S1x3584, .f32⟩
  | .hbm, ⟨7, _⟩ => ⟨S256x7680, .fp8e4m3⟩
  | .hbm, ⟨8, _⟩ => ⟨S256x3584, .bf16⟩
  | .local _ .vmem, ⟨0, _⟩ => ⟨S256x7680, .fp8e4m3⟩
  | .local _ .vmem, ⟨1, _⟩ => ⟨S2x128, .f32⟩
  | .local _ .vmem, ⟨2, _⟩ => ⟨S256x3584, .bf16⟩
  | .local _ .vmem, ⟨3, _⟩ => ⟨S1x3584, .f32⟩
  | .local _ .vmem, ⟨4, _⟩ => ⟨S7x7680x512, .fp8e4m3⟩
  | .local _ .vmem, ⟨5, _⟩ => ⟨S256x128, .f32⟩
  | .local _ .vmem, ⟨6, _⟩ => ⟨S256x3584, .bf16⟩
  | _, _ => ⟨S2x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_scratch4 : Ref sig .tc := ⟨.vmem, 6, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_mult1 : BitVec 32 :=
  let c0_i32 : BitVec 32 := 0#32
  c0_i32
def k0_mult2 : BitVec 32 :=
  let c512_i32 : BitVec 32 := 512#32
  c512_i32
def k0_mult3 : BitVec 32 :=
  let c1024_i32 : BitVec 32 := 1024#32
  c1024_i32
def k0_mult4 : BitVec 32 :=
  let c1536_i32 : BitVec 32 := 1536#32
  c1536_i32
def k0_mult5 : BitVec 32 :=
  let c2048_i32 : BitVec 32 := 2048#32
  c2048_i32
def k0_mult6 : BitVec 32 :=
  let c2560_i32 : BitVec 32 := 2560#32
  c2560_i32
def k0_mult7 : BitVec 32 :=
  let c3072_i32 : BitVec 32 := 3072#32
  c3072_i32
@[reducible] def k0_t1_loop : Scf.Loop 32 :=
  let c0_i32_34 : BitVec 32 := 0#32
  let c7_i32 : BitVec 32 := 7#32
  let v56 : BitVec 32 := Scalar.addi c0_i32_34 c7_i32
  let c1_i32_35 : BitVec 32 := 1#32
  ⟨c0_i32_34, v56, c1_i32_35⟩
def k0_mult8 (k0_t1 : Fin k0_t1_loop.trips) : BitVec 32 :=
  let c0_i32_38 : BitVec 32 := 0#32
  let c0_i32_34 : BitVec 32 := 0#32
  let c1_i32_35 : BitVec 32 := 1#32
  let arg15 : BitVec 32 := Scf.iv c0_i32_34 c1_i32_35 k0_t1
  let c1_i32_37 : BitVec 32 := 1#32
  let v57 : BitVec 32 := Scalar.muli arg15 c1_i32_37
  let v58 : BitVec 32 := Scalar.addi c0_i32_38 v57
  let c512_i32_39 : BitVec 32 := 512#32
  let v59 : BitVec 32 := Scalar.muli v58 c512_i32_39
  v59
def k0_off1 (k0_t1 : Fin k0_t1_loop.trips) : Fin 1 → Nat :=
  let c0_i32_38 : BitVec 32 := 0#32
  let c0_i32_34 : BitVec 32 := 0#32
  let c1_i32_35 : BitVec 32 := 1#32
  let arg15 : BitVec 32 := Scf.iv c0_i32_34 c1_i32_35 k0_t1
  let c1_i32_37 : BitVec 32 := 1#32
  let v57 : BitVec 32 := Scalar.muli arg15 c1_i32_37
  let v58 : BitVec 32 := Scalar.addi c0_i32_38 v57
  ![v58.toNat]
def k0_off2 (k0_t1 : Fin k0_t1_loop.trips) : Fin 3 → Nat :=
  let c0_i32_38 : BitVec 32 := 0#32
  let c0_i32_34 : BitVec 32 := 0#32
  let c1_i32_35 : BitVec 32 := 1#32
  let arg15 : BitVec 32 := Scf.iv c0_i32_34 c1_i32_35 k0_t1
  let c1_i32_37 : BitVec 32 := 1#32
  let v57 : BitVec 32 := Scalar.muli arg15 c1_i32_37
  let v58 : BitVec 32 := Scalar.addi c0_i32_38 v57
  let c0_i32_40 : BitVec 32 := 0#32
  let c0_i32_41 : BitVec 32 := 0#32
  ![v58.toNat, 0, 0]
def k0_off3 (k0_t1 : Fin k0_t1_loop.trips) : Fin 2 → Nat :=
  let c0_i32_42 : BitVec 32 := 0#32
  let c0_i32_38 : BitVec 32 := 0#32
  let c0_i32_34 : BitVec 32 := 0#32
  let c1_i32_35 : BitVec 32 := 1#32
  let arg15 : BitVec 32 := Scf.iv c0_i32_34 c1_i32_35 k0_t1
  let c1_i32_37 : BitVec 32 := 1#32
  let v57 : BitVec 32 := Scalar.muli arg15 c1_i32_37
  let v58 : BitVec 32 := Scalar.addi c0_i32_38 v57
  let c512_i32_39 : BitVec 32 := 512#32
  let v59 : BitVec 32 := Scalar.muli v58 c512_i32_39
  let v60 : BitVec 32 := v59
  ![0, v60.toNat]
def k0_mult9 (k0_t1 : Fin k0_t1_loop.trips) : BitVec 32 :=
  let c0_i32_38 : BitVec 32 := 0#32
  let c0_i32_34 : BitVec 32 := 0#32
  let c1_i32_35 : BitVec 32 := 1#32
  let arg15 : BitVec 32 := Scf.iv c0_i32_34 c1_i32_35 k0_t1
  let c1_i32_37 : BitVec 32 := 1#32
  let v57 : BitVec 32 := Scalar.muli arg15 c1_i32_37
  let v58 : BitVec 32 := Scalar.addi c0_i32_38 v57
  let c512_i32_43 : BitVec 32 := 512#32
  let v66 : BitVec 32 := Scalar.muli v58 c512_i32_43
  v66
def k0_off4 (k0_t1 : Fin k0_t1_loop.trips) : Fin 3 → Nat :=
  let c0_i32_38 : BitVec 32 := 0#32
  let c0_i32_34 : BitVec 32 := 0#32
  let c1_i32_35 : BitVec 32 := 1#32
  let arg15 : BitVec 32 := Scf.iv c0_i32_34 c1_i32_35 k0_t1
  let c1_i32_37 : BitVec 32 := 1#32
  let v57 : BitVec 32 := Scalar.muli arg15 c1_i32_37
  let v58 : BitVec 32 := Scalar.addi c0_i32_38 v57
  let v70 : Index := Scalar.indexCast v58
  let c0_46 : Index := 0#32
  let c0_47 : Index := 0#32
  ![v70.toNat, 0, 0]
def k0_off5 (k0_t1 : Fin k0_t1_loop.trips) (c0_i32_50 : BitVec 32) : Fin 2 → Nat :=
  let c0_51 : Index := 0#32
  let c0_i32_38 : BitVec 32 := 0#32
  let c0_i32_34 : BitVec 32 := 0#32
  let c1_i32_35 : BitVec 32 := 1#32
  let arg15 : BitVec 32 := Scf.iv c0_i32_34 c1_i32_35 k0_t1
  let c1_i32_37 : BitVec 32 := 1#32
  let v57 : BitVec 32 := Scalar.muli arg15 c1_i32_37
  let v58 : BitVec 32 := Scalar.addi c0_i32_38 v57
  let c512_i32_43 : BitVec 32 := 512#32
  let v66 : BitVec 32 := Scalar.muli v58 c512_i32_43
  let v67 : BitVec 32 := v66
  let v75 : BitVec 32 := Scalar.addi v67 c0_i32_50
  let v78 : Index := Scalar.indexCast v75
  ![0, v78.toNat]
def k0_off6 (k0_t1 : Fin k0_t1_loop.trips) (c0_i32_50 : BitVec 32) : Fin 2 → Nat :=
  let c0_52 : Index := 0#32
  let c0_i32_38 : BitVec 32 := 0#32
  let c0_i32_34 : BitVec 32 := 0#32
  let c1_i32_35 : BitVec 32 := 1#32
  let arg15 : BitVec 32 := Scf.iv c0_i32_34 c1_i32_35 k0_t1
  let c1_i32_37 : BitVec 32 := 1#32
  let v57 : BitVec 32 := Scalar.muli arg15 c1_i32_37
  let v58 : BitVec 32 := Scalar.addi c0_i32_38 v57
  let c512_i32_43 : BitVec 32 := 512#32
  let v66 : BitVec 32 := Scalar.muli v58 c512_i32_43
  let v67 : BitVec 32 := v66
  let v75 : BitVec 32 := Scalar.addi v67 c0_i32_50
  let v82 : Index := Scalar.indexCast v75
  ![0, v82.toNat]
abbrev stage0_0 : Fin 1 → Memref sig .tc .vmem S256x7680 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S2x128x3584 : Shape := ⟨3, ![2, 128, 3584]⟩
abbrev S2x128x7680 : Shape := ⟨3, ![2, 128, 7680]⟩
abbrev S2x128 : Shape := ⟨2, ![2, 128]⟩
abbrev S7680x3584 : Shape := ⟨2, ![7680, 3584]⟩
abbrev S3584 : Shape := ⟨1, ![3584]⟩
abbrev S256x3584 : Shape := ⟨2, ![256, 3584]⟩
abbrev S256x7680 : Shape := ⟨2, ![256, 7680]⟩
abbrev S256x1 : Shape := ⟨2, ![256, 1]⟩
abbrev S1x3584 : Shape := ⟨2, ![1, 3584]⟩

abbrev nBuf : Space → Nat
  | .hbm => 10
  | .vmem => 6
  | .smem => 0
  | _ => 0

abbrev bufTy : (tb : Table) → Fin (tcTables nBuf tb) → BufTy
  | .hbm, ⟨0, _⟩ => ⟨S2x128x3584, .bf16⟩
  | .hbm, ⟨1, _⟩ => ⟨S2x128x7680, .fp8e4m3⟩
  | .hbm, ⟨2, _⟩ => ⟨S2x128, .f32⟩
  | .hbm, ⟨3, _⟩ => ⟨S7680x3584, .fp8e4m3⟩
  | .hbm, ⟨4, _⟩ => ⟨S3584, .f32⟩
  | .hbm, ⟨5, _⟩ => ⟨S256x3584, .bf16⟩
  | .hbm, ⟨6, _⟩ => ⟨S256x7680, .fp8e4m3⟩
  | .hbm, ⟨7, _⟩ => ⟨S256x1, .f32⟩
  | .hbm, ⟨8, _⟩ => ⟨S1x3584, .f32⟩
  | .hbm, ⟨9, _⟩ => ⟨S256x3584, .bf16⟩
  | .local _ .vmem, ⟨0, _⟩ => ⟨S256x3584, .bf16⟩
  | .local _ .vmem, ⟨1, _⟩ => ⟨S256x7680, .fp8e4m3⟩
  | .local _ .vmem, ⟨2, _⟩ => ⟨S256x1, .f32⟩
  | .local _ .vmem, ⟨3, _⟩ => ⟨S7680x3584, .fp8e4m3⟩
  | .local _ .vmem, ⟨4, _⟩ => ⟨S1x3584, .f32⟩
  | .local _ .vmem, ⟨5, _⟩ => ⟨S256x3584, .bf16⟩
  | _, _ => ⟨S2x128x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S256x3584 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x7680 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7680x3584 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x3584 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x3584 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Project.lean ====
abbrev S2x128x3584 : Shape := ⟨3, ![2, 128, 3584]⟩
abbrev S2x128 : Shape := ⟨2, ![2, 128]⟩
abbrev S3584x16464 : Shape := ⟨2, ![3584, 16464]⟩
abbrev S16464 : Shape := ⟨1, ![16464]⟩
abbrev S16464x3584 : Shape := ⟨2, ![16464, 3584]⟩
abbrev S2058x8x28x128 : Shape := ⟨4, ![2058, 8, 28, 128]⟩
abbrev S2058x28x8x128 : Shape := ⟨4, ![2058, 28, 8, 128]⟩
abbrev S256x3584 : Shape := ⟨2, ![256, 3584]⟩
abbrev S256x1 : Shape := ⟨2, ![256, 1]⟩
abbrev S256x128 : Shape := ⟨2, ![256, 128]⟩
abbrev S1x16464 : Shape := ⟨2, ![1, 16464]⟩
abbrev S2x7680x128 : Shape := ⟨3, ![2, 7680, 128]⟩
abbrev S3x2x8704 : Shape := ⟨3, ![3, 2, 8704]⟩
abbrev S2x96x29x8x128 : Shape := ⟨5, ![2, 96, 29, 8, 128]⟩
abbrev S2x8x128 : Shape := ⟨3, ![2, 8, 128]⟩
abbrev S2x2x768x128 : Shape := ⟨4, ![2, 2, 768, 128]⟩
abbrev S2x1152x128 : Shape := ⟨3, ![2, 1152, 128]⟩
abbrev S_ : Shape := ⟨0, ![]⟩
abbrev S2 : Shape := ⟨1, ![2]⟩
abbrev S1 : Shape := ⟨1, ![1]⟩
abbrev S1x96x28x8x128 : Shape := ⟨5, ![1, 96, 28, 8, 128]⟩
abbrev S96x28x8x128 : Shape := ⟨4, ![96, 28, 8, 128]⟩
abbrev S1x32x28x8x128 : Shape := ⟨5, ![1, 32, 28, 8, 128]⟩
abbrev S32x28x8x128 : Shape := ⟨4, ![32, 28, 8, 128]⟩
abbrev S1x10x28x8x128 : Shape := ⟨5, ![1, 10, 28, 8, 128]⟩
abbrev S10x28x8x128 : Shape := ⟨4, ![10, 28, 8, 128]⟩
abbrev S128x128 : Shape := ⟨2, ![128, 128]⟩
abbrev S8x128 : Shape := ⟨2, ![8, 128]⟩
abbrev S1x8x128 : Shape := ⟨3, ![1, 8, 128]⟩
abbrev S6x28x8x128 : Shape := ⟨4, ![6, 28, 8, 128]⟩
abbrev S1x6x28x8x128 : Shape := ⟨5, ![1, 6, 28, 8, 128]⟩
abbrev S12x8x28x2x4x128 : Shape := ⟨6, ![12, 8, 28, 2, 4, 128]⟩
abbrev S12x2x8x4x28x128 : Shape := ⟨6, ![12, 2, 8, 4, 28, 128]⟩
abbrev S768x3584 : Shape := ⟨2, ![768, 3584]⟩
abbrev S768x256 : Shape := ⟨2, ![768, 256]⟩
abbrev S1x48x28x8x128 : Shape := ⟨5, ![1, 48, 28, 8, 128]⟩
abbrev S48x28x8x128 : Shape := ⟨4, ![48, 28, 8, 128]⟩
abbrev S6x8x28x2x4x128 : Shape := ⟨6, ![6, 8, 28, 2, 4, 128]⟩
abbrev S6x2x8x4x28x128 : Shape := ⟨6, ![6, 2, 8, 4, 28, 128]⟩
abbrev S384x3584 : Shape := ⟨2, ![384, 3584]⟩
abbrev S384x256 : Shape := ⟨2, ![384, 256]⟩
abbrev S1x128x128 : Shape := ⟨3, ![1, 128, 128]⟩
abbrev S1x128 : Shape := ⟨2, ![1, 128]⟩
abbrev S1x1x128 : Shape := ⟨3, ![1, 1, 128]⟩
abbrev S1x2x768x128 : Shape := ⟨4, ![1, 2, 768, 128]⟩
abbrev S2x768x128 : Shape := ⟨3, ![2, 768, 128]⟩
abbrev S1x1x128x128 : Shape := ⟨4, ![1, 1, 128, 128]⟩
abbrev S1x2x384x128 : Shape := ⟨4, ![1, 2, 384, 128]⟩
abbrev S2x384x128 : Shape := ⟨3, ![2, 384, 128]⟩

abbrev nBuf : Space → Nat
  | .hbm => 14
  | .vmem => 10
  | .smem => 0
  | _ => 0

abbrev bufTy : (tb : Table) → Fin (tcTables nBuf tb) → BufTy
  | .hbm, ⟨0, _⟩ => ⟨S2x128x3584, .fp8e4m3⟩
  | .hbm, ⟨1, _⟩ => ⟨S2x128, .f32⟩
  | .hbm, ⟨2, _⟩ => ⟨S3584x16464, .fp8e4m3⟩
  | .hbm, ⟨3, _⟩ => ⟨S16464, .f32⟩
  | .hbm, ⟨4, _⟩ => ⟨S16464x3584, .fp8e4m3⟩
  | .hbm, ⟨5, _⟩ => ⟨S2058x8x28x128, .fp8e4m3⟩
  | .hbm, ⟨6, _⟩ => ⟨S2058x28x8x128, .fp8e4m3⟩
  | .hbm, ⟨7, _⟩ => ⟨S256x3584, .fp8e4m3⟩
  | .hbm, ⟨8, _⟩ => ⟨S256x1, .f32⟩
  | .hbm, ⟨9, _⟩ => ⟨S256x128, .f32⟩
  | .hbm, ⟨10, _⟩ => ⟨S1x16464, .f32⟩
  | .hbm, ⟨11, _⟩ => ⟨S2x7680x128, .f32⟩
  | .hbm, ⟨12, _⟩ => ⟨S2x7680x128, .f32⟩
  | .hbm, ⟨13, _⟩ => ⟨S3x2x8704, .f32⟩
  | .local _ .vmem, ⟨0, _⟩ => ⟨S256x3584, .fp8e4m3⟩
  | .local _ .vmem, ⟨1, _⟩ => ⟨S256x128, .f32⟩
  | .local _ .vmem, ⟨2, _⟩ => ⟨S2x7680x128, .f32⟩
  | .local _ .vmem, ⟨3, _⟩ => ⟨S2x7680x128, .f32⟩
  | .local _ .vmem, ⟨4, _⟩ => ⟨S2x96x29x8x128, .fp8e4m3⟩
  | .local _ .vmem, ⟨5, _⟩ => ⟨S2x8x128, .f32⟩
  | .local _ .vmem, ⟨6, _⟩ => ⟨S2x2x768x128, .f32⟩
  | .local _ .vmem, ⟨7, _⟩ => ⟨S2x1152x128, .f32⟩
  | .local _ .vmem, ⟨8, _⟩ => ⟨S1x16464, .f32⟩
  | .local _ .vmem, ⟨9, _⟩ => ⟨S3x2x8704, .f32⟩
  | _, _ => ⟨S2x128x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_mult1 : BitVec 32 :=
  let c960_i32 : BitVec 32 := 960#32
  c960_i32
def k0_mult2 : BitVec 32 :=
  let c0_i32_734 : BitVec 32 := 0#32
  c0_i32_734
def k0_mult3 : BitVec 32 :=
  let c1008_i32 : BitVec 32 := 1008#32
  c1008_i32
def k0_mult4 : BitVec 32 :=
  let c48_i32_1124 : BitVec 32 := 48#32
  c48_i32_1124
def k0_mult5 : BitVec 32 :=
  let c960_i32_1350 : BitVec 32 := 960#32
  c960_i32_1350
def k0_mult6 : BitVec 32 :=
  let c0_i32_1351 : BitVec 32 := 0#32
  c0_i32_1351
def k0_mult7 : BitVec 32 :=
  let c1056_i32 : BitVec 32 := 1056#32
  c1056_i32
def k0_mult8 : BitVec 32 :=
  let c96_i32 : BitVec 32 := 96#32
  c96_i32
@[reducible] def k0_t1_loop : Scf.Loop 32 :=
  let c0_i32_2940 : BitVec 32 := 0#32
  let c20_i32 : BitVec 32 := 20#32
  let v4182 : BitVec 32 := Scalar.addi c0_i32_2940 c20_i32
  let c1_i32_2941 : BitVec 32 := 1#32
  ⟨c0_i32_2940, v4182, c1_i32_2941⟩
def k0_cond1 (k0_t1 : Fin k0_t1_loop.trips) : BitVec 1 :=
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c1_i32_2951 : BitVec 32 := 1#32
  let v4196 : BitVec 32 := Scalar.addi v4184 c1_i32_2951
  let c20_i32_2952 : BitVec 32 := 20#32
  let v4197 : BitVec 1 := Scalar.cmpi .slt v4196 c20_i32_2952
  let v4198 : BitVec 32 := Scalar.extui v4197
  let c0_i32_2953 : BitVec 32 := 0#32
  let v4199 : BitVec 1 := Scalar.cmpi .ne v4198 c0_i32_2953
  v4199

def k0_mult9 (k0_t1 : Fin k0_t1_loop.trips) : BitVec 32 :=
  let c960_i32_3040 : BitVec 32 := 960#32
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c1_i32_3038 : BitVec 32 := 1#32
  let v4370 : BitVec 32 := Scalar.addi v4184 c1_i32_3038
  let c48_i32_3039 : BitVec 32 := 48#32
  let v4371 : BitVec 32 := Scalar.muli v4370 c48_i32_3039
  let v4372 : BitVec 32 := Scalar.addi c960_i32_3040 v4371
  v4372
def k0_mult10 (k0_t1 : Fin k0_t1_loop.trips) : BitVec 32 :=
  let c0_i32_3042 : BitVec 32 := 0#32
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c1_i32_3038 : BitVec 32 := 1#32
  let v4370 : BitVec 32 := Scalar.addi v4184 c1_i32_3038
  let c48_i32_3041 : BitVec 32 := 48#32
  let v4374 : BitVec 32 := Scalar.muli v4370 c48_i32_3041
  let v4375 : BitVec 32 := Scalar.addi c0_i32_3042 v4374
  v4375
def k0_off1 (k0_t1 : Fin k0_t1_loop.trips) : Fin 1 → Nat :=
  let c1_i32_2950 : BitVec 32 := 1#32
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c2_i32 : BitVec 32 := 2#32
  let c0_i32_2945 : BitVec 32 := 0#32
  let v4185 : BitVec 1 := Scalar.cmpi .eq c2_i32 c0_i32_2945
  let c1_i32_2946 : BitVec 32 := 1#32
  let v4186 : BitVec 32 := Scalar.select v4185 c1_i32_2946 c2_i32
  let v4187 : BitVec 32 := Scalar.remsi v4184 v4186
  let c0_i32_2948 : BitVec 32 := 0#32
  let v4189 : BitVec 1 := Scalar.cmpi .slt v4187 c0_i32_2948
  let c0_i32_2949 : BitVec 32 := 0#32
  let v4190 : BitVec 1 := Scalar.cmpi .slt v4186 c0_i32_2949
  let v4191 : BitVec 1 := Scalar.xori v4189 v4190
  let c0_i32_2947 : BitVec 32 := 0#32
  let v4188 : BitVec 1 := Scalar.cmpi .ne v4187 c0_i32_2947
  let v4192 : BitVec 1 := Scalar.andi v4191 v4188
  let v4193 : BitVec 32 := Scalar.addi v4187 v4186
  let v4194 : BitVec 32 := Scalar.select v4192 v4193 v4187
  let v4195 : BitVec 32 := Scalar.subi c1_i32_2950 v4194
  ![v4195.toNat]
def k0_off2 (k0_t1 : Fin k0_t1_loop.trips) : Fin 5 → Nat :=
  let c1_i32_2950 : BitVec 32 := 1#32
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c2_i32 : BitVec 32 := 2#32
  let c0_i32_2945 : BitVec 32 := 0#32
  let v4185 : BitVec 1 := Scalar.cmpi .eq c2_i32 c0_i32_2945
  let c1_i32_2946 : BitVec 32 := 1#32
  let v4186 : BitVec 32 := Scalar.select v4185 c1_i32_2946 c2_i32
  let v4187 : BitVec 32 := Scalar.remsi v4184 v4186
  let c0_i32_2948 : BitVec 32 := 0#32
  let v4189 : BitVec 1 := Scalar.cmpi .slt v4187 c0_i32_2948
  let c0_i32_2949 : BitVec 32 := 0#32
  let v4190 : BitVec 1 := Scalar.cmpi .slt v4186 c0_i32_2949
  let v4191 : BitVec 1 := Scalar.xori v4189 v4190
  let c0_i32_2947 : BitVec 32 := 0#32
  let v4188 : BitVec 1 := Scalar.cmpi .ne v4187 c0_i32_2947
  let v4192 : BitVec 1 := Scalar.andi v4191 v4188
  let v4193 : BitVec 32 := Scalar.addi v4187 v4186
  let v4194 : BitVec 32 := Scalar.select v4192 v4193 v4187
  let v4195 : BitVec 32 := Scalar.subi c1_i32_2950 v4194
  let c0_i32_3043 : BitVec 32 := 0#32
  let c0_i32_3044 : BitVec 32 := 0#32
  let c0_i32_3045 : BitVec 32 := 0#32
  let c0_i32_3046 : BitVec 32 := 0#32
  ![v4195.toNat, 0, 0, 0, 0]
def k0_off3 (k0_t1 : Fin k0_t1_loop.trips) (c960_i32_3040 : BitVec 32) : Fin 4 → Nat :=
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c1_i32_3038 : BitVec 32 := 1#32
  let v4370 : BitVec 32 := Scalar.addi v4184 c1_i32_3038
  let c48_i32_3039 : BitVec 32 := 48#32
  let v4371 : BitVec 32 := Scalar.muli v4370 c48_i32_3039
  let v4372 : BitVec 32 := Scalar.addi c960_i32_3040 v4371
  let v4373 : BitVec 32 := v4372
  let c0_i32_3047 : BitVec 32 := 0#32
  let c0_i32_3048 : BitVec 32 := 0#32
  let c0_i32_3049 : BitVec 32 := 0#32
  ![v4373.toNat, 0, 0, 0]
def k0_off4 (k0_t1 : Fin k0_t1_loop.trips) : Fin 5 → Nat :=
  let c1_i32_2950 : BitVec 32 := 1#32
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c2_i32 : BitVec 32 := 2#32
  let c0_i32_2945 : BitVec 32 := 0#32
  let v4185 : BitVec 1 := Scalar.cmpi .eq c2_i32 c0_i32_2945
  let c1_i32_2946 : BitVec 32 := 1#32
  let v4186 : BitVec 32 := Scalar.select v4185 c1_i32_2946 c2_i32
  let v4187 : BitVec 32 := Scalar.remsi v4184 v4186
  let c0_i32_2948 : BitVec 32 := 0#32
  let v4189 : BitVec 1 := Scalar.cmpi .slt v4187 c0_i32_2948
  let c0_i32_2949 : BitVec 32 := 0#32
  let v4190 : BitVec 1 := Scalar.cmpi .slt v4186 c0_i32_2949
  let v4191 : BitVec 1 := Scalar.xori v4189 v4190
  let c0_i32_2947 : BitVec 32 := 0#32
  let v4188 : BitVec 1 := Scalar.cmpi .ne v4187 c0_i32_2947
  let v4192 : BitVec 1 := Scalar.andi v4191 v4188
  let v4193 : BitVec 32 := Scalar.addi v4187 v4186
  let v4194 : BitVec 32 := Scalar.select v4192 v4193 v4187
  let v4195 : BitVec 32 := Scalar.subi c1_i32_2950 v4194
  let c48_i32_3050 : BitVec 32 := 48#32
  let c0_i32_3051 : BitVec 32 := 0#32
  let c0_i32_3052 : BitVec 32 := 0#32
  let c0_i32_3053 : BitVec 32 := 0#32
  ![v4195.toNat, 48, 0, 0, 0]
def k0_cond2 (k0_t1 : Fin k0_t1_loop.trips) : BitVec 1 :=
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c1_i32_2954 : BitVec 32 := 1#32
  let v4200 : BitVec 32 := Scalar.addi v4184 c1_i32_2954
  let c20_i32_2955 : BitVec 32 := 20#32
  let v4201 : BitVec 1 := Scalar.cmpi .slt v4200 c20_i32_2955
  let v4202 : BitVec 32 := Scalar.extui v4201
  let c0_i32_2956 : BitVec 32 := 0#32
  let v4203 : BitVec 1 := Scalar.cmpi .ne v4202 c0_i32_2956
  v4203

def k0_off5 (k0_t1 : Fin k0_t1_loop.trips) : Fin 5 → Nat :=
  let c1_i32_2950 : BitVec 32 := 1#32
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c2_i32 : BitVec 32 := 2#32
  let c0_i32_2945 : BitVec 32 := 0#32
  let v4185 : BitVec 1 := Scalar.cmpi .eq c2_i32 c0_i32_2945
  let c1_i32_2946 : BitVec 32 := 1#32
  let v4186 : BitVec 32 := Scalar.select v4185 c1_i32_2946 c2_i32
  let v4187 : BitVec 32 := Scalar.remsi v4184 v4186
  let c0_i32_2948 : BitVec 32 := 0#32
  let v4189 : BitVec 1 := Scalar.cmpi .slt v4187 c0_i32_2948
  let c0_i32_2949 : BitVec 32 := 0#32
  let v4190 : BitVec 1 := Scalar.cmpi .slt v4186 c0_i32_2949
  let v4191 : BitVec 1 := Scalar.xori v4189 v4190
  let c0_i32_2947 : BitVec 32 := 0#32
  let v4188 : BitVec 1 := Scalar.cmpi .ne v4187 c0_i32_2947
  let v4192 : BitVec 1 := Scalar.andi v4191 v4188
  let v4193 : BitVec 32 := Scalar.addi v4187 v4186
  let v4194 : BitVec 32 := Scalar.select v4192 v4193 v4187
  let v4195 : BitVec 32 := Scalar.subi c1_i32_2950 v4194
  let v4370 : Index := Scalar.indexCast v4195
  let c0_3038 : Index := 0#32
  let c0_3039 : Index := 0#32
  let c0_3040 : Index := 0#32
  let c0_3041 : Index := 0#32
  ![v4370.toNat, 0, 0, 0, 0]
def k0_off6 (k0_t1 : Fin k0_t1_loop.trips) : Fin 4 → Nat :=
  let c1_i32_2950 : BitVec 32 := 1#32
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c2_i32 : BitVec 32 := 2#32
  let c0_i32_2945 : BitVec 32 := 0#32
  let v4185 : BitVec 1 := Scalar.cmpi .eq c2_i32 c0_i32_2945
  let c1_i32_2946 : BitVec 32 := 1#32
  let v4186 : BitVec 32 := Scalar.select v4185 c1_i32_2946 c2_i32
  let v4187 : BitVec 32 := Scalar.remsi v4184 v4186
  let c0_i32_2948 : BitVec 32 := 0#32
  let v4189 : BitVec 1 := Scalar.cmpi .slt v4187 c0_i32_2948
  let c0_i32_2949 : BitVec 32 := 0#32
  let v4190 : BitVec 1 := Scalar.cmpi .slt v4186 c0_i32_2949
  let v4191 : BitVec 1 := Scalar.xori v4189 v4190
  let c0_i32_2947 : BitVec 32 := 0#32
  let v4188 : BitVec 1 := Scalar.cmpi .ne v4187 c0_i32_2947
  let v4192 : BitVec 1 := Scalar.andi v4191 v4188
  let v4193 : BitVec 32 := Scalar.addi v4187 v4186
  let v4194 : BitVec 32 := Scalar.select v4192 v4193 v4187
  let v4195 : BitVec 32 := Scalar.subi c1_i32_2950 v4194
  let c0_i32_3050 : BitVec 32 := 0#32
  let c0_i32_3051 : BitVec 32 := 0#32
  let c0_i32_3052 : BitVec 32 := 0#32
  ![v4195.toNat, 0, 0, 0]
def k0_mult11 (k0_t1 : Fin k0_t1_loop.trips) : BitVec 32 :=
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c384_i32 : BitVec 32 := 384#32
  let v4204 : BitVec 32 := Scalar.muli v4184 c384_i32
  v4204
def k0_off7 (k0_t1 : Fin k0_t1_loop.trips) : Fin 4 → Nat :=
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c2_i32 : BitVec 32 := 2#32
  let c0_i32_2945 : BitVec 32 := 0#32
  let v4185 : BitVec 1 := Scalar.cmpi .eq c2_i32 c0_i32_2945
  let c1_i32_2946 : BitVec 32 := 1#32
  let v4186 : BitVec 32 := Scalar.select v4185 c1_i32_2946 c2_i32
  let v4187 : BitVec 32 := Scalar.remsi v4184 v4186
  let c0_i32_2948 : BitVec 32 := 0#32
  let v4189 : BitVec 1 := Scalar.cmpi .slt v4187 c0_i32_2948
  let c0_i32_2949 : BitVec 32 := 0#32
  let v4190 : BitVec 1 := Scalar.cmpi .slt v4186 c0_i32_2949
  let v4191 : BitVec 1 := Scalar.xori v4189 v4190
  let c0_i32_2947 : BitVec 32 := 0#32
  let v4188 : BitVec 1 := Scalar.cmpi .ne v4187 c0_i32_2947
  let v4192 : BitVec 1 := Scalar.andi v4191 v4188
  let v4193 : BitVec 32 := Scalar.addi v4187 v4186
  let v4194 : BitVec 32 := Scalar.select v4192 v4193 v4187
  let v4206 : Index := Scalar.indexCast v4194
  let c0_2957 : Index := 0#32
  let c0_2958 : Index := 0#32
  let c0_2959 : Index := 0#32
  ![v4206.toNat, 0, 0, 0]
def k0_off8 (k0_t1 : Fin k0_t1_loop.trips) (c0_i32_2960 : BitVec 32) : Fin 2 → Nat :=
  let c0_2961 : Index := 0#32
  let c7680_i32 : BitVec 32 := 7680#32
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c384_i32 : BitVec 32 := 384#32
  let v4204 : BitVec 32 := Scalar.muli v4184 c384_i32
  let v4205 : BitVec 32 := v4204
  let v4209 : BitVec 32 := Scalar.addi v4205 c0_i32_2960
  let v4211 : BitVec 32 := Scalar.addi c7680_i32 v4209
  let v4212 : Index := Scalar.indexCast v4211
  ![0, v4212.toNat]
def k0_off9 (k0_t1 : Fin k0_t1_loop.trips) (c0_i32_2960 : BitVec 32) : Fin 3 → Nat :=
  let c0_2962 : Index := 0#32
  let c0_2963 : Index := 0#32
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c384_i32 : BitVec 32 := 384#32
  let v4204 : BitVec 32 := Scalar.muli v4184 c384_i32
  let v4205 : BitVec 32 := v4204
  let v4209 : BitVec 32 := Scalar.addi v4205 c0_i32_2960
  let v4217 : Index := Scalar.indexCast v4209
  ![0, 0, v4217.toNat]
def k0_off10 (k0_t1 : Fin k0_t1_loop.trips) (c0_i32_2960 : BitVec 32) : Fin 3 → Nat :=
  let c1_2964 : Index := 1#32
  let c0_2965 : Index := 0#32
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c384_i32 : BitVec 32 := 384#32
  let v4204 : BitVec 32 := Scalar.muli v4184 c384_i32
  let v4205 : BitVec 32 := v4204
  let v4209 : BitVec 32 := Scalar.addi v4205 c0_i32_2960
  let v4222 : Index := Scalar.indexCast v4209
  ![1, 0, v4222.toNat]
def k0_off11 (k0_t1 : Fin k0_t1_loop.trips) (c0_i32_2960 : BitVec 32) : Fin 3 → Nat :=
  let c2_2966 : Index := 2#32
  let c0_2967 : Index := 0#32
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c384_i32 : BitVec 32 := 384#32
  let v4204 : BitVec 32 := Scalar.muli v4184 c384_i32
  let v4205 : BitVec 32 := v4204
  let v4209 : BitVec 32 := Scalar.addi v4205 c0_i32_2960
  let v4227 : Index := Scalar.indexCast v4209
  ![2, 0, v4227.toNat]
def k0_off12 (k0_t1 : Fin k0_t1_loop.trips) : Fin 4 → Nat :=
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c2_i32 : BitVec 32 := 2#32
  let c0_i32_2945 : BitVec 32 := 0#32
  let v4185 : BitVec 1 := Scalar.cmpi .eq c2_i32 c0_i32_2945
  let c1_i32_2946 : BitVec 32 := 1#32
  let v4186 : BitVec 32 := Scalar.select v4185 c1_i32_2946 c2_i32
  let v4187 : BitVec 32 := Scalar.remsi v4184 v4186
  let c0_i32_2948 : BitVec 32 := 0#32
  let v4189 : BitVec 1 := Scalar.cmpi .slt v4187 c0_i32_2948
  let c0_i32_2949 : BitVec 32 := 0#32
  let v4190 : BitVec 1 := Scalar.cmpi .slt v4186 c0_i32_2949
  let v4191 : BitVec 1 := Scalar.xori v4189 v4190
  let c0_i32_2947 : BitVec 32 := 0#32
  let v4188 : BitVec 1 := Scalar.cmpi .ne v4187 c0_i32_2947
  let v4192 : BitVec 1 := Scalar.andi v4191 v4188
  let v4193 : BitVec 32 := Scalar.addi v4187 v4186
  let v4194 : BitVec 32 := Scalar.select v4192 v4193 v4187
  let v4231 : Index := Scalar.indexCast v4194
  let c0_2968 : Index := 0#32
  let c128_2969 : Index := 128#32
  let c0_2970 : Index := 0#32
  ![v4231.toNat, 0, 128, 0]
def k0_off13 (k0_t1 : Fin k0_t1_loop.trips) : Fin 4 → Nat :=
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c2_i32 : BitVec 32 := 2#32
  let c0_i32_2945 : BitVec 32 := 0#32
  let v4185 : BitVec 1 := Scalar.cmpi .eq c2_i32 c0_i32_2945
  let c1_i32_2946 : BitVec 32 := 1#32
  let v4186 : BitVec 32 := Scalar.select v4185 c1_i32_2946 c2_i32
  let v4187 : BitVec 32 := Scalar.remsi v4184 v4186
  let c0_i32_2948 : BitVec 32 := 0#32
  let v4189 : BitVec 1 := Scalar.cmpi .slt v4187 c0_i32_2948
  let c0_i32_2949 : BitVec 32 := 0#32
  let v4190 : BitVec 1 := Scalar.cmpi .slt v4186 c0_i32_2949
  let v4191 : BitVec 1 := Scalar.xori v4189 v4190
  let c0_i32_2947 : BitVec 32 := 0#32
  let v4188 : BitVec 1 := Scalar.cmpi .ne v4187 c0_i32_2947
  let v4192 : BitVec 1 := Scalar.andi v4191 v4188
  let v4193 : BitVec 32 := Scalar.addi v4187 v4186
  let v4194 : BitVec 32 := Scalar.select v4192 v4193 v4187
  let v4256 : Index := Scalar.indexCast v4194
  let c0_2979 : Index := 0#32
  let c256_2980 : Index := 256#32
  let c0_2981 : Index := 0#32
  ![v4256.toNat, 0, 256, 0]
def k0_off14 (k0_t1 : Fin k0_t1_loop.trips) : Fin 4 → Nat :=
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c2_i32 : BitVec 32 := 2#32
  let c0_i32_2945 : BitVec 32 := 0#32
  let v4185 : BitVec 1 := Scalar.cmpi .eq c2_i32 c0_i32_2945
  let c1_i32_2946 : BitVec 32 := 1#32
  let v4186 : BitVec 32 := Scalar.select v4185 c1_i32_2946 c2_i32
  let v4187 : BitVec 32 := Scalar.remsi v4184 v4186
  let c0_i32_2948 : BitVec 32 := 0#32
  let v4189 : BitVec 1 := Scalar.cmpi .slt v4187 c0_i32_2948
  let c0_i32_2949 : BitVec 32 := 0#32
  let v4190 : BitVec 1 := Scalar.cmpi .slt v4186 c0_i32_2949
  let v4191 : BitVec 1 := Scalar.xori v4189 v4190
  let c0_i32_2947 : BitVec 32 := 0#32
  let v4188 : BitVec 1 := Scalar.cmpi .ne v4187 c0_i32_2947
  let v4192 : BitVec 1 := Scalar.andi v4191 v4188
  let v4193 : BitVec 32 := Scalar.addi v4187 v4186
  let v4194 : BitVec 32 := Scalar.select v4192 v4193 v4187
  let v4281 : Index := Scalar.indexCast v4194
  let c1_2990 : Index := 1#32
  let c0_2991 : Index := 0#32
  let c0_2992 : Index := 0#32
  ![v4281.toNat, 1, 0, 0]
def k0_off15 (k0_t1 : Fin k0_t1_loop.trips) (c0_i32_2993 : BitVec 32) : Fin 3 → Nat :=
  let c0_2996 : Index := 0#32
  let c1_2997 : Index := 1#32
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c384_i32 : BitVec 32 := 384#32
  let v4204 : BitVec 32 := Scalar.muli v4184 c384_i32
  let v4205 : BitVec 32 := v4204
  let v4284 : BitVec 32 := Scalar.addi v4205 c0_i32_2993
  let v4292 : Index := Scalar.indexCast v4284
  ![0, 1, v4292.toNat]
def k0_off16 (k0_t1 : Fin k0_t1_loop.trips) (c0_i32_2993 : BitVec 32) : Fin 3 → Nat :=
  let c1_2998 : Index := 1#32
  let c1_2999 : Index := 1#32
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c384_i32 : BitVec 32 := 384#32
  let v4204 : BitVec 32 := Scalar.muli v4184 c384_i32
  let v4205 : BitVec 32 := v4204
  let v4284 : BitVec 32 := Scalar.addi v4205 c0_i32_2993
  let v4297 : Index := Scalar.indexCast v4284
  ![1, 1, v4297.toNat]
def k0_off17 (k0_t1 : Fin k0_t1_loop.trips) (c0_i32_2993 : BitVec 32) : Fin 3 → Nat :=
  let c2_3000 : Index := 2#32
  let c1_3001 : Index := 1#32
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c384_i32 : BitVec 32 := 384#32
  let v4204 : BitVec 32 := Scalar.muli v4184 c384_i32
  let v4205 : BitVec 32 := v4204
  let v4284 : BitVec 32 := Scalar.addi v4205 c0_i32_2993
  let v4302 : Index := Scalar.indexCast v4284
  ![2, 1, v4302.toNat]
def k0_off18 (k0_t1 : Fin k0_t1_loop.trips) : Fin 4 → Nat :=
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c2_i32 : BitVec 32 := 2#32
  let c0_i32_2945 : BitVec 32 := 0#32
  let v4185 : BitVec 1 := Scalar.cmpi .eq c2_i32 c0_i32_2945
  let c1_i32_2946 : BitVec 32 := 1#32
  let v4186 : BitVec 32 := Scalar.select v4185 c1_i32_2946 c2_i32
  let v4187 : BitVec 32 := Scalar.remsi v4184 v4186
  let c0_i32_2948 : BitVec 32 := 0#32
  let v4189 : BitVec 1 := Scalar.cmpi .slt v4187 c0_i32_2948
  let c0_i32_2949 : BitVec 32 := 0#32
  let v4190 : BitVec 1 := Scalar.cmpi .slt v4186 c0_i32_2949
  let v4191 : BitVec 1 := Scalar.xori v4189 v4190
  let c0_i32_2947 : BitVec 32 := 0#32
  let v4188 : BitVec 1 := Scalar.cmpi .ne v4187 c0_i32_2947
  let v4192 : BitVec 1 := Scalar.andi v4191 v4188
  let v4193 : BitVec 32 := Scalar.addi v4187 v4186
  let v4194 : BitVec 32 := Scalar.select v4192 v4193 v4187
  let v4306 : Index := Scalar.indexCast v4194
  let c1_3002 : Index := 1#32
  let c128_3003 : Index := 128#32
  let c0_3004 : Index := 0#32
  ![v4306.toNat, 1, 128, 0]
def k0_off19 (k0_t1 : Fin k0_t1_loop.trips) : Fin 4 → Nat :=
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c2_i32 : BitVec 32 := 2#32
  let c0_i32_2945 : BitVec 32 := 0#32
  let v4185 : BitVec 1 := Scalar.cmpi .eq c2_i32 c0_i32_2945
  let c1_i32_2946 : BitVec 32 := 1#32
  let v4186 : BitVec 32 := Scalar.select v4185 c1_i32_2946 c2_i32
  let v4187 : BitVec 32 := Scalar.remsi v4184 v4186
  let c0_i32_2948 : BitVec 32 := 0#32
  let v4189 : BitVec 1 := Scalar.cmpi .slt v4187 c0_i32_2948
  let c0_i32_2949 : BitVec 32 := 0#32
  let v4190 : BitVec 1 := Scalar.cmpi .slt v4186 c0_i32_2949
  let v4191 : BitVec 1 := Scalar.xori v4189 v4190
  let c0_i32_2947 : BitVec 32 := 0#32
  let v4188 : BitVec 1 := Scalar.cmpi .ne v4187 c0_i32_2947
  let v4192 : BitVec 1 := Scalar.andi v4191 v4188
  let v4193 : BitVec 32 := Scalar.addi v4187 v4186
  let v4194 : BitVec 32 := Scalar.select v4192 v4193 v4187
  let v4331 : Index := Scalar.indexCast v4194
  let c1_3014 : Index := 1#32
  let c256_3015 : Index := 256#32
  let c0_3016 : Index := 0#32
  ![v4331.toNat, 1, 256, 0]
def k0_off20 (k0_t1 : Fin k0_t1_loop.trips) : Fin 4 → Nat :=
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c2_i32 : BitVec 32 := 2#32
  let c0_i32_2945 : BitVec 32 := 0#32
  let v4185 : BitVec 1 := Scalar.cmpi .eq c2_i32 c0_i32_2945
  let c1_i32_2946 : BitVec 32 := 1#32
  let v4186 : BitVec 32 := Scalar.select v4185 c1_i32_2946 c2_i32
  let v4187 : BitVec 32 := Scalar.remsi v4184 v4186
  let c0_i32_2948 : BitVec 32 := 0#32
  let v4189 : BitVec 1 := Scalar.cmpi .slt v4187 c0_i32_2948
  let c0_i32_2949 : BitVec 32 := 0#32
  let v4190 : BitVec 1 := Scalar.cmpi .slt v4186 c0_i32_2949
  let v4191 : BitVec 1 := Scalar.xori v4189 v4190
  let c0_i32_2947 : BitVec 32 := 0#32
  let v4188 : BitVec 1 := Scalar.cmpi .ne v4187 c0_i32_2947
  let v4192 : BitVec 1 := Scalar.andi v4191 v4188
  let v4193 : BitVec 32 := Scalar.addi v4187 v4186
  let v4194 : BitVec 32 := Scalar.select v4192 v4193 v4187
  let v4356 : Index := Scalar.indexCast v4194
  let c0_3026 : Index := 0#32
  let c0_3027 : Index := 0#32
  let c0_3028 : Index := 0#32
  ![v4356.toNat, 0, 0, 0]
def k0_off21 (k0_t1 : Fin k0_t1_loop.trips) : Fin 3 → Nat :=
  let c0_3029 : Index := 0#32
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c384_i32 : BitVec 32 := 384#32
  let v4204 : BitVec 32 := Scalar.muli v4184 c384_i32
  let v4205 : BitVec 32 := v4204
  let v4359 : Index := Scalar.indexCast v4205
  let c0_3030 : Index := 0#32
  ![0, v4359.toNat, 0]
def k0_off22 (k0_t1 : Fin k0_t1_loop.trips) : Fin 4 → Nat :=
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c2_i32 : BitVec 32 := 2#32
  let c0_i32_2945 : BitVec 32 := 0#32
  let v4185 : BitVec 1 := Scalar.cmpi .eq c2_i32 c0_i32_2945
  let c1_i32_2946 : BitVec 32 := 1#32
  let v4186 : BitVec 32 := Scalar.select v4185 c1_i32_2946 c2_i32
  let v4187 : BitVec 32 := Scalar.remsi v4184 v4186
  let c0_i32_2948 : BitVec 32 := 0#32
  let v4189 : BitVec 1 := Scalar.cmpi .slt v4187 c0_i32_2948
  let c0_i32_2949 : BitVec 32 := 0#32
  let v4190 : BitVec 1 := Scalar.cmpi .slt v4186 c0_i32_2949
  let v4191 : BitVec 1 := Scalar.xori v4189 v4190
  let c0_i32_2947 : BitVec 32 := 0#32
  let v4188 : BitVec 1 := Scalar.cmpi .ne v4187 c0_i32_2947
  let v4192 : BitVec 1 := Scalar.andi v4191 v4188
  let v4193 : BitVec 32 := Scalar.addi v4187 v4186
  let v4194 : BitVec 32 := Scalar.select v4192 v4193 v4187
  let v4361 : Index := Scalar.indexCast v4194
  let c0_3031 : Index := 0#32
  let c384_3032 : Index := 384#32
  let c0_3033 : Index := 0#32
  ![v4361.toNat, 0, 384, 0]
def k0_cond3 (k0_t1 : Fin k0_t1_loop.trips) : BitVec 1 :=
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c3_i32 : BitVec 32 := 3#32
  let v4366 : BitVec 32 := Scalar.addi v4184 c3_i32
  let c20_i32_3036 : BitVec 32 := 20#32
  let v4367 : BitVec 1 := Scalar.cmpi .slt v4366 c20_i32_3036
  let v4368 : BitVec 32 := Scalar.extui v4367
  let c0_i32_3037 : BitVec 32 := 0#32
  let v4369 : BitVec 1 := Scalar.cmpi .ne v4368 c0_i32_3037
  v4369

def k0_mult12 (k0_t1 : Fin k0_t1_loop.trips) : BitVec 32 :=
  let c960_i32_3040 : BitVec 32 := 960#32
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c3_i32_3038 : BitVec 32 := 3#32
  let v4370 : BitVec 32 := Scalar.addi v4184 c3_i32_3038
  let c48_i32_3039 : BitVec 32 := 48#32
  let v4371 : BitVec 32 := Scalar.muli v4370 c48_i32_3039
  let v4372 : BitVec 32 := Scalar.addi c960_i32_3040 v4371
  v4372
def k0_mult13 (k0_t1 : Fin k0_t1_loop.trips) : BitVec 32 :=
  let c0_i32_3042 : BitVec 32 := 0#32
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c3_i32_3038 : BitVec 32 := 3#32
  let v4370 : BitVec 32 := Scalar.addi v4184 c3_i32_3038
  let c48_i32_3041 : BitVec 32 := 48#32
  let v4374 : BitVec 32 := Scalar.muli v4370 c48_i32_3041
  let v4375 : BitVec 32 := Scalar.addi c0_i32_3042 v4374
  v4375
def k0_off23 (k0_t1 : Fin k0_t1_loop.trips) : Fin 1 → Nat :=
  let c1_i32_2950 : BitVec 32 := 1#32
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c2_i32 : BitVec 32 := 2#32
  let c0_i32_2945 : BitVec 32 := 0#32
  let v4185 : BitVec 1 := Scalar.cmpi .eq c2_i32 c0_i32_2945
  let c1_i32_2946 : BitVec 32 := 1#32
  let v4186 : BitVec 32 := Scalar.select v4185 c1_i32_2946 c2_i32
  let v4187 : BitVec 32 := Scalar.remsi v4184 v4186
  let c0_i32_2948 : BitVec 32 := 0#32
  let v4189 : BitVec 1 := Scalar.cmpi .slt v4187 c0_i32_2948
  let c0_i32_2949 : BitVec 32 := 0#32
  let v4190 : BitVec 1 := Scalar.cmpi .slt v4186 c0_i32_2949
  let v4191 : BitVec 1 := Scalar.xori v4189 v4190
  let c0_i32_2947 : BitVec 32 := 0#32
  let v4188 : BitVec 1 := Scalar.cmpi .ne v4187 c0_i32_2947
  let v4192 : BitVec 1 := Scalar.andi v4191 v4188
  let v4193 : BitVec 32 := Scalar.addi v4187 v4186
  let v4194 : BitVec 32 := Scalar.select v4192 v4193 v4187
  let v4195 : BitVec 32 := Scalar.subi c1_i32_2950 v4194
  ![v4195.toNat]
def k0_off24 (k0_t1 : Fin k0_t1_loop.trips) : Fin 5 → Nat :=
  let c1_i32_2950 : BitVec 32 := 1#32
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c2_i32 : BitVec 32 := 2#32
  let c0_i32_2945 : BitVec 32 := 0#32
  let v4185 : BitVec 1 := Scalar.cmpi .eq c2_i32 c0_i32_2945
  let c1_i32_2946 : BitVec 32 := 1#32
  let v4186 : BitVec 32 := Scalar.select v4185 c1_i32_2946 c2_i32
  let v4187 : BitVec 32 := Scalar.remsi v4184 v4186
  let c0_i32_2948 : BitVec 32 := 0#32
  let v4189 : BitVec 1 := Scalar.cmpi .slt v4187 c0_i32_2948
  let c0_i32_2949 : BitVec 32 := 0#32
  let v4190 : BitVec 1 := Scalar.cmpi .slt v4186 c0_i32_2949
  let v4191 : BitVec 1 := Scalar.xori v4189 v4190
  let c0_i32_2947 : BitVec 32 := 0#32
  let v4188 : BitVec 1 := Scalar.cmpi .ne v4187 c0_i32_2947
  let v4192 : BitVec 1 := Scalar.andi v4191 v4188
  let v4193 : BitVec 32 := Scalar.addi v4187 v4186
  let v4194 : BitVec 32 := Scalar.select v4192 v4193 v4187
  let v4195 : BitVec 32 := Scalar.subi c1_i32_2950 v4194
  let c0_i32_3043 : BitVec 32 := 0#32
  let c0_i32_3044 : BitVec 32 := 0#32
  let c0_i32_3045 : BitVec 32 := 0#32
  let c0_i32_3046 : BitVec 32 := 0#32
  ![v4195.toNat, 0, 0, 0, 0]
def k0_off25 (k0_t1 : Fin k0_t1_loop.trips) (c960_i32_3040 : BitVec 32) : Fin 4 → Nat :=
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c3_i32_3038 : BitVec 32 := 3#32
  let v4370 : BitVec 32 := Scalar.addi v4184 c3_i32_3038
  let c48_i32_3039 : BitVec 32 := 48#32
  let v4371 : BitVec 32 := Scalar.muli v4370 c48_i32_3039
  let v4372 : BitVec 32 := Scalar.addi c960_i32_3040 v4371
  let v4373 : BitVec 32 := v4372
  let c0_i32_3047 : BitVec 32 := 0#32
  let c0_i32_3048 : BitVec 32 := 0#32
  let c0_i32_3049 : BitVec 32 := 0#32
  ![v4373.toNat, 0, 0, 0]
def k0_off26 (k0_t1 : Fin k0_t1_loop.trips) : Fin 5 → Nat :=
  let c1_i32_2950 : BitVec 32 := 1#32
  let c0_i32_2944 : BitVec 32 := 0#32
  let c0_i32_2940 : BitVec 32 := 0#32
  let c1_i32_2941 : BitVec 32 := 1#32
  let arg16 : BitVec 32 := Scf.iv c0_i32_2940 c1_i32_2941 k0_t1
  let c1_i32_2943 : BitVec 32 := 1#32
  let v4183 : BitVec 32 := Scalar.muli arg16 c1_i32_2943
  let v4184 : BitVec 32 := Scalar.addi c0_i32_2944 v4183
  let c2_i32 : BitVec 32 := 2#32
  let c0_i32_2945 : BitVec 32 := 0#32
  let v4185 : BitVec 1 := Scalar.cmpi .eq c2_i32 c0_i32_2945
  let c1_i32_2946 : BitVec 32 := 1#32
  let v4186 : BitVec 32 := Scalar.select v4185 c1_i32_2946 c2_i32
  let v4187 : BitVec 32 := Scalar.remsi v4184 v4186
  let c0_i32_2948 : BitVec 32 := 0#32
  let v4189 : BitVec 1 := Scalar.cmpi .slt v4187 c0_i32_2948
  let c0_i32_2949 : BitVec 32 := 0#32
  let v4190 : BitVec 1 := Scalar.cmpi .slt v4186 c0_i32_2949
  let v4191 : BitVec 1 := Scalar.xori v4189 v4190
  let c0_i32_2947 : BitVec 32 := 0#32
  let v4188 : BitVec 1 := Scalar.cmpi .ne v4187 c0_i32_2947
  let v4192 : BitVec 1 := Scalar.andi v4191 v4188
  let v4193 : BitVec 32 := Scalar.addi v4187 v4186
  let v4194 : BitVec 32 := Scalar.select v4192 v4193 v4187
  let v4195 : BitVec 32 := Scalar.subi c1_i32_2950 v4194
  let c48_i32_3050 : BitVec 32 := 48#32
  let c0_i32_3051 : BitVec 32 := 0#32
  let c0_i32_3052 : BitVec 32 := 0#32
  let c0_i32_3053 : BitVec 32 := 0#32
  ![v4195.toNat, 48, 0, 0, 0]
abbrev stage0_0 : Fin 1 → Memref sig .tc .vmem S256x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x7680x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x7680x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ProjectReferenceIdeal.lean ====
abbrev S2x128x3584 : Shape := ⟨3, ![2, 128, 3584]⟩
abbrev S2x128 : Shape := ⟨2, ![2, 128]⟩
abbrev S3584x16464 : Shape := ⟨2, ![3584, 16464]⟩
abbrev S16464 : Shape := ⟨1, ![16464]⟩
abbrev S256x3584 : Shape := ⟨2, ![256, 3584]⟩
abbrev S256x1 : Shape := ⟨2, ![256, 1]⟩
abbrev S1x16464 : Shape := ⟨2, ![1, 16464]⟩
abbrev S2x7680x128 : Shape := ⟨3, ![2, 7680, 128]⟩
abbrev S3x2x8704 : Shape := ⟨3, ![3, 2, 8704]⟩
abbrev S256x16464 : Shape := ⟨2, ![256, 16464]⟩
abbrev S128x7680 : Shape := ⟨2, ![128, 7680]⟩
abbrev S7680x128 : Shape := ⟨2, ![7680, 128]⟩
abbrev S1x7680x128 : Shape := ⟨3, ![1, 7680, 128]⟩
abbrev S256x8704 : Shape := ⟨2, ![256, 8704]⟩
abbrev S1x8704 : Shape := ⟨2, ![1, 8704]⟩
abbrev S8704 : Shape := ⟨1, ![8704]⟩
abbrev S1x1x8704 : Shape := ⟨3, ![1, 1, 8704]⟩

abbrev nBuf : Space → Nat
  | .hbm => 10
  | .vmem => 7
  | .smem => 0
  | _ => 0

abbrev bufTy : (tb : Table) → Fin (tcTables nBuf tb) → BufTy
  | .hbm, ⟨0, _⟩ => ⟨S2x128x3584, .fp8e4m3⟩
  | .hbm, ⟨1, _⟩ => ⟨S2x128, .f32⟩
  | .hbm, ⟨2, _⟩ => ⟨S3584x16464, .fp8e4m3⟩
  | .hbm, ⟨3, _⟩ => ⟨S16464, .f32⟩
  | .hbm, ⟨4, _⟩ => ⟨S256x3584, .fp8e4m3⟩
  | .hbm, ⟨5, _⟩ => ⟨S256x1, .f32⟩
  | .hbm, ⟨6, _⟩ => ⟨S1x16464, .f32⟩
  | .hbm, ⟨7, _⟩ => ⟨S2x7680x128, .f32⟩
  | .hbm, ⟨8, _⟩ => ⟨S2x7680x128, .f32⟩
  | .hbm, ⟨9, _⟩ => ⟨S3x2x8704, .f32⟩
  | .local _ .vmem, ⟨0, _⟩ => ⟨S256x3584, .fp8e4m3⟩
  | .local _ .vmem, ⟨1, _⟩ => ⟨S256x1, .f32⟩
  | .local _ .vmem, ⟨2, _⟩ => ⟨S3584x16464, .fp8e4m3⟩
  | .local _ .vmem, ⟨3, _⟩ => ⟨S1x16464, .f32⟩
  | .local _ .vmem, ⟨4, _⟩ => ⟨S2x7680x128, .f32⟩
  | .local _ .vmem, ⟨5, _⟩ => ⟨S2x7680x128, .f32⟩
  | .local _ .vmem, ⟨6, _⟩ => ⟨S3x2x8704, .f32⟩
  | _, _ => ⟨S2x128x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S256x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3584x16464 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16464 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x7680x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x7680x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S3x2x8704 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Kernel.Kit.lean ====
/-
  The frame kit of the output projection's kernel at the algebra with the transfers' counters: @main up to its one
  region, the windows' blocks, the frame claim's post from a run that also states the result left in HBM, and the
  invariant the body runs under — the scratch owned, the ten DMA cells at zero, the three operands read and the one
  result written by the body's own copies — listed conjunct by conjunct.
-/
module

public import proofs.«01_k».proof.Proof.Gen.Kernel.Frame
public import Idealize.ShloMosaic.Lib.Pipeline.FrameValue
public import Idealize.ShloMosaic.Lib.Ring
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- The operands left in HBM the body WRITES by its own transfers, as references (results accumulated in place; the
    run's post says nothing of them: Lib/Pipeline/Frame.lean `FramePostR`). -/
def R0 : Finset (Ref sig .tc) := {main_v3}

/-! ## The frame claim's post from the frame run's -/

/-- THE FRAME from a frame run: for any proof data whose arrays are the region-entry contents (`hA`), a run to
    Lib/Pipeline/Frame.lean's `FramePostR` read at the argument arrays — a staged input by the library's
    `Dat.arrAt_in`, an array no window stages (none is in `R0`) by the post's second clause, each then by `V_…` — is the frame
    claim's post (`Cert.frame_Kernel`, Defs.lean, at any `F`). -/
theorem frame_of (dats : (p : Fin 1) → (c : Dev nD) → Dat τ (Elt F) Unit ℕ (Pipeline.UD sig nD τ) ℕ (cfgs p) c)
    (hA : ∀ c w, (dats 0 c).A w = V m c (Pipeline.arrRef spec0 w))
    (h : θ_run defs (onTc (τ := τ) (main (F := F))) (s₀ m ρ) (Pipeline.FramePostR cfgs dats 0 R0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      ((h c).1 1).trans (((dats 0 c).arrAt_in 1 rfl _).trans ((hA c 1).trans (V_main_arg2 m c))),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c)⟩) h

/-! ## The kernel body on any staging memrefs: a subtype the run finds -/

/-- Each window's current staging memref at point `t`, spelled as the pipeline passes it (`bodyAt0`), and its wholeness. -/
abbrev ms0_0 (t : Fin cfg0.N) : Memref sig .tc .vmem S256x7680 .fp8e4m3 := win0_0.stage (cfg0.slots t 0)
abbrev hs0_0 (t : Fin cfg0.N) : (ms0_0 t).IsWhole := hstage0_0 0
abbrev ms0_1 (t : Fin cfg0.N) : Memref sig .tc .vmem S2x128 .f32 := win0_1.stage (cfg0.slots t 1)
abbrev hs0_1 (t : Fin cfg0.N) : (ms0_1 t).IsWhole := hstage0_1 0
/-- The scratch operands: whole scoped buffers of the kernel's own, passed beside the windows. -/
abbrev scM0_0 : Memref sig .tc .vmem S256x3584 .bf16 := Memref.whole cc0_scratch0
abbrev scM0_1 : Memref sig .tc .vmem S1x3584 .f32 := Memref.whole cc0_scratch1
abbrev scM0_2 : Memref sig .tc .vmem S7x7680x512 .fp8e4m3 := Memref.whole cc0_scratch2
abbrev scM0_3 : Memref sig .tc .vmem S256x128 .f32 := Memref.whole cc0_scratch3
abbrev scM0_4 : Memref sig .tc .vmem S256x3584 .bf16 := Memref.whole cc0_scratch4
/-- The operands left in HBM that the body copies into scratch itself, whole. -/
abbrev hbM0_0 : Memref sig .tc .hbm S256x3584 .bf16 := Memref.whole main_v0
abbrev hbM0_1 : Memref sig .tc .hbm S7680x3584 .fp8e4m3 := Memref.whole main_arg3
abbrev hbM0_2 : Memref sig .tc .hbm S1x3584 .f32 := Memref.whole main_v1
abbrev hbM0_3 : Memref sig .tc .hbm S256x3584 .bf16 := Memref.whole main_v3
/-- Memref `M`'s buffer on core `c`: its contents type, and it held whole at `f` — behind this abbreviation, so that the
    run's rewriting of the goal leaves `Memref.view` intact (the form the executor reads a held buffer in). -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool): the kernel's own semaphores for the launch
    (`Pipeline.OwnSemFacts`: none is a window's). -/
abbrev osem0 : Fin 10 → SemLoc sig := fun j => (![SemLoc.dma 2, SemLoc.dma 3, SemLoc.dma 4, SemLoc.dma 5, SemLoc.dma 6, SemLoc.dma 7, SemLoc.dma 8, SemLoc.dma 9, SemLoc.dma 10, SemLoc.dma 11] : Fin 10 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) := by
  rw [Pipeline.ownSems0_eq_of_list c osem0 [0, 1, 2, 3, 4, 5, 6, 7, 8, 9] (by decide) (by decide)]; rfl
/-- The HBM operands the body copies from and leaves unchanged, as references: unscoped, no window's array (`Pipeline.restRefs`). -/
def H0 : Finset (Ref sig .tc) := {main_v0, main_arg3, main_v1}
theorem H0_sub : H0 ⊆ Pipeline.restRefs sig spec0 := by decide
/-- The ones it writes (`R0`, stated with the kit) are unscoped, no window's array, and none of `H0`. -/
theorem R0_sub : R0 ⊆ Pipeline.restRefs sig spec0 \ H0 := by decide
/-- The read operands' points-tos at the launch contents, listed. -/
theorem hbmPts0_eq (c : Dev nD) :
    (bigSep H0 (fun b => ((c : Thread nD τ).loc b) ↦{fullShare} V m c b) : sProp 𝕄) = iprop(hbPt0 c hbM0_0 (V m c main_v0) ∗ hbPt0 c hbM0_1 (V m c main_arg3) ∗ hbPt0 c hbM0_2 (V m c main_v1)) := by
  rw [BI.bigSep_eq_bigSepL_of_eq [main_v0, main_arg3, main_v1] (by decide) (by decide)]; rfl
/-- The written operands' points-tos at some contents each (`Pipeline.owned`), listed. -/
theorem ownedPts0_eq (c : Dev nD) :
    (Pipeline.owned R0 c : sProp 𝕄) = iprop((∃ f, hbPt0 c hbM0_3 f)) := by
  unfold Pipeline.owned; rw [BI.bigSep_eq_bigSepL_of_eq [main_v3] (by decide) (by decide)]; rfl

/-- The invariant of a body with transfers of its own that write some HBM operands, `Pipeline.ΦDR`, conjunct by conjunct:
    the scratch operands owned at some contents, the generator register at some state, the own cells at zero, the HBM
    operands read at their launch contents, the HBM operands written at some contents — what the body obligation hands
    the run and takes back. -/
theorem PhiDR0_eq (c : Dev nD) :
    (Pipeline.ΦDR osem0 spec0 H0 R0 (V m) c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r) ∗ iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(hbPt0 c hbM0_0 (V m c main_v0) ∗ hbPt0 c hbM0_1 (V m c main_arg3) ∗ hbPt0 c hbM0_2 (V m c main_v1)) ∗ iprop((∃ f, hbPt0 c hbM0_3 f))) := by
  rw [Pipeline.ΦDR_eq, scopedRest0_eq, ownSems00_eq, hbmPts0_eq, ownedPts0_eq]; simp only [scM0_0, scM0_1, scM0_2, scM0_3, scM0_4, owns_whole]; try rfl

end Cert.Kernel.Hand

end
-- ==== Proof.Kernel.Family.lean ====
/-
  The seven copies of the output weights as a family: column window `j` of the weight array goes into slab `j` of
  the weight scratch under the kernel's own semaphore cell `j`. A member is either in flight or landed; the
  two buffers split into the seven slabs and the seven column windows and come back together.
-/
module

public import proofs.«01_k».proof.Proof.Kernel.Kit
public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem inbSlab (j : Fin 7) : ∀ a, (![j.val, 0, 0] : Fin 3 → Nat) a + S1x7680x512.size a ≤ S7x7680x512.size a := by
  have := j.isLt; intro a; fin_cases a
  · show j.val + 1 ≤ 7; omega
  · show 0 + 7680 ≤ 7680; omega
  · show 0 + 512 ≤ 512; omega
theorem inbCol (j : Fin 7) : ∀ a, (![0, 512 * j.val] : Fin 2 → Nat) a + S7680x512.size a ≤ S7680x3584.size a := by
  have := j.isLt; intro a; fin_cases a
  · show 0 + 7680 ≤ 7680; omega
  · show 512 * j.val + 512 ≤ 3584; omega

theorem inbCell (j : Fin 7) : ∀ a, (![j.val] : Fin 1 → Nat) a + S1.size a ≤ S7.size a := by
  have := j.isLt; intro a; fin_cases a
  show j.val + 1 ≤ 7; omega

/-! The slab, the column window and the cell at any offsets; member `j`'s are at `![j, 0, 0]`, `![0, 512 j]` and
`![j]`, and the program's own at trip `k` are equal to member `k`'s. -/

abbrev slabO (o : Fin 3 → Nat) (h : ∀ a, o a + S1x7680x512.size a ≤ S7x7680x512.size a) : Memref sig .tc .vmem S7680x512 .fp8e4m3 :=
  (scM0_2.slice (Rect.unit (s := S7x7680x512) o S1x7680x512.size h) (fun _ => rfl)).squeeze S7680x512 squeezes_S1x7680x512_S7680x512
abbrev colO (o : Fin 2 → Nat) (h : ∀ a, o a + S7680x512.size a ≤ S7680x3584.size a) : Memref sig .tc .hbm S7680x512 .fp8e4m3 :=
  hbM0_1.slice (Rect.unit (s := S7680x3584) o S7680x512.size h) (fun _ => rfl)
abbrev cellO (o : Fin 1 → Nat) (h : ∀ a, o a + S1.size a ≤ S7.size a) : SemLoc sig :=
  SemLoc.dma ((cc0_scratch7.slice (Rect.unit (s := S7) o S1.size h)).squeeze S_ squeezes_S1_S_).sem

abbrev slabPtO (c : Dev nD) (o : Fin 3 → Nat) (h : ∀ a, o a + S1x7680x512.size a ≤ S7x7680x512.size a) (f : HbBuf0 (F := F) c scM0_2) : sProp 𝕄 :=
  (slabO o h).view.loc (c : Thread nD τ) ↦[(slabO o h).view.set]{fullShare} f
abbrev colPtO (c : Dev nD) (o : Fin 2 → Nat) (h : ∀ a, o a + S7680x512.size a ≤ S7680x3584.size a) (fw : HbBuf0 (F := F) c hbM0_1) : sProp 𝕄 :=
  (colO o h).view.loc (c : Thread nD τ) ↦[(colO o h).view.set]{fullShare} fw
abbrev landedO (c : Dev nD) (fw : HbBuf0 (F := F) c hbM0_1) (o1 : Fin 1 → Nat) (h1 : ∀ a, o1 a + S1.size a ≤ S7.size a)
    (o2 : Fin 3 → Nat) (h2 : ∀ a, o2 a + S1x7680x512.size a ≤ S7x7680x512.size a) (o3 : Fin 2 → Nat) (h3 : ∀ a, o3 a + S7680x512.size a ≤ S7680x3584.size a) : sProp 𝕄 :=
  iprop(semVal ((c : Thread nD τ), cellO o1 h1) 0 ∗ (∃ f, slabPtO c o2 h2 f) ∗ colPtO c o3 h3 fw)
abbrev inflightO (c : Dev nD) (fw : HbBuf0 (F := F) c hbM0_1) (o1 : Fin 1 → Nat) (h1 : ∀ a, o1 a + S1.size a ≤ S7.size a)
    (o2 : Fin 3 → Nat) (h2 : ∀ a, o2 a + S1x7680x512.size a ≤ S7x7680x512.size a) (o3 : Fin 2 → Nat) (h3 : ∀ a, o3 a + S7680x512.size a ≤ S7680x3584.size a) : sProp 𝕄 :=
  iprop(∃ f, Transfers.Flight (countersEmb (U := Pipeline.UD sig nD τ)) (c : Thread nD τ) (cellO o1 h1) () (slabO o2 h2).view.dmaCredit
      iprop(slabPtO c o2 h2 ((slabO o2 h2).view.writes (Elt F) f [⟨Rect.whole S7680x512, ReadAs.same.apply ((colO o3 h3).view.read (Elt F) fw)⟩])
        ∗ colPtO c o3 h3 fw))

/-- Slab `j` at contents `f`, and column window `j` at the weights `fw`. -/
abbrev slabPt (c : Dev nD) (j : Fin 7) (f : HbBuf0 (F := F) c scM0_2) : sProp 𝕄 := slabPtO c ![j.val, 0, 0] (inbSlab j) f
abbrev colPt (c : Dev nD) (j : Fin 7) (fw : HbBuf0 (F := F) c hbM0_1) : sProp 𝕄 := colPtO c ![0, 512 * j.val] (inbCol j) fw

/-- Copy `j` landed: its cell at zero, the slab at something, the column window back. -/
def landed (c : Dev nD) (fw : HbBuf0 (F := F) c hbM0_1) (j : Fin 7) : sProp 𝕄 :=
  landedO c fw ![j.val] (inbCell j) ![j.val, 0, 0] (inbSlab j) ![0, 512 * j.val] (inbCol j)
/-- Copy `j` in flight: it delivers the slab filled with the column window, and the window. -/
def inflight (c : Dev nD) (fw : HbBuf0 (F := F) c hbM0_1) (j : Fin 7) : sProp 𝕄 :=
  inflightO c fw ![j.val] (inbCell j) ![j.val, 0, 0] (inbSlab j) ![0, 512 * j.val] (inbCol j)
/-- Member `j` in state `b`: in flight or landed. -/
abbrev Φ (c : Dev nD) (fw : HbBuf0 (F := F) c hbM0_1) (j : Fin 7) (b : Bool) : sProp 𝕄 :=
  if b then inflight c fw j else landed c fw j

/-- Before trip `k` the copies from `k` on are in flight, those before it landed. -/
def stK (k : Nat) : Fin 7 → Bool := fun j => decide (k ≤ j.val)

theorem trips_eq : k0_t1_loop.trips = 7 := by decide
abbrev tK (k : Fin k0_t1_loop.trips) : Fin 7 := ⟨k.val, trips_eq ▸ k.isLt⟩

theorem stK_self (k : Fin k0_t1_loop.trips) : stK k.val (tK k) = true := by simp [stK]

theorem stK_succ (k : Fin k0_t1_loop.trips) : Function.update (stK k.val) (tK k) false = stK (k.val + 1) := by
  funext j
  by_cases hj : j = tK k
  · subst hj; rw [Function.update_self]; simp [stK]
  · rw [Function.update_of_ne hj]
    have hv : j.val ≠ k.val := fun h => hj (Fin.ext h)
    simp only [stK]
    by_cases h : k.val ≤ j.val
    · have : k.val + 1 ≤ j.val := by omega
      simp [h, this]
    · have : ¬ (k.val + 1 ≤ j.val) := by omega
      simp [h, this]

/-- The program's own spelling at trip `k` is member `k`. -/
theorem inflight_trip (c : Dev nD) (fw : HbBuf0 (F := F) c hbM0_1) (k : Fin k0_t1_loop.trips) :
    inflight c fw (tK k) = inflightO c fw (k0_off1 k) (k0_off1_inb k) (k0_off2 k) (k0_off2_inb k) (k0_off3 k) (k0_off3_inb k) := by
  have key : ∀ (o1 o1' : Fin 1 → Nat) (h1) (h1') (o2 o2' : Fin 3 → Nat) (h2) (h2') (o3 o3' : Fin 2 → Nat) (h3) (h3'), o1 = o1' → o2 = o2' → o3 = o3' →
      inflightO c fw o1 h1 o2 h2 o3 h3 = inflightO c fw o1' h1' o2' h2' o3' h3' := by
    intros; subst_vars; rfl
  exact key _ _ _ _ _ _ _ _ _ _ _ _ (k0_off1_eq k).symm (k0_off2_eq k).symm (k0_off3_eq k).symm
theorem landed_trip (c : Dev nD) (fw : HbBuf0 (F := F) c hbM0_1) (k : Fin k0_t1_loop.trips) :
    landed c fw (tK k) = landedO c fw (k0_off1 k) (k0_off1_inb k) (k0_off2 k) (k0_off2_inb k) (k0_off3 k) (k0_off3_inb k) := by
  have key : ∀ (o1 o1' : Fin 1 → Nat) (h1) (h1') (o2 o2' : Fin 3 → Nat) (h2) (h2') (o3 o3' : Fin 2 → Nat) (h3) (h3'), o1 = o1' → o2 = o2' → o3 = o3' →
      landedO c fw o1 h1 o2 h2 o3 h3 = landedO c fw o1' h1' o2' h2' o3' h3' := by
    intros; subst_vars; rfl
  exact key _ _ _ _ _ _ _ _ _ _ _ _ (k0_off1_eq k).symm (k0_off2_eq k).symm (k0_off3_eq k).symm

/-! ## The two buffers piece by piece -/

/-- The elements of slab `j`, and of column window `j`. -/
abbrev slabSet (j : Fin 7) : Finset S7x7680x512.Idx := (Rect.unit (s := S7x7680x512) ![j.val, 0, 0] S1x7680x512.size (inbSlab j)).set
abbrev colSet (j : Fin 7) : Finset S7680x3584.Idx := (Rect.unit (s := S7680x3584) ![0, 512 * j.val] S7680x512.size (inbCol j)).set

theorem slab_set (j : Fin 7) : (slabO ![j.val, 0, 0] (inbSlab j)).view.set = slabSet j := by
  refine (View.set_reshape _ _).trans ?_
  exact View.set_slice_whole _ _
theorem col_set (j : Fin 7) : (colO ![0, 512 * j.val] (inbCol j)).view.set = colSet j :=
  View.set_slice_whole _ _

theorem slab_disj (j j' : Fin 7) (h : j ≠ j') : Disjoint (slabSet j) (slabSet j') :=
  Ring.lead_disjoint (s := S7x7680x512) (0 : Fin 3) 1 (fun j => ![j.val, 0, 0]) S1x7680x512.size inbSlab (fun b => (Nat.one_mul _).symm) rfl j j' h
theorem slab_cover : Finset.univ.biUnion slabSet = Finset.univ :=
  Ring.lead_cover (s := S7x7680x512) (0 : Fin 3) 1 (fun j : Fin 7 => ![j.val, 0, 0]) S1x7680x512.size inbSlab (fun b => (Nat.one_mul _).symm)
    (by intro b a ha; fin_cases a <;> first | exact absurd rfl ha | rfl) rfl (by intro a ha; fin_cases a <;> first | exact absurd rfl ha | rfl) rfl
theorem col_disj (j j' : Fin 7) (h : j ≠ j') : Disjoint (colSet j) (colSet j') :=
  Ring.lead_disjoint (s := S7680x3584) (1 : Fin 2) 512 (fun j => ![0, 512 * j.val]) S7680x512.size inbCol (fun b => rfl) rfl j j' h
theorem col_cover : Finset.univ.biUnion colSet = Finset.univ :=
  Ring.lead_cover (s := S7680x3584) (1 : Fin 2) 512 (fun j : Fin 7 => ![0, 512 * j.val]) S7680x512.size inbCol (fun b => rfl)
    (by intro b a ha; fin_cases a <;> first | exact absurd rfl ha | rfl) rfl (by intro a ha; fin_cases a <;> first | exact absurd rfl ha | rfl) rfl

theorem slabPt_eq (c : Dev nD) (j : Fin 7) (f : HbBuf0 (F := F) c scM0_2) :
    slabPt c j f = (scM0_2.view.loc (c : Thread nD τ) ↦[slabSet j]{fullShare} f : sProp 𝕄) :=
  congrArg (fun S : Finset (Idx (scM0_2.view.loc (c : Thread nD τ))) => (scM0_2.view.loc (c : Thread nD τ) ↦[S]{fullShare} f : sProp 𝕄)) (slab_set j)
theorem colPt_eq (c : Dev nD) (j : Fin 7) (fw : HbBuf0 (F := F) c hbM0_1) :
    colPt c j fw = (hbM0_1.view.loc (c : Thread nD τ) ↦[colSet j]{fullShare} fw : sProp 𝕄) :=
  congrArg (fun S : Finset (Idx (hbM0_1.view.loc (c : Thread nD τ))) => (hbM0_1.view.loc (c : Thread nD τ) ↦[S]{fullShare} fw : sProp 𝕄)) (col_set j)

/-- The weight array whole is its seven column windows. -/
theorem cols_split (c : Dev nD) (fw : HbBuf0 (F := F) c hbM0_1) :
    (hbPt0 c hbM0_1 fw : sProp 𝕄) = bigSep Finset.univ fun j => colPt c j fw :=
  (Ring.pointsTo_blocks (ℓ := hbM0_1.view.loc (c : Thread nD τ)) colSet col_disj col_cover fw).trans
    (BI.bigSep_congr fun j _ => (colPt_eq c j fw).symm)
/-- The weight scratch whole is its seven slabs, -/
theorem slabs_split (c : Dev nD) (f : HbBuf0 (F := F) c scM0_2) :
    (hbPt0 c scM0_2 f : sProp 𝕄) = bigSep Finset.univ fun j => slabPt c j f :=
  (Ring.pointsTo_blocks (ℓ := scM0_2.view.loc (c : Thread nD τ)) slabSet slab_disj slab_cover f).trans
    (BI.bigSep_congr fun j _ => (slabPt_eq c j f).symm)
/-- and seven slabs at something each are the scratch at something. -/
theorem slabs_join (c : Dev nD) (f : HbBuf0 (F := F) c scM0_2) :
    (bigSep Finset.univ fun j : Fin 7 => iprop(∃ f, slabPt (F := F) c j f)) ⊢ iprop(∃ f, hbPt0 c scM0_2 f) := by
  rw [BI.bigSep_congr (Ψ := fun j => (iprop(∃ f, scM0_2.view.loc (c : Thread nD τ) ↦[slabSet j]{fullShare} f) : sProp 𝕄))
    (fun j _ => by simp only [slabPt_eq])]
  exact Ring.pointsTo_blocks_join_exists (ℓ := scM0_2.view.loc (c : Thread nD τ)) slabSet slab_disj slab_cover f

/-- A family over the seven members, listed. -/
theorem bigSep7 (Ψ : Fin 7 → sProp 𝕄) :
    bigSep Finset.univ Ψ = (iprop(Ψ 0 ∗ Ψ 1 ∗ Ψ 2 ∗ Ψ 3 ∗ Ψ 4 ∗ Ψ 5 ∗ Ψ 6) : sProp 𝕄) := by
  rw [BI.bigSep_eq_bigSepL_of_eq [0, 1, 2, 3, 4, 5, 6] (by decide) (by decide)]; rfl

/-- The two splits with the program's literal offsets. -/
theorem slabs_split7 (c : Dev nD) (f : HbBuf0 (F := F) c scM0_2) :
    (hbPt0 c scM0_2 f : sProp 𝕄) = iprop(slabPtO c ![0, 0, 0] inb_S7x7680x512_S1x7680x512_0_0_0 f
      ∗ slabPtO c ![1, 0, 0] inb_S7x7680x512_S1x7680x512_1_0_0 f
      ∗ slabPtO c ![2, 0, 0] inb_S7x7680x512_S1x7680x512_2_0_0 f
      ∗ slabPtO c ![3, 0, 0] inb_S7x7680x512_S1x7680x512_3_0_0 f
      ∗ slabPtO c ![4, 0, 0] inb_S7x7680x512_S1x7680x512_4_0_0 f
      ∗ slabPtO c ![5, 0, 0] inb_S7x7680x512_S1x7680x512_5_0_0 f
      ∗ slabPtO c ![6, 0, 0] inb_S7x7680x512_S1x7680x512_6_0_0 f) :=
  (slabs_split c f).trans (bigSep7 _)
theorem cols_split7 (c : Dev nD) (fw : HbBuf0 (F := F) c hbM0_1) :
    (hbPt0 c hbM0_1 fw : sProp 𝕄) = iprop(colPtO c ![0, 0] inb_S7680x3584_S7680x512_0_0 fw
      ∗ colPtO c ![0, 512] inb_S7680x3584_S7680x512_0_512 fw
      ∗ colPtO c ![0, 1024] inb_S7680x3584_S7680x512_0_1024 fw
      ∗ colPtO c ![0, 1536] inb_S7680x3584_S7680x512_0_1536 fw
      ∗ colPtO c ![0, 2048] inb_S7680x3584_S7680x512_0_2048 fw
      ∗ colPtO c ![0, 2560] inb_S7680x3584_S7680x512_0_2560 fw
      ∗ colPtO c ![0, 3072] inb_S7680x3584_S7680x512_0_3072 fw) :=
  (cols_split c fw).trans (bigSep7 _)

end Cert.Kernel.Hand

end
-- ==== Proof.Kernel.Tile.lean ====
/-
  What the output projection leaves at one element — the residual plus the scaled product of the codes and the
  weights, rounded once — and why one trip of the loop leaves exactly that on its 512 columns: the four lane tiles
  it stores, the slab it reads and the operands it loads, element by element.
-/
module

public import proofs.«01_k».proof.Proof.Kernel.Family
public import Idealize.ShloMosaic.Lib.Pointwise
public import Idealize.ShloMosaic.Lib.WritesUnit

@[expose] public section

set_option maxRecDepth 16384

noncomputable section

namespace Cert.Kernel.Hand

open Cert.Kernel Cert.Kernel.Gen
open Idealize.ShloMosaic Idealize.ShloMosaic.TcCoe Idealize.ShloMosaic.Tactic

variable {F : FTy → Type} [FloatOps F]

/-- The residual `x` plus the product `m` scaled by the row's scale and the column's, rounded to bf16. -/
def elt (m s p : F .f32) (x : F .bf16) : F .bf16 :=
  FloatOps.truncf .bf16 bitsLt_bf16_f32 (FloatOps.addf (FloatOps.extf .f32 bitsLt_bf16_f32 x) (FloatOps.mulf (FloatOps.mulf m s) p))

theorem elt_congr {m m' s s' p p' : F .f32} {x x' : F .bf16} (hm : m = m') (hs : s = s') (hp : p = p') (hx : x = x') :
    elt m s p x = elt m' s' p' x' := by rw [hm, hs, hp, hx]

/-- Columns `[512 n, 512 n + 512)` of the weights. -/
def wcol (fw : Vec F S7680x3584 .fp8e4m3) (n : Fin 7) : Vec F S7680x512 .fp8e4m3 :=
  fun i => fw (ix2 (i 0) ⟨512 * n.val + (i 1).val, by have := n.isLt; have h : (i 1).val < 512 := (i 1).isLt; omega⟩)

/-- The codes times those columns. -/
def mm (xq : Vec F S256x7680 .fp8e4m3) (fw : Vec F S7680x3584 .fp8e4m3) (n : Fin 7) : FVec F S256x512 .f32 :=
  matmul dot_S256x7680_S7680x512_S256x512_1_0_0_1_n_n none xq (wcol fw n) (constant S256x512 .f32 0x00000000#32)

/-- The result at element `i`. -/
def outAt (xq : Vec F S256x7680 .fp8e4m3) (fx : Vec F S256x3584 .bf16) (fp : Vec F S1x3584 .f32) (fs : Vec F S256x128 .f32)
    (fw : Vec F S7680x3584 .fp8e4m3) (i : S256x3584.Idx) : F .bf16 :=
  elt (mm xq fw ⟨(i 1).val / 512, by have h : (i 1).val < 3584 := (i 1).isLt; omega⟩
        (ix2 (i 0) ⟨(i 1).val % 512, Nat.mod_lt _ (by decide)⟩))
    (fs (ix2 (i 0) ⟨(i 1).val % 128, Nat.mod_lt _ (by decide)⟩)) (fp (ix2 0 (i 1))) (fx i)

theorem outAt_at (xq : Vec F S256x7680 .fp8e4m3) (fx : Vec F S256x3584 .bf16) (fp : Vec F S1x3584 .f32) (fs : Vec F S256x128 .f32)
    (fw : Vec F S7680x3584 .fp8e4m3) (n : Fin 7) (r : Fin 4) (a : Fin 256) (b : Fin 128) (i : S256x3584.Idx)
    (hi0 : i 0 = a) (hi1 : (i 1).val = 512 * n.val + 128 * r.val + b.val) :
    outAt xq fx fp fs fw i
      = elt (mm xq fw n (ix2 a ⟨128 * r.val + b.val, by have := r.isLt; have := b.isLt; omega⟩)) (fs (ix2 a b)) (fp (ix2 0 (i 1))) (fx i) := by
  have hr := r.isLt
  have hb := b.isLt
  unfold outAt
  have h1 : (⟨(i 1).val / 512, by have h : (i 1).val < 3584 := (i 1).isLt; omega⟩ : Fin 7) = n := Fin.ext (by show (i 1).val / 512 = n.val; omega)
  have h2 : (⟨(i 1).val % 512, Nat.mod_lt _ (by decide)⟩ : Fin 512) = ⟨128 * r.val + b.val, by omega⟩ := Fin.ext (by show (i 1).val % 512 = 128 * r.val + b.val; omega)
  have h3 : (⟨(i 1).val % 128, Nat.mod_lt _ (by decide)⟩ : Fin 128) = b := Fin.ext (by show (i 1).val % 128 = b.val; omega)
  rw [h1, h2, h3, hi0]

/-! ## The four payloads at an element -/

theorem pay4_eq (v68 : Vec F S256x7680 .fp8e4m3) (p : Vec F S7680x512 .fp8e4m3) (v71 : Vec F S1x7680x512 .fp8e4m3)
    (h : ∀ x, v71 x = p ((Shape.reshapeEquiv (Shape.Squeezes.numel_eq squeezes_S1x7680x512_S7680x512)).symm x)) :
    k0_pay4 v68 v71 = matmul dot_S256x7680_S7680x512_S256x512_1_0_0_1_n_n none v68 p (constant S256x512 .f32 0x00000000#32) := by
  have e : shapeCast S7680x512 v71 shapeCasts_S1x7680x512_S7680x512 = p := by
    funext y
    show v71 _ = _
    rw [h]
    exact congrArg p (Equiv.symm_apply_apply _ _)
  unfold k0_pay4
  simp only [e, shapeCast_id]

private theorem bcast (v : Vec F S1x128 .f32) (x : S256x128.Idx) : broadcastTo S256x128 v broadcasts_S1x128_S256x128 x = v (ix2 0 (x 1)) := by
  refine congrArg v (funext fun a => ?_)
  match a with
  | ⟨0, _⟩ => rfl
  | ⟨1, _⟩ => rfl
private theorem strip (off : Fin 2 → Nat) (v : FVec F S256x512 .f32) (h : S256x512.Slices off S256x128) (x : S256x128.Idx) (c : Fin 512) (h0 : off 0 = 0)
    (hc : c.val = off 1 + (x 1).val) : extractStridedSlice S256x128 off v h x = v (ix2 (x 0) c) := by
  refine congrArg v (funext fun a => ?_)
  match a with
  | ⟨0, _⟩ => exact Fin.ext (by show off 0 + (x 0).val = (x 0).val; rw [h0, Nat.zero_add])
  | ⟨1, _⟩ => exact Fin.ext hc.symm

theorem pay5_apply (v68 : Vec F S256x7680 .fp8e4m3) (v71 : Vec F S1x7680x512 .fp8e4m3) (v74 : Vec F S256x128 .f32) (p : Vec F S1x128 .f32)
    (xx : Vec F S256x128 .bf16) (x : S256x128.Idx) (c : Fin 512) (hc : c.val = 0 + (x 1).val) :
    k0_pay5 v68 v71 v74 p xx x = elt (k0_pay4 v68 v71 (ix2 (x 0) c)) (v74 x) (p (ix2 0 (x 1))) (xx x) := by
  rw [← strip ![0, 0] (k0_pay4 v68 v71) slices_S256x512_o0_0_S256x128 x c rfl hc, ← bcast p x]
  unfold k0_pay5
  simp only [shapeCast_id]
  rfl
theorem pay1_apply (v68 : Vec F S256x7680 .fp8e4m3) (v71 : Vec F S1x7680x512 .fp8e4m3) (v74 : Vec F S256x128 .f32) (p : Vec F S1x128 .f32)
    (xx : Vec F S256x128 .bf16) (x : S256x128.Idx) (c : Fin 512) (hc : c.val = 128 + (x 1).val) :
    k0_pay1 (k0_pay6 v68 v71 v74) p xx x = elt (k0_pay4 v68 v71 (ix2 (x 0) c)) (v74 x) (p (ix2 0 (x 1))) (xx x) := by
  rw [← strip ![0, 128] (k0_pay4 v68 v71) slices_S256x512_o0_128_S256x128 x c rfl hc, ← bcast p x]
  unfold k0_pay1 k0_pay6
  simp only [shapeCast_id]
  rfl
theorem pay2_apply (m : FVec F S256x512 .f32) (v74 : Vec F S256x128 .f32) (p : Vec F S1x128 .f32)
    (xx : Vec F S256x128 .bf16) (x : S256x128.Idx) (c : Fin 512) (hc : c.val = 256 + (x 1).val) :
    k0_pay2 m v74 p xx x = elt (m (ix2 (x 0) c)) (v74 x) (p (ix2 0 (x 1))) (xx x) := by
  rw [← strip ![0, 256] m slices_S256x512_o0_256_S256x128 x c rfl hc, ← bcast p x]
  unfold k0_pay2
  simp only [shapeCast_id]
  rfl
theorem pay3_apply (m : FVec F S256x512 .f32) (v74 : Vec F S256x128 .f32) (p : Vec F S1x128 .f32)
    (xx : Vec F S256x128 .bf16) (x : S256x128.Idx) (c : Fin 512) (hc : c.val = 384 + (x 1).val) :
    k0_pay3 m v74 p xx x = elt (m (ix2 (x 0) c)) (v74 x) (p (ix2 0 (x 1))) (xx x) := by
  rw [← strip ![0, 384] m slices_S256x512_o0_384_S256x128 x c rfl hc, ← bcast p x]
  unfold k0_pay3
  simp only [shapeCast_id]
  rfl

/-! ## What the trip's loads read -/

/-- What a view reads after its reshape was written whole. -/
theorem read_reshape_writes {κ : Kind} {sp : Space} {s s' : Shape} {e : EltTy} (v : View sig κ sp s e) (h : s'.numel = s.numel)
    (f : v.ty.Contents (Elt F)) (p : s'.Idx → Elt F e) (x : s.Idx) :
    v.read (Elt F) ((v.reshape s' h).writes (Elt F) f [⟨Rect.whole s', p⟩]) x = p ((Shape.reshapeEquiv h).symm x) := by
  have key := View.read_writes_cons_emb (v.reshape s' h) f (Rect.whole s') p [] ((Shape.reshapeEquiv h).symm x)
  have hw : (Rect.whole s').emb ((Shape.reshapeEquiv h).symm x) = (Shape.reshapeEquiv h).symm x :=
    funext fun a => Fin.ext (by show 0 + 1 * _ = _; omega)
  rw [hw] at key
  refine Eq.trans ?_ key
  generalize (v.reshape s' h).writes (Elt F) f [⟨Rect.whole s', p⟩] = g
  show v.read (Elt F) g x = v.read (Elt F) g (Shape.reshapeEquiv h ((Shape.reshapeEquiv h).symm x))
  rw [Equiv.apply_symm_apply]

/-- A load of the whole leading slab through the ring reads what was copied into that slab. -/
theorem slab_read (o2 o4 : Fin 3 → Nat) (h2 : ∀ a, o2 a + S1x7680x512.size a ≤ S7x7680x512.size a) (h4 : ∀ a, o4 a + S1x7680x512.size a ≤ S7x7680x512.size a)
    (e : o2 = o4) (f : (slabO o2 h2).view.ty.Contents (Elt F)) (p : Vec F S7680x512 .fp8e4m3) (x : S1x7680x512.Idx) :
    View.readAt (Elt F) scM0_2.view (Rect.unit (s := S7x7680x512) o4 S1x7680x512.size h4).toLoadRect
      ((slabO o2 h2).view.writes (Elt F) f [⟨Rect.whole S7680x512, p⟩]) x
      = p ((Shape.reshapeEquiv (Shape.Squeezes.numel_eq squeezes_S1x7680x512_S7680x512)).symm x) := by
  subst e
  exact read_reshape_writes (scM0_2.view.slice (Rect.unit (s := S7x7680x512) o2 S1x7680x512.size h2)) (Shape.Squeezes.numel_eq squeezes_S1x7680x512_S7680x512) f p x

theorem col_read (o3 : Fin 2 → Nat) (h3 : ∀ a, o3 a + S7680x512.size a ≤ S7680x3584.size a) (n : Fin 7) (e : o3 = ![0, 512 * n.val])
    (fw : Vec F S7680x3584 .fp8e4m3) : (colO o3 h3).view.read (Elt F) fw = wcol fw n := by
  subst e
  funext i
  show fw _ = fw _
  refine congrArg fw (funext fun a => ?_)
  match a with
  | ⟨0, _⟩ => exact Fin.ext (by show 0 + 1 * (i 0).val = (i 0).val; omega)
  | ⟨1, _⟩ => exact Fin.ext (by show 512 * n.val + 1 * (i 1).val = 512 * n.val + (i 1).val; omega)

/-- A load of the whole operand at offset zero. -/
theorem readAt_zero {sp : Space} {S : Shape} {e : EltTy} (M : Memref sig .tc sp S e) (o : Fin S.rank → Nat) (ho : ∀ a, o a = 0)
    (h : ∀ a, o a + S.size a ≤ S.size a) (f : M.view.ty.Contents (Elt F)) :
    View.readAt (Elt F) M.view (Rect.unit o S.size h).toLoadRect f = M.view.read (Elt F) f := by
  funext x
  show M.view.read (Elt F) f _ = M.view.read (Elt F) f x
  congr 1
  funext a
  exact Fin.ext (by show o a + 1 * (x a).val = (x a).val; rw [ho a]; omega)

/-- A load of 128 of the column scales, or of a lane tile of the residual, at an element. -/
theorem scale_read (o : Fin 2 → Nat) (h : ∀ a, o a + S1x128.size a ≤ S1x3584.size a) (n : Nat) (e : o = ![0, n]) (fp : Vec F S1x3584 .f32)
    (b : Fin 128) (c : Fin 3584) (hc : c.val = n + b.val) :
    View.readAt (Elt F) scM0_1.view (Rect.unit (s := S1x3584) o S1x128.size h).toLoadRect fp (ix2 0 b) = fp (ix2 0 c) := by
  subst e
  show fp _ = fp _
  refine congrArg fp (funext fun a => ?_)
  match a with
  | ⟨0, _⟩ => rfl
  | ⟨1, _⟩ => exact Fin.ext (by show n + 1 * b.val = c.val; omega)
theorem resid_read (o : Fin 2 → Nat) (h : ∀ a, o a + S256x128.size a ≤ S256x3584.size a) (n : Nat) (e : o = ![0, n]) (fx : Vec F S256x3584 .bf16)
    (x : S256x128.Idx) (i : S256x3584.Idx) (h0 : i 0 = x 0) (h1 : (i 1).val = n + (x 1).val) :
    View.readAt (Elt F) scM0_0.view (Rect.unit (s := S256x3584) o S256x128.size h).toLoadRect fx x = fx i := by
  subst e
  show fx _ = fx _
  refine congrArg fx (funext fun a => ?_)
  match a with
  | ⟨0, _⟩ => exact Fin.ext (by show 0 + 1 * (x 0).val = (i 0).val; rw [h0]; omega)
  | ⟨1, _⟩ => exact Fin.ext (by show n + 1 * (x 1).val = (i 1).val; omega)

/-! ## Columns done -/

/-- Columns before `512 k` hold the result `G`. -/
def Done (G : S256x3584.Idx → Elt F .bf16) (k : Nat) (fo : Vec F S256x3584 .bf16) : Prop :=
  ∀ i : S256x3584.Idx, (i 1).val < 512 * k → fo i = G i

/-- Four lane tiles of `G` stored side by side at column `512 k` take the columns done from `k` to `k + 1`. -/
theorem done_step (G : S256x3584.Idx → Elt F .bf16) (k : Nat) (hk : k < 7) (fo : Vec F S256x3584 .bf16) (hfo : Done G k fo)
    (o0 o1 o2 o3 : Fin 2 → Nat) (h0 : ∀ a, o0 a + S256x128.size a ≤ S256x3584.size a) (h1 : ∀ a, o1 a + S256x128.size a ≤ S256x3584.size a)
    (h2 : ∀ a, o2 a + S256x128.size a ≤ S256x3584.size a) (h3 : ∀ a, o3 a + S256x128.size a ≤ S256x3584.size a)
    (e0 : o0 = ![0, 512 * k + 128 * 0]) (e1 : o1 = ![0, 512 * k + 128 * 1]) (e2 : o2 = ![0, 512 * k + 128 * 2]) (e3 : o3 = ![0, 512 * k + 128 * 3])
    (p0 p1 p2 p3 : S256x128.Idx → Elt F .bf16)
    (q0 : ∀ (x : S256x128.Idx) (i : S256x3584.Idx), i 0 = x 0 → (i 1).val = 512 * k + 128 * 0 + (x 1).val → p0 x = G i)
    (q1 : ∀ (x : S256x128.Idx) (i : S256x3584.Idx), i 0 = x 0 → (i 1).val = 512 * k + 128 * 1 + (x 1).val → p1 x = G i)
    (q2 : ∀ (x : S256x128.Idx) (i : S256x3584.Idx), i 0 = x 0 → (i 1).val = 512 * k + 128 * 2 + (x 1).val → p2 x = G i)
    (q3 : ∀ (x : S256x128.Idx) (i : S256x3584.Idx), i 0 = x 0 → (i 1).val = 512 * k + 128 * 3 + (x 1).val → p3 x = G i) :
    Done G (k + 1) (scM0_4.view.writes (Elt F) fo
      [⟨Rect.unit (s := S256x3584) o3 S256x128.size h3, p3⟩, ⟨Rect.unit (s := S256x3584) o2 S256x128.size h2, p2⟩,
        ⟨Rect.unit (s := S256x3584) o1 S256x128.size h1, p1⟩, ⟨Rect.unit (s := S256x3584) o0 S256x128.size h0, p0⟩]) := by
  intro i hi
  have hrd : ∀ g : scM0_4.view.ty.Contents (Elt F), g i = scM0_4.view.read (Elt F) g i := fun _ => rfl
  refine (hrd _).trans ?_
  have hin : ∀ r, r < 4 → 512 * k + 128 * r ≤ (i 1).val → (i 1).val < 512 * k + 128 * r + 128 →
      ∃ x : S256x128.Idx, i 0 = x 0 ∧ (i 1).val = 512 * k + 128 * r + (x 1).val := fun r hr ha hb =>
    ⟨ix2 (i 0) ⟨(i 1).val - (512 * k + 128 * r), by omega⟩, rfl, by show (i 1).val = 512 * k + 128 * r + ((i 1).val - (512 * k + 128 * r)); omega⟩
  have hco : ∀ (r : Nat) (x : S256x128.Idx), i 0 = x 0 → (i 1).val = 512 * k + 128 * r + (x 1).val →
      ∀ a : Fin 2, (i a).val = (![0, 512 * k + 128 * r] : Fin 2 → Nat) a + (x a).val := by
    intro r x hx0 hx1 a
    match a with
    | ⟨0, _⟩ => show (i 0).val = 0 + (x 0).val; rw [hx0]; omega
    | ⟨1, _⟩ => exact hx1
  by_cases c3 : 512 * k + 128 * 3 ≤ (i 1).val
  · obtain ⟨x, hx0, hx1⟩ := hin 3 (by omega) c3 (by omega)
    rw [View.read_writes_cons_unit_of_mem scM0_4.view fo h3 p3 _ i x e3 (hco 3 x hx0 hx1)]
    exact q3 x i hx0 hx1
  rw [View.read_writes_cons_unit_of_not_mem scM0_4.view fo h3 p3 _ i e3 1 (Or.inl (by show (i 1).val < 512 * k + 128 * 3; omega))]
  by_cases c2 : 512 * k + 128 * 2 ≤ (i 1).val
  · obtain ⟨x, hx0, hx1⟩ := hin 2 (by omega) c2 (by omega)
    rw [View.read_writes_cons_unit_of_mem scM0_4.view fo h2 p2 _ i x e2 (hco 2 x hx0 hx1)]
    exact q2 x i hx0 hx1
  rw [View.read_writes_cons_unit_of_not_mem scM0_4.view fo h2 p2 _ i e2 1 (Or.inl (by show (i 1).val < 512 * k + 128 * 2; omega))]
  by_cases c1 : 512 * k + 128 * 1 ≤ (i 1).val
  · obtain ⟨x, hx0, hx1⟩ := hin 1 (by omega) c1 (by omega)
    rw [View.read_writes_cons_unit_of_mem scM0_4.view fo h1 p1 _ i x e1 (hco 1 x hx0 hx1)]
    exact q1 x i hx0 hx1
  rw [View.read_writes_cons_unit_of_not_mem scM0_4.view fo h1 p1 _ i e1 1 (Or.inl (by show (i 1).val < 512 * k + 128 * 1; omega))]
  by_cases c0 : 512 * k + 128 * 0 ≤ (i 1).val
  · obtain ⟨x, hx0, hx1⟩ := hin 0 (by omega) c0 (by omega)
    rw [View.read_writes_cons_unit_of_mem scM0_4.view fo h0 p0 _ i x e0 (hco 0 x hx0 hx1)]
    exact q0 x i hx0 hx1
  rw [View.read_writes_cons_unit_of_not_mem scM0_4.view fo h0 p0 _ i e0 1 (Or.inl (by show (i 1).val < 512 * k + 128 * 0; omega))]
  exact hfo i (by omega)

end Cert.Kernel.Hand

end
-- ==== Proof.Kernel.Loop.lean ====
/-
  The loop over the seven column windows, one trip at a symbolic index: the trip waits for its own copy, works on
  the slab it filled, and leaves its 512 columns of the output scratch at the result. The invariant the loop runs
  by follows from it.
-/
module

public import proofs.«01_k».proof.Proof.Kernel.Tile

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- Before trip `k`: the copies from `k` on in flight, the operands at their contents, the columns before `512 k` of
    the output scratch done. -/
def inv (c : Dev nD) (arg3 : Memref sig .tc .vmem S256x7680 .fp8e4m3)
    (fq : HbBuf0 (F := F) c arg3) (fx : HbBuf0 (F := F) c scM0_0) (fp : HbBuf0 (F := F) c scM0_1) (fs : HbBuf0 (F := F) c scM0_3)
    (fw : HbBuf0 (F := F) c hbM0_1) (k : Nat) : sProp 𝕄 :=
  iprop(Ring.AtW (Φ c fw) (stK k) ∗ hbPt0 c arg3 fq ∗ hbPt0 c scM0_0 fx ∗ hbPt0 c scM0_1 fp ∗ hbPt0 c scM0_3 fs
    ∗ (∃ fo : HbBuf0 (F := F) c scM0_4, ⌜Done (outAt (arg3.view.read (Elt F) fq) fx fp fs fw) k fo⌝ ∗ hbPt0 c scM0_4 fo)
    ∗ ∃ W, owes (c : Thread nD τ) 0 W)

set_option maxHeartbeats 1228000 in
/-- One trip. -/
theorem trip (c : Dev nD) (arg3 : Memref sig .tc .vmem S256x7680 .fp8e4m3) (harg3 : arg3.IsWhole) (arg4 : Memref sig .tc .vmem S2x128 .f32) (harg4 : arg4.IsWhole)
    (fq : HbBuf0 (F := F) c arg3) (fx : HbBuf0 (F := F) c scM0_0) (fp : HbBuf0 (F := F) c scM0_1) (fs : HbBuf0 (F := F) c scM0_3)
    (fw : HbBuf0 (F := F) c hbM0_1) (w : BitVec 32) (k : Fin k0_t1_loop.trips) :
    inv c arg3 fq fx fp fs fw k.val
      ⊢ wp frame (wpE (defs₀ (F := F)) Variants.none c none) Set.univ
          (k0_t1_body hbM0_0 (Memref.isWhole_whole _) hbM0_1 (Memref.isWhole_whole _) hbM0_2 (Memref.isWhole_whole _) arg3 harg3 arg4 harg4
            hbM0_3 (Memref.isWhole_whole _) scM0_0 (Memref.isWhole_whole _) scM0_1 (Memref.isWhole_whole _) scM0_2 (Memref.isWhole_whole _)
            scM0_3 (Memref.isWhole_whole _) scM0_4 (Memref.isWhole_whole _) cc0_scratch5 cc0_scratch6 cc0_scratch7 cc0_scratch8 w k ())
          (fun _ => inv c arg3 fq fx fp fs fw (k.val + 1)) := by
  have hk : k.val < 7 := trips_eq ▸ k.isLt
  unfold inv
  rw [← stK_succ k, Ring.AtW_focus (Φ c fw) (stK k.val) (tK k)]
  iintro ⟨⟨Hk, Hrest⟩, H3, H6, H7, H9, ⟨%fo, %hfo, H10⟩, %W, HO⟩
  simp only [Φ, stK_self, ↓reduceIte, inflight_trip]
  icases Hk with ⟨%f, Hfl⟩
  unfold k0_t1_body
  simp only [k0_part1_eq_skeleton]
  sl_exec
  sl_step
  isplitl [Hrest Hfl_dst Hfl_src Hfl]
  · iapply (Ring.AtW_update (Φ c fw) (stK k.val) (tK k) false)
    isplitr [Hrest]
    · simp only [Φ, Bool.false_eq_true, ↓reduceIte, landed_trip]
      isplitl [Hfl]; · iexact Hfl
      isplitl [Hfl_dst]; · iexists _; iexact Hfl_dst
      iexact Hfl_src
    · iexact Hrest
  isplitl [H3]; · iexact H3
  isplitl [H6]; · iexact H6
  isplitl [H7]; · iexact H7
  isplitl [H9]; · iexact H9
  isplitl [H10]
  · iexists _
    isplitr; swap; · iexact H10
    ipureintro
    have hq : View.readAt (Elt F) arg3.view (Rect.unit ![0, 0] S256x7680.size inb_S256x7680_S256x7680_0_0).toLoadRect fq = arg3.view.read (Elt F) fq :=
      readAt_zero arg3 ![0, 0] (by intro a; fin_cases a <;> rfl) _ fq
    have hs : View.readAt (Elt F) scM0_3.view (Rect.unit ![0, 0] S256x128.size inb_S256x128_S256x128_0_0).toLoadRect fs = fs :=
      readAt_zero scM0_3 ![0, 0] (by intro a; fin_cases a <;> rfl) _ fs
    have hm : k0_pay4 (View.readAt (Elt F) arg3.view (Rect.unit ![0, 0] S256x7680.size inb_S256x7680_S256x7680_0_0).toLoadRect fq) (trip.sl.v71 c fw k)
        = mm (arg3.view.read (Elt F) fq) fw (tK k) := by
      rw [hq]
      exact pay4_eq _ _ _ fun x => (slab_read (k0_off2 k) (k0_off4 k) (k0_off2_inb k) (k0_off4_inb k)
        ((k0_off2_eq k).trans (k0_off4_eq k).symm) _ _ x).trans
        (congrFun (col_read (k0_off3 k) (k0_off3_inb k) (tK k) (k0_off3_eq k) fw) _)
    have hr : trip.sl.r c arg3 fq fw k = mm (arg3.view.read (Elt F) fq) fw (tK k) := hm
    have hr1 : trip.sl.r_1 c fs = fs := hs
    refine done_step _ k.val hk fo hfo _ _ _ _ _ _ _ _ (k0_off6_eq k 0) (k0_off6_eq k 1) (k0_off6_eq k 2) (k0_off6_eq k 3) _ _ _ _ ?_ ?_ ?_ ?_
    · intro x i h0 h1
      rw [outAt_at _ fx fp fs fw (tK k) 0 (x 0) (x 1) i h0 h1,
        pay5_apply _ _ _ _ _ x ⟨128 * 0 + (x 1).val, by have h : (x 1).val < 128 := (x 1).isLt; omega⟩ rfl, hm, hs]
      exact elt_congr rfl (congrArg fs (eq_ix2 x)) (scale_read _ _ _ (k0_off5_eq k 0) fp (x 1) (i 1) h1)
        (resid_read _ _ _ (k0_off6_eq k 0) fx x i h0 h1)
    · intro x i h0 h1
      unfold trip.sl.r_2
      rw [outAt_at _ fx fp fs fw (tK k) 1 (x 0) (x 1) i h0 h1,
        pay1_apply _ _ _ _ _ x ⟨128 * 1 + (x 1).val, by have h : (x 1).val < 128 := (x 1).isLt; omega⟩ rfl, hm, hs]
      exact elt_congr rfl (congrArg fs (eq_ix2 x)) (scale_read _ _ _ (k0_off5_eq k 1) fp (x 1) (i 1) h1)
        (resid_read _ _ _ (k0_off6_eq k 1) fx x i h0 h1)
    · intro x i h0 h1
      rw [outAt_at _ fx fp fs fw (tK k) 2 (x 0) (x 1) i h0 h1,
        pay2_apply _ _ _ _ x ⟨128 * 2 + (x 1).val, by have h : (x 1).val < 128 := (x 1).isLt; omega⟩ rfl, hr, hr1]
      exact elt_congr rfl (congrArg fs (eq_ix2 x)) (scale_read _ _ _ (k0_off5_eq k 2) fp (x 1) (i 1) h1)
        (resid_read _ _ _ (k0_off6_eq k 2) fx x i h0 h1)
    · intro x i h0 h1
      rw [outAt_at _ fx fp fs fw (tK k) 3 (x 0) (x 1) i h0 h1,
        pay3_apply _ _ _ _ x ⟨128 * 3 + (x 1).val, by have h : (x 1).val < 128 := (x 1).isLt; omega⟩ rfl, hr, hr1]
      exact elt_congr rfl (congrArg fs (eq_ix2 x)) (scale_read _ _ _ (k0_off5_eq k 3) fp (x 1) (i 1) h1)
        (resid_read _ _ _ (k0_off6_eq k 3) fx x i h0 h1)
  iexists _; iexact HO

end Cert.Kernel.Hand

end
-- ==== Proof.Kernel.Run.lean ====
module

public import proofs.«01_k».proof.Proof.Kernel.Loop

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The row scales -/

/-- Row `r`'s scale across its lanes: the scales come 128 to a row. -/
def ysc (ys : Vec F S2x128 .f32) : Vec F S256x128 .f32 :=
  fun i => ys (ix2 ⟨(i 0).val / 128, by have h : (i 0).val < 256 := (i 0).isLt; omega⟩ ⟨(i 0).val % 128, Nat.mod_lt _ (by decide)⟩)

theorem pay7_apply (v : Vec F S1x128 .f32) (x : S128x128.Idx) : k0_pay7 v x = v (ix2 0 (x 0)) := by
  unfold k0_pay7
  simp only [shapeCast_id]
  refine congrArg v (funext fun a => ?_)
  match a with
  | ⟨0, _⟩ => rfl
  | ⟨1, _⟩ => rfl
theorem pay8_apply (v : Vec F S1x128 .f32) (x : S128x128.Idx) : k0_pay8 v x = v (ix2 0 (x 0)) := by
  unfold k0_pay8
  simp only [shapeCast_id]
  refine congrArg v (funext fun a => ?_)
  match a with
  | ⟨0, _⟩ => rfl
  | ⟨1, _⟩ => rfl

theorem row_read {sp : Space} (M : Memref sig .tc sp S2x128 .f32) (o : Fin 2 → Nat) (h : ∀ a, o a + S1x128.size a ≤ S2x128.size a) (n : Fin 2)
    (e : o = ![n.val, 0]) (f : M.view.ty.Contents (Elt F)) (b : Fin 128) :
    View.readAt (Elt F) M.view (Rect.unit (s := S2x128) o S1x128.size h).toLoadRect f (ix2 0 b) = M.view.read (Elt F) f (ix2 n b) := by
  subst e
  show M.view.read (Elt F) f _ = M.view.read (Elt F) f _
  congr 1
  funext a
  match a with
  | ⟨0, _⟩ => exact Fin.ext (by show n.val + 1 * 0 = n.val; omega)
  | ⟨1, _⟩ => exact Fin.ext (by show 0 + 1 * b.val = b.val; omega)

/-- The two tiles stored hold the row scales. -/
theorem ysc_writes {sp : Space} (M : Memref sig .tc sp S2x128 .f32) (fy : M.view.ty.Contents (Elt F)) (f : scM0_3.view.ty.Contents (Elt F))
    (h0 : ∀ a, (![0, 0] : Fin 2 → Nat) a + S128x128.size a ≤ S256x128.size a) (h1 : ∀ a, (![128, 0] : Fin 2 → Nat) a + S128x128.size a ≤ S256x128.size a)
    (g0 : ∀ a, (![0, 0] : Fin 2 → Nat) a + S1x128.size a ≤ S2x128.size a) (g1 : ∀ a, (![1, 0] : Fin 2 → Nat) a + S1x128.size a ≤ S2x128.size a) :
    scM0_3.view.writes (Elt F) f
      [⟨Rect.unit (s := S256x128) ![128, 0] S128x128.size h1, k0_pay8 (View.readAt (Elt F) M.view (Rect.unit (s := S2x128) ![1, 0] S1x128.size g1).toLoadRect fy)⟩,
        ⟨Rect.unit (s := S256x128) ![0, 0] S128x128.size h0, k0_pay7 (View.readAt (Elt F) M.view (Rect.unit (s := S2x128) ![0, 0] S1x128.size g0).toLoadRect fy)⟩]
      = ysc (M.view.read (Elt F) fy) := by
  funext i
  have hi : (i 0).val < 256 := (i 0).isLt
  have hrd : ∀ g : scM0_3.view.ty.Contents (Elt F), g i = scM0_3.view.read (Elt F) g i := fun _ => rfl
  refine (hrd _).trans ?_
  unfold ysc
  by_cases c : 128 ≤ (i 0).val
  · rw [View.read_writes_cons_unit_of_mem scM0_3.view f h1 _ _ i (ix2 ⟨(i 0).val - 128, by omega⟩ (i 1)) rfl (fun a => by
      match a with
      | ⟨0, _⟩ => show (i 0).val = 128 + ((i 0).val - 128); omega
      | ⟨1, _⟩ => show (i 1).val = 0 + (i 1).val; omega)]
    rw [pay8_apply]
    refine (row_read M _ g1 1 rfl fy _).trans ?_
    congr 2
    · exact Fin.ext (by show 1 = (i 0).val / 128; omega)
    · exact Fin.ext (by show (i 0).val - 128 = (i 0).val % 128; omega)
  · rw [View.read_writes_cons_unit_of_not_mem scM0_3.view f h1 _ _ i rfl 0 (Or.inl (by show (i 0).val < 128; omega))]
    rw [View.read_writes_cons_unit_of_mem scM0_3.view f h0 _ _ i (ix2 ⟨(i 0).val, by omega⟩ (i 1)) rfl (fun a => by
      match a with
      | ⟨0, _⟩ => show (i 0).val = 0 + (i 0).val; omega
      | ⟨1, _⟩ => show (i 1).val = 0 + (i 1).val; omega)]
    rw [pay7_apply]
    refine (row_read M _ g0 0 rfl fy _).trans ?_
    congr 2
    · exact Fin.ext (by show 0 = (i 0).val / 128; omega)
    · exact Fin.ext (by show (i 0).val = (i 0).val % 128; omega)

/-- The seven copies just started are the family before the first trip. -/
theorem pack (c : Dev nD) (fw : HbBuf0 (F := F) c hbM0_1) :
    (iprop(inflight c fw 0 ∗ inflight c fw 1 ∗ inflight c fw 2 ∗ inflight c fw 3 ∗ inflight c fw 4 ∗ inflight c fw 5 ∗ inflight c fw 6) : sProp 𝕄)
      ⊢ Ring.AtW (Φ c fw) (stK 0) := by
  unfold Ring.AtW
  rw [bigSep7]
  exact .rfl

/-- After the last trip the family is the weights whole, the scratch whole at something and the cells at zero. -/
theorem unpack (c : Dev nD) (fw : HbBuf0 (F := F) c hbM0_1) (f0 : HbBuf0 (F := F) c scM0_2) :
    (Ring.AtW (Φ c fw) (stK 7) : sProp 𝕄)
      ⊢ iprop((semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0) ∗ (∃ f, hbPt0 c scM0_2 f) ∗ hbPt0 c hbM0_1 fw) := by
  have e : (Ring.AtW (Φ c fw) (stK 7) : sProp 𝕄) = bigSep Finset.univ fun j => landed c fw j := by
    unfold Ring.AtW
    refine BI.bigSep_congr fun j _ => ?_
    have h : stK 7 j = false := by have := j.isLt; simp [stK]
    rw [h]; rfl
  have e2 : (bigSep Finset.univ fun j => landed c fw j : sProp 𝕄)
      = iprop((bigSep Finset.univ fun j : Fin 7 => semVal ((c : Thread nD τ), cellO ![j.val] (inbCell j)) 0)
        ∗ (bigSep Finset.univ fun j => iprop(∃ f, slabPt c j f)) ∗ bigSep Finset.univ fun j => colPt c j fw) := by
    rw [← bigSep_sep', ← bigSep_sep']; rfl
  rw [e, e2, ← cols_split, bigSep7]
  iintro ⟨H, Hs, Hc⟩
  isplitl [H]; · iexact H
  isplitl [Hs]; · iapply (slabs_join c f0); iexact Hs
  iexact Hc

set_option maxHeartbeats 1228000 in
set_option sl_exec.dmaWindow true in set_option sl_exec.dmaWindowSet true in
/-- The body's triple. -/
theorem run (c : Dev nD) (arg3 : Memref sig .tc .vmem S256x7680 .fp8e4m3) (harg3 : arg3.IsWhole) (arg4 : Memref sig .tc .vmem S2x128 .f32) (harg4 : arg4.IsWhole)
    (fq : HbBuf0 (F := F) c arg3) (fy : HbBuf0 (F := F) c arg4) (fx : HbBuf0 (F := F) c hbM0_0) (fw : HbBuf0 (F := F) c hbM0_1) (fp : HbBuf0 (F := F) c hbM0_2)
    (W : Waits sig Unit) (K : PUnit → sProp 𝕄) :
    iprop(hbPt0 c arg3 fq ∗ hbPt0 c arg4 fy ∗ (∃ f, hbPt0 c scM0_0 f) ∗ (∃ f, hbPt0 c scM0_1 f) ∗ (∃ f, hbPt0 c scM0_2 f) ∗ (∃ f, hbPt0 c scM0_3 f) ∗ (∃ f, hbPt0 c scM0_4 f) ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0
        ∗ hbPt0 c hbM0_0 fx ∗ hbPt0 c hbM0_1 fw ∗ hbPt0 c hbM0_2 fp ∗ (∃ f, hbPt0 c hbM0_3 f) ∗ owes (c : Thread nD τ) 0 W
        ∗ (iprop(hbPt0 c arg3 fq ∗ hbPt0 c arg4 fy ∗ (∃ f, hbPt0 c scM0_0 f) ∗ (∃ f, hbPt0 c scM0_1 f) ∗ (∃ f, hbPt0 c scM0_2 f) ∗ (∃ f, hbPt0 c scM0_3 f) ∗ (∃ f, hbPt0 c scM0_4 f) ∗ semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0
        ∗ hbPt0 c hbM0_0 fx ∗ hbPt0 c hbM0_1 fw ∗ hbPt0 c hbM0_2 fp
        ∗ hbPt0 c hbM0_3 (outAt (arg3.view.read (Elt F) fq) fx fp (ysc (arg4.view.read (Elt F) fy)) fw) ∗ ∃ W, owes (c : Thread nD τ) 0 W) -∗ K ⟨⟩))
      ⊢ wp frame (wpE (defs₀ (F := F)) Variants.none c none) Set.univ
          (cc0_mamba2_layer hbM0_0 (Memref.isWhole_whole _) hbM0_1 (Memref.isWhole_whole _) hbM0_2 (Memref.isWhole_whole _) arg3 harg3 arg4 harg4
            hbM0_3 (Memref.isWhole_whole _) scM0_0 (Memref.isWhole_whole _) scM0_1 (Memref.isWhole_whole _) scM0_2 (Memref.isWhole_whole _)
            scM0_3 (Memref.isWhole_whole _) scM0_4 (Memref.isWhole_whole _) cc0_scratch5 cc0_scratch6 cc0_scratch7 cc0_scratch8) K := by
  iintro ⟨H3, H4, ⟨%d0, HS0⟩, ⟨%d1, HS1⟩, ⟨%d2, HS2⟩, ⟨%d3, HS3⟩, ⟨%d4, HS4⟩, Hq0, Hq1, Hq2, Hq3, Hq4, Hq5, Hq6, Hq7, Hq8, Hq9, Hh0, Hh1, Hh2, ⟨%fr, Hh3⟩, HO, HK⟩
  ihave HA := (BIBase.Entails.of_eq (slabs_split7 c d2)) $$ HS2
  ihave HB := (BIBase.Entails.of_eq (cols_split7 c fw)) $$ Hh1
  icases HA with ⟨HA0, HA1, HA2, HA3, HA4, HA5, HA6⟩
  icases HB with ⟨HB0, HB1, HB2, HB3, HB4, HB5, HB6⟩
  simp only [cc0_mamba2_layer_eq_skeleton]; unfold cc0_mamba2_layer_skel
  simp only [k0_part2_eq_skeleton, k0_part3_eq_skeleton]
  sl_exec
  ihave HI := (pack c fw) $$ [Hq2 Hq3 Hq4 Hq5 Hq6 Hq7 Hq8]
  · unfold inflight inflightO
    isplitl [Hq2]; · iexists _; iexact Hq2
    isplitl [Hq3]; · iexists _; iexact Hq3
    isplitl [Hq4]; · iexists _; iexact Hq4
    isplitl [Hq5]; · iexists _; iexact Hq5
    isplitl [Hq6]; · iexists _; iexact Hq6
    isplitl [Hq7]; · iexists _; iexact Hq7
    iexists _; iexact Hq8
  ihave HS3' := (show hbPt0 c scM0_3 (scM0_3.view.writes (Elt F) scM0_3.view.junk (run.sl.HS3_2 c arg4 fy)) ⊢ hbPt0 c scM0_3 (ysc (arg4.view.read (Elt F) fy)) from
    .of_eq (congrArg (fun f => hbPt0 c scM0_3 f) (ysc_writes arg4 fy scM0_3.view.junk _ _ _ _))) $$ HS3
  ihave HS0' := (show hbPt0 c scM0_0 (View.write (Elt F) scM0_0.view d0 (run.sl.dma0 c fx) Finset.univ) ⊢ hbPt0 c scM0_0 fx from .of_eq (congrArg (fun f => hbPt0 c scM0_0 f) (View.write_whole_univ _ _ _))) $$ HS0
  ihave HS1' := (show hbPt0 c scM0_1 (View.write (Elt F) scM0_1.view d1 (run.sl.dma0_1 c fp) Finset.univ) ⊢ hbPt0 c scM0_1 fp from .of_eq (congrArg (fun f => hbPt0 c scM0_1 f) (View.write_whole_univ _ _ _))) $$ HS1
  sl_for (fun k _ => inv c arg3 fq fx fp (ysc (arg4.view.read (Elt F) fy)) fw k) $$ [HI H3 HS0' HS1' HS3' HS4 HO]
  case region => exact fun k _ => trip c arg3 harg3 arg4 harg4 fq fx fp (ysc (arg4.view.read (Elt F) fy)) fw 0#32 k
  · unfold inv
    isplitl [HI]; · iexact HI
    isplitl [H3]; · iexact H3
    isplitl [HS0']; · iexact HS0'
    isplitl [HS1']; · iexact HS1'
    isplitl [HS3']; · iexact HS3'
    isplitl [HS4]
    · iexists d4
      isplitr
      · ipureintro; intro i hi; exact absurd hi (by omega)
      · iexact HS4
    · iexists _; iexact HO
  iintro %acc HL
  ihave HL7 := (show inv c arg3 fq fx fp (ysc (arg4.view.read (Elt F) fy)) fw (Scf.trips k0_t1_loop.lb k0_t1_loop.ub k0_t1_loop.st)
    ⊢ inv c arg3 fq fx fp (ysc (arg4.view.read (Elt F) fy)) fw 7 from .rfl) $$ HL
  unfold inv
  icases HL7 with ⟨HI, H3, HS0, HS1, HS3, ⟨%fo, %hfo, HS4⟩, ⟨%W', HO⟩⟩
  ihave HU := (unpack c fw d2) $$ HI
  icases HU with ⟨⟨Hq2, Hq3, Hq4, Hq5, Hq6, Hq7, Hq8⟩, ⟨%d2', HS2⟩, Hh1⟩
  have hG : fo = outAt (arg3.view.read (Elt F) fq) fx fp (ysc (arg4.view.read (Elt F) fy)) fw :=
    funext fun i => hfo i (by have h : (i 1).val < 3584 := (i 1).isLt; omega)
  subst hG
  sl_exec
  sl_step
  ihave Hh3' := (show hbPt0 c hbM0_3 (View.write (Elt F) hbM0_3.view fr (run.sl.dma0_9 c arg3 arg4 fq fy fx fw fp) Finset.univ)
    ⊢ hbPt0 c hbM0_3 (outAt (arg3.view.read (Elt F) fq) fx fp (ysc (arg4.view.read (Elt F) fy)) fw) from
    .of_eq (congrArg (fun f => hbPt0 c hbM0_3 f) (View.write_whole_univ _ _ _))) $$ Hh3
  iapply HK
  isplitl [H3]; · iexact H3
  isplitl [H4]; · iexact H4
  isplitl [HS0]; · iexists _; iexact HS0
  isplitl [HS1]; · iexists _; iexact HS1
  isplitl [HS2]; · iexists _; iexact HS2
  isplitl [HS3]; · iexists _; iexact HS3
  isplitl [HS4]; · iexists _; iexact HS4
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hh0]; · iexact Hh0
  isplitl [Hh1]; · iexact Hh1
  isplitl [Hh2]; · iexact Hh2
  isplitl [Hh3']; · iexact Hh3'
  iexists _; iexact HO

end Cert.Kernel.Hand

end
-- ==== Proof.Kernel.Frame.lean ====
/-
  The whole run of the output projection: the body's triple at the one grid point, the launch, the frame claim and what
  the result array holds at the end, as a function of the operands the region finds.
-/
module

public import proofs.«01_k».proof.Proof.Kernel.Run

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the result holds -/

/-- The one grid point. -/
abbrev t0 : Fin cfg0.N := ⟨0, by decide⟩
theorem eq_t0 (t : Fin cfg0.N) : t = t0 := Fin.ext (Nat.lt_one_iff.mp t.isLt)

/-- The codes and the scales the body is handed. -/
abbrev codes (c : Dev nD) : Vec F S256x7680 .fp8e4m3 := iblk m c 0 t0
abbrev scales (c : Dev nD) : Vec F S2x128 .f32 := iblk m c 1 t0

/-- The result array at the end, -/
def out (c : Dev nD) : Vec F S256x3584 .bf16 :=
  outAt (codes m c) (V m c main_v0) (V m c main_v1) (ysc (scales m c)) (V m c main_arg3)
/-- and every buffer the body writes (that one). -/
def G (c : Dev nD) : (b : Ref sig .tc) → Buf (Elt F) ((c : Thread nD τ).loc b) :=
  Function.update (V m c) main_v3 (out m c)
theorem G_eq (c : Dev nD) : G m c main_v3 = out m c := Function.update_self _ _ _

/-- The invariant at written contents `Y`, conjunct by conjunct. -/
theorem PhiG_eq (Y : (c : Dev nD) → (b : Ref sig .tc) → Buf (Elt F) ((c : Thread nD τ).loc b)) (c : Dev nD) :
    (Pipeline.ΦDRG osem0 spec0 H0 R0 (V m) Y c : sProp 𝕄)
      = iprop(iprop((∃ d, hbPt0 c scM0_0 d) ∗ (∃ d, hbPt0 c scM0_1 d) ∗ (∃ d, hbPt0 c scM0_2 d) ∗ (∃ d, hbPt0 c scM0_3 d) ∗ (∃ d, hbPt0 c scM0_4 d)) ∗ (∃ r, prngReg c r) ∗ iprop(semVal ((c : Thread nD τ), SemLoc.dma 2) 0 ∗ semVal ((c : Thread nD τ), SemLoc.dma 3) 0 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ semVal ((c : Thread nD τ), SemLoc.dma 10) 0 ∗ semVal ((c : Thread nD τ), SemLoc.dma 11) 0) ∗ iprop(hbPt0 c hbM0_0 (V m c main_v0) ∗ hbPt0 c hbM0_1 (V m c main_arg3) ∗ hbPt0 c hbM0_2 (V m c main_v1)) ∗ hbPt0 c hbM0_3 (Y c main_v3)) := by
  rw [Pipeline.ΦDRG_eq, scopedRest0_eq, ownSems00_eq, hbmPts0_eq, R0, Pipeline.routed_singleton]

/-- A whole memref owned is its buffer at contents that read so. -/
theorem owns_hb (c : Dev nD) {sp : Space} {S : Shape} {e : EltTy} (M : Memref sig .tc sp S e) (h : M.IsWhole) (X : S.Idx → Elt F e) :
    (owns (c : Thread nD τ) M fullShare X : sProp 𝕄) = iprop(∃ f : HbBuf0 (F := F) c M, ⌜M.view.read (Elt F) f = X⌝ ∗ hbPt0 c M f) := by
  unfold owns; rw [h.set_eq_univ]

/-! ## The pipeline's proof data -/

/-- The proof data on core `c`: the arrays as the region finds them, each input's buffer at its block, and the invariant
    with the result array as found before the point and at `G` after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
  Φ t := Pipeline.ΦDRG osem0 spec0 H0 R0 (V m) (if t.val = 0 then V m else G m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d)))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t))

/-- The body at the point: the run's triple on the invariant's conjuncts and the windows' buffers. -/
theorem sound_body (c : Dev nD) (t : Fin cfg0.N) :
    bodyPre m c t ⊢ wp frame (wpE (defs₀ (F := F)) Variants.none c none) Set.univ (bodyAt0 t) (fun _ => bodyPost m c t) := by
  obtain rfl := eq_t0 t
  unfold bodyPre bodyPost bodyAt0
  simp only [before0_0, before0_1]
  rw [show (dats m 0 c).Φ t0.castSucc = Pipeline.ΦDRG osem0 spec0 H0 R0 (V m) (V m) c from rfl,
    show (dats m 0 c).Φ t0.succ = Pipeline.ΦDRG osem0 spec0 H0 R0 (V m) (G m) c from rfl,
    after0_0, after0_1, PhiG_eq, PhiG_eq, G_eq, owns_hb c (ms0_0 t0) (hs0_0 t0), owns_hb c (ms0_1 t0) (hs0_1 t0)]
  unfold Dat.owesAt Pipeline.owesWithin
  rw [show (dats m 0 c).owed t0.castSucc = 0 from rfl, show (dats m 0 c).owed t0.succ = 0 from rfl]
  iintro ⟨⟨⟨HS0, HS1, HS2, HS3, HS4⟩, Hg, ⟨Hq0, Hq1, Hq2, Hq3, Hq4, Hq5, Hq6, Hq7, Hq8, Hq9⟩, ⟨Hh0, Hh1, Hh2⟩, Hh3⟩, ⟨%W, -, HW⟩, ⟨%d0, %f0, %e0, H0⟩, ⟨%d1, %f1, %e1, H1⟩⟩
  have ho : outAt ((ms0_0 t0).view.read (Elt F) f0) (V m c main_v0) (V m c main_v1) (ysc ((ms0_1 t0).view.read (Elt F) f1)) (V m c main_arg3) = out m c :=
    (congrArg (fun a => outAt a _ _ _ _) e0).trans (congrArg (fun a => outAt (codes m c) _ _ (ysc a) _) e1)
  iapply (run c (ms0_0 t0) (hs0_0 t0) (ms0_1 t0) (hs0_1 t0) f0 f1 (V m c main_v0) (V m c main_arg3) (V m c main_v1) W _)
  isplitl [H0]; · iexact H0
  isplitl [H1]; · iexact H1
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hq6]; · iexact Hq6
  isplitl [Hq7]; · iexact Hq7
  isplitl [Hq8]; · iexact Hq8
  isplitl [Hq9]; · iexact Hq9
  isplitl [Hh0]; · iexact Hh0
  isplitl [Hh1]; · iexact Hh1
  isplitl [Hh2]; · iexact Hh2
  isplitl [Hh3]; · iexists _; iexact Hh3
  isplitl [HW]; · iexact HW
  iintro ⟨H0, H1, HS0, HS1, HS2, HS3, HS4, Hq0, Hq1, Hq2, Hq3, Hq4, Hq5, Hq6, Hq7, Hq8, Hq9, Hh0, Hh1, Hh2, Hh3, ⟨%W', HW'⟩⟩
  isplitl [HS0 HS1 HS2 HS3 HS4 Hg Hq0 Hq1 Hq2 Hq3 Hq4 Hq5 Hq6 Hq7 Hq8 Hq9 Hh0 Hh1 Hh2 Hh3]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]
    · iexact Hg
    isplitl [Hq0 Hq1 Hq2 Hq3 Hq4 Hq5 Hq6 Hq7 Hq8 Hq9]
    · isplitl [Hq0]; · iexact Hq0
      isplitl [Hq1]; · iexact Hq1
      isplitl [Hq2]; · iexact Hq2
      isplitl [Hq3]; · iexact Hq3
      isplitl [Hq4]; · iexact Hq4
      isplitl [Hq5]; · iexact Hq5
      isplitl [Hq6]; · iexact Hq6
      isplitl [Hq7]; · iexact Hq7
      isplitl [Hq8]; · iexact Hq8
      iexact Hq9
    isplitl [Hh0 Hh1 Hh2]
    · isplitl [Hh0]; · iexact Hh0
      isplitl [Hh1]; · iexact Hh1
      iexact Hh2
    iapply (BIBase.Entails.of_eq (congrArg (fun f => hbPt0 c hbM0_3 f) ho))
    iexact Hh3
  isplitl [HW']
  · iexists W'; isplitr; · ipureintro; exact fun _ _ => Or.inl trivial
    iexact HW'
  isplitl [H0]
  · iexists f0; isplitr; · ipureintro; exact e0
    iexact H0
  · iexists f1; isplitr; · ipureintro; exact e1
    iexact H1

/-- The body table's row is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run, the frame and the value -/

-- the launch theorem's implicit arguments are found by unifying its conclusion with this one, which takes unfolding
-- plain definitions in a metavariable's type
set_option backward.isDefEq.respectTransparency.types false in
/-- The launch: every array as the post says, the result at `G`, and every semaphore counter at zero at the end. -/
theorem run_main_quiescent : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun _ => .rfl) (hout := fun _ => .rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) ((θ_run defs _ _).mono (fun _ h => h.1.toR) (run_main_quiescent m ρ))

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- What the result array holds at the end. -/
theorem value : θ_run defs (onTc (τ := τ) (main (F := F))) ⟨m, fun _ => 0, ρ⟩ (fun r => ∀ c : Dev nD,
      r.2.mem ((c.tc : Thread nD τ).loc main_v3) = out m c) :=
  (θ_run defs _ _).mono (fun _ h c => (h.1.written c (Finset.mem_singleton_self _)).trans (G_eq m c)) (run_main_quiescent m ρ)

/-- The result and the unchanged arguments, together. -/
theorem result : θ_run defs (onTc (τ := τ) (main (F := F))) ⟨m, fun _ => 0, ρ⟩ (fun r => ∀ c : Dev nD,
      r.2.mem ((c.tc : Thread nD τ).loc main_v3) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨h.1 c, h.2 c⟩) (θ_run_and (value m ρ) (unchanged m ρ))

end Cert.Kernel.Hand

end
-- ==== Proof.Value.Kernel.lean ====
/-
  The kernel's result, element by element, over the extended reals: tile by tile the body computes the same row-by-column
  product that one whole product would give.
-/
module

public import proofs.«01_k».proof.Proof.Kernel.Frame
public import Idealize.ShloMosaic.Lib.Pointwise

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI Idealize.SL.Sem
open Idealize.ShloMosaic.Rounds

/-- Column `512 * (n / 512) + n % 512` of the weights is column `n`. -/
theorem wcol_apply (fw : Vec Ideal S7680x3584 .fp8e4m3) (k : Fin 7680) (n : Fin 3584) (h1 : n.val / 512 < 7) (h2 : n.val % 512 < 512) :
    wcol fw ⟨n.val / 512, h1⟩ (ix2 k ⟨n.val % 512, h2⟩) = fw (ix2 k n) := by
  refine congrArg fw (funext fun a => ?_)
  match a with
  | ⟨0, _⟩ => rfl
  | ⟨1, _⟩ => exact Fin.ext (by show 512 * (n.val / 512) + n.val % 512 = n.val; omega)

/-- One tile's product, element by element. -/
theorem mm_apply (xq : Vec Ideal S256x7680 .fp8e4m3) (fw : Vec Ideal S7680x3584 .fp8e4m3) (n : Fin 7) (i : S256x512.Idx) :
    mm xq fw n i = ∑ k : Fin 7680, xq (ix2 (i 0) k) * wcol fw n (ix2 k (i 1)) := by
  pointwise [mm]

/-- The kernel's result at row `r`, column `n`. -/
theorem outAt_apply (xq : Vec Ideal S256x7680 .fp8e4m3) (fx : Vec Ideal S256x3584 .bf16) (fp : Vec Ideal S1x3584 .f32) (fs : Vec Ideal S256x128 .f32)
    (fw : Vec Ideal S7680x3584 .fp8e4m3) (i : S256x3584.Idx) :
    outAt xq fx fp fs fw i = fx i + (∑ k : Fin 7680, xq (ix2 (i 0) k) * fw (ix2 k (i 1)))
      * fs (ix2 (i 0) ⟨(i 1).val % 128, Nat.mod_lt _ (by decide)⟩) * fp (ix2 0 (i 1)) := by
  unfold outAt
  rw [mm_apply]
  have e : (∑ k : Fin 7680, xq (ix2 (i 0) k) * wcol fw ⟨(i 1).val / 512, by have h : (i 1).val < 3584 := (i 1).isLt; omega⟩ (ix2 k ⟨(i 1).val % 512, Nat.mod_lt _ (by decide)⟩))
      = ∑ k : Fin 7680, xq (ix2 (i 0) k) * fw (ix2 k (i 1)) :=
    Finset.sum_congr rfl fun k _ => congrArg (xq (ix2 (i 0) k) * ·) (wcol_apply fw k (i 1) _ _)
  exact congrArg (fun z => fx i + z * fs (ix2 (i 0) ⟨(i 1).val % 128, Nat.mod_lt _ (by decide)⟩) * fp (ix2 0 (i 1))) e

/-! ## What the region's operands hold: the arguments, re-laid by the host -/

variable (m : (ℓ : Loc nD τ sig) → Buf (Elt Ideal) ℓ)

theorem V_x (c : Dev nD) : V m c main_v0 = shapeCast S256x3584 (m ((c : Thread nD τ).loc main_arg0)) shapeCasts_S2x128x3584_S256x3584 := by
  unfold_abbrev_sides
  after_results
  rfl
theorem V_p (c : Dev nD) : V m c main_v1 = shapeCast S1x3584 (m ((c : Thread nD τ).loc main_arg4)) shapeCasts_S3584_S1x3584 := by
  unfold_abbrev_sides
  after_results
  rfl
theorem V_q (c : Dev nD) : V m c main_v2 = shapeCast S256x7680 (m ((c : Thread nD τ).loc main_arg1)) shapeCasts_S2x128x7680_S256x7680 := by
  unfold_abbrev_sides
  after_results
  rfl

/-- The codes are the region's first operand as a whole, the scales its second. -/
theorem codes_eq (c : Dev nD) : codes m c = V m c main_v2 := by
  funext i
  refine congrArg (V m c main_v2) (funext fun a => ?_)
  match a with
  | ⟨0, _⟩ => exact Fin.ext (by show 0 + 1 * (i 0).val = (i 0).val; omega)
  | ⟨1, _⟩ => exact Fin.ext (by show 0 + 1 * (i 1).val = (i 1).val; omega)
theorem scales_eq (c : Dev nD) : scales m c = V m c main_arg2 := by
  funext i
  refine congrArg (V m c main_arg2) (funext fun a => ?_)
  match a with
  | ⟨0, _⟩ => exact Fin.ext (by show 0 + 1 * (i 0).val = (i 0).val; omega)
  | ⟨1, _⟩ => exact Fin.ext (by show 0 + 1 * (i 1).val = (i 1).val; omega)

end Cert.Kernel.Hand
-- ==== Proof.Value.Reference.lean ====
/-
  What the reference's result array holds at the end, over the reals, at row `r` and column `n`: the residual plus the
  product of the codes and the weights scaled by the row's scale and the column's — as a function of the arrays the
  reference's one call is handed.
-/
module

public import proofs.«01_k».proof.Proof.Gen.ReferenceIdeal.Value
public import Idealize.ShloMosaic.Lib.Pointwise

@[expose] public section

set_option maxRecDepth 16384

noncomputable section

namespace Cert.ReferenceIdeal.Hand

open Cert.ReferenceIdeal Cert.ReferenceIdeal.Gen
open Idealize.ShloMosaic Idealize.ShloMosaic.TcCoe

variable (m : (ℓ : Loc nD τ sig) → Buf (Elt Ideal) ℓ)

/-- The one grid point. -/
abbrev t0 : Fin cfg0.N := ⟨0, by decide⟩

/-! ## What the region's operands hold: the arguments, re-laid by the host -/

theorem V_x (c : Dev nD) : V m c main_v0 = shapeCast S256x3584 (m ((c : Thread nD τ).loc main_arg0)) shapeCasts_S2x128x3584_S256x3584 := by
  unfold_abbrev_sides
  after_results
  rfl
theorem V_q (c : Dev nD) : V m c main_v1 = shapeCast S256x7680 (m ((c : Thread nD τ).loc main_arg1)) shapeCasts_S2x128x7680_S256x7680 := by
  unfold_abbrev_sides
  after_results
  rfl
theorem V_s (c : Dev nD) : V m c main_v2 = shapeCast S256x1 (m ((c : Thread nD τ).loc main_arg2)) shapeCasts_S2x128_S256x1 := by
  unfold_abbrev_sides
  after_results
  rfl
theorem V_p (c : Dev nD) : V m c main_v3 = shapeCast S1x3584 (m ((c : Thread nD τ).loc main_arg4)) shapeCasts_S3584_S1x3584 := by
  unfold_abbrev_sides
  after_results
  rfl

/-! ## Each window's block is the whole array -/

theorem iblk0 (c : Dev nD) : iblk m c 0 t0 = V m c main_v0 := by
  funext i
  refine congrArg (V m c main_v0) (funext fun a => ?_)
  match a with
  | ⟨0, _⟩ => exact Fin.ext (by show 0 + 1 * (i 0).val = (i 0).val; omega)
  | ⟨1, _⟩ => exact Fin.ext (by show 0 + 1 * (i 1).val = (i 1).val; omega)
theorem iblk1 (c : Dev nD) : iblk m c 1 t0 = V m c main_v1 := by
  funext i
  refine congrArg (V m c main_v1) (funext fun a => ?_)
  match a with
  | ⟨0, _⟩ => exact Fin.ext (by show 0 + 1 * (i 0).val = (i 0).val; omega)
  | ⟨1, _⟩ => exact Fin.ext (by show 0 + 1 * (i 1).val = (i 1).val; omega)
theorem iblk2 (c : Dev nD) : iblk m c 2 t0 = V m c main_v2 := by
  funext i
  refine congrArg (V m c main_v2) (funext fun a => ?_)
  match a with
  | ⟨0, _⟩ => exact Fin.ext (by show 0 + 1 * (i 0).val = (i 0).val; omega)
  | ⟨1, _⟩ => exact Fin.ext (by show 0 + 1 * (i 1).val = (i 1).val; omega)
theorem iblk3 (c : Dev nD) : iblk m c 3 t0 = V m c main_arg3 := by
  funext i
  refine congrArg (V m c main_arg3) (funext fun a => ?_)
  match a with
  | ⟨0, _⟩ => exact Fin.ext (by show 0 + 1 * (i 0).val = (i 0).val; omega)
  | ⟨1, _⟩ => exact Fin.ext (by show 0 + 1 * (i 1).val = (i 1).val; omega)
theorem iblk4 (c : Dev nD) : iblk m c 4 t0 = V m c main_v3 := by
  funext i
  refine congrArg (V m c main_v3) (funext fun a => ?_)
  match a with
  | ⟨0, _⟩ => exact Fin.ext (by show 0 + 1 * (i 0).val = (i 0).val; omega)
  | ⟨1, _⟩ => exact Fin.ext (by show 0 + 1 * (i 1).val = (i 1).val; omega)

/-! ## The result -/

/-- A load at offset zero of the whole of an array. -/
theorem ld_zero {S : Shape} {e : EltTy} (x : Vec Ideal S e) (o : Fin S.rank → Nat) (ho : ∀ a, o a = 0)
    (h : ∀ a, o a + S.size a ≤ S.size a) : View.ld x (Rect.unit o S.size h) = x := by
  funext i
  refine congrArg x (funext fun a => Fin.ext ?_)
  show o a + 1 * (i a).val = (i a).val
  rw [ho a]; omega

/-- What the reference computes at row `r`, column `n`. -/
def refAt (x : Vec Ideal S256x3584 .bf16) (q : Vec Ideal S256x7680 .fp8e4m3) (s : Vec Ideal S256x1 .f32) (w : Vec Ideal S7680x3584 .fp8e4m3)
    (p : Vec Ideal S1x3584 .f32) (i : S256x3584.Idx) : EReal :=
  x i + (∑ k : Fin 7680, q (ix2 (i 0) k) * w (ix2 k (i 1))) * s (ix2 (i 0) 0) * p (ix2 0 (i 1))

theorem pay_apply (x : Vec Ideal S256x3584 .bf16) (q : Vec Ideal S256x7680 .fp8e4m3) (s : Vec Ideal S256x1 .f32) (w : Vec Ideal S7680x3584 .fp8e4m3)
    (p : Vec Ideal S1x3584 .f32) (i : S256x3584.Idx) : k0_pay1 q w x s p i = refAt x q s w p i := by
  unfold refAt
  pointwise [k0_pay1]

/-- What the point writes back is `refAt`. -/
theorem out_eq (x : Vec Ideal S256x3584 .bf16) (q : Vec Ideal S256x7680 .fp8e4m3) (s : Vec Ideal S256x1 .f32) (w : Vec Ideal S7680x3584 .fp8e4m3)
    (p : Vec Ideal S1x3584 .f32) : out0_5 x q s w p = refAt x q s w p := by
  funext i
  have hz : ∀ a : Fin 2, (![0, 0] : Fin 2 → Nat) a = 0 := by intro a; fin_cases a <;> rfl
  have e : r0_2.emb i = i := funext fun a => Fin.ext (by show (![0, 0] : Fin 2 → Nat) a + 1 * (i a).val = (i a).val; rw [hz a]; omega)
  unfold out0_5
  conv_lhs => rw [← e]
  rw [View.canon_cons_emb, ld_zero q _ hz, ld_zero w _ hz, ld_zero x _ hz, ld_zero s _ hz, ld_zero p _ hz]
  exact pay_apply x q s w p i

/-- The result array at the end. -/
theorem arrAt_eq (c : Dev nD) : (dats m 0 c).arrAt 5 cfg0.N = refAt (V m c main_v0) (V m c main_v1) (V m c main_v2) (V m c main_arg3) (V m c main_v3) := by
  have hb := Value.blocks5 m c t0 (by decide)
  rw [Value.flushed5, out_eq, iblk0, iblk1, iblk2, iblk3, iblk4] at hb
  funext i
  refine Eq.trans ?_ (congrFun hb i)
  refine congrArg ((dats m 0 c).arrAt 5 cfg0.N) (funext fun a => ?_)
  match a with
  | ⟨0, _⟩ => exact Fin.ext (by show (i 0).val = 0 + 1 * (i 0).val; omega)
  | ⟨1, _⟩ => exact Fin.ext (by show (i 1).val = 0 + 1 * (i 1).val; omega)

end Cert.ReferenceIdeal.Hand

end
-- ==== Proof.Value.Equation.lean ====
/-
  The kernel and the reference leave the same array: both hold, at row `r` and column `n`, the residual plus the product of
  the codes and the weights, scaled by the row's scale and then the column's.
-/
module

public import proofs.«01_k».proof.Proof.Value.Kernel
public import proofs.«01_k».proof.Proof.Value.Reference

@[expose] public section

set_option maxRecDepth 16384

noncomputable section

namespace Cert.Hand

open Idealize.ShloMosaic Idealize.ShloMosaic.TcCoe

/-- The scales as a column of 256 are, at row `r`, the scales at `(r / 128, r % 128)`. -/
theorem scale_col (s : Vec Ideal Cert.ReferenceIdeal.S2x128 .f32) (r : Fin 256) (h : Cert.ReferenceIdeal.S2x128.ShapeCasts Cert.ReferenceIdeal.S256x1)
    (h0 : r.val / 128 < 2) (h1 : r.val % 128 < 128) :
    shapeCast Cert.ReferenceIdeal.S256x1 s h (ix2 r 0) = s (ix2 ⟨r.val / 128, h0⟩ ⟨r.val % 128, h1⟩) := by
  pointwise []

variable (m : (ℓ : Loc Cert.Kernel.nD Cert.Kernel.τ Cert.Kernel.sig) → Buf (Elt Ideal) ℓ)
  (m' : (ℓ : Loc Cert.ReferenceIdeal.nD Cert.ReferenceIdeal.τ Cert.ReferenceIdeal.sig) → Buf (Elt Ideal) ℓ)

/-- From arguments that agree, the two result arrays agree. -/
theorem result_eq (c : Dev Cert.Kernel.nD)
    (h0 : m' ((c.tc : Thread Cert.ReferenceIdeal.nD Cert.ReferenceIdeal.τ).loc Cert.ReferenceIdeal.main_arg0) = m ((c.tc : Thread Cert.Kernel.nD Cert.Kernel.τ).loc Cert.Kernel.main_arg0))
    (h1 : m' ((c.tc : Thread Cert.ReferenceIdeal.nD Cert.ReferenceIdeal.τ).loc Cert.ReferenceIdeal.main_arg1) = m ((c.tc : Thread Cert.Kernel.nD Cert.Kernel.τ).loc Cert.Kernel.main_arg1))
    (h2 : m' ((c.tc : Thread Cert.ReferenceIdeal.nD Cert.ReferenceIdeal.τ).loc Cert.ReferenceIdeal.main_arg2) = m ((c.tc : Thread Cert.Kernel.nD Cert.Kernel.τ).loc Cert.Kernel.main_arg2))
    (h3 : m' ((c.tc : Thread Cert.ReferenceIdeal.nD Cert.ReferenceIdeal.τ).loc Cert.ReferenceIdeal.main_arg3) = m ((c.tc : Thread Cert.Kernel.nD Cert.Kernel.τ).loc Cert.Kernel.main_arg3))
    (h4 : m' ((c.tc : Thread Cert.ReferenceIdeal.nD Cert.ReferenceIdeal.τ).loc Cert.ReferenceIdeal.main_arg4) = m ((c.tc : Thread Cert.Kernel.nD Cert.Kernel.τ).loc Cert.Kernel.main_arg4)) :
    (Cert.ReferenceIdeal.Gen.dats m' 0 c).arrAt 5 Cert.ReferenceIdeal.cfg0.N = Cert.Kernel.Hand.out m c := by
  rw [Cert.ReferenceIdeal.Hand.arrAt_eq, Cert.ReferenceIdeal.Hand.V_x, Cert.ReferenceIdeal.Hand.V_q, Cert.ReferenceIdeal.Hand.V_s,
    Cert.ReferenceIdeal.Hand.V_p, Cert.ReferenceIdeal.Gen.V_main_arg3, h0, h1, h2, h3, h4]
  unfold Cert.Kernel.Hand.out
  rw [Cert.Kernel.Hand.codes_eq, Cert.Kernel.Hand.scales_eq, Cert.Kernel.Hand.V_x, Cert.Kernel.Hand.V_q,
    Cert.Kernel.Hand.V_p, Cert.Kernel.Gen.V_main_arg2, Cert.Kernel.Gen.V_main_arg3]
  funext i
  rw [Cert.Kernel.Hand.outAt_apply]
  have hr : (i 0).val < 256 := (i 0).isLt
  have e := scale_col (m ((c.tc : Thread Cert.Kernel.nD Cert.Kernel.τ).loc Cert.Kernel.main_arg2)) (i 0)
    Cert.ReferenceIdeal.Gen.shapeCasts_S2x128_S256x1 (by omega) (Nat.mod_lt _ (by decide))
  have key : ∀ a b s s' p : EReal, s = s' → a + b * s * p = a + b * s' * p := by
    intro a b s s' p hs; rw [hs]
  exact key _ _ _ _ _ e

end Cert.Hand

end
-- ==== Proof.Project.Kit.lean ====
/-
  The frame kit of the in-projection's kernel at the algebra with the transfers' counters: @main up to its one region,
  the windows' blocks, the memrefs the body is handed, and the invariant it runs under — the scratch owned, the four DMA
  cells at zero, the operands read and written by the body's own copies — listed conjunct by conjunct.
-/
module

public import proofs.«01_k».proof.Proof.Gen.Project.Frame
public import Idealize.ShloMosaic.Lib.Pipeline.FrameValue
public import Idealize.ShloMosaic.Lib.Ring
public import Idealize.ShloMosaic.Lib.Claim

@[expose] public section

set_option maxRecDepth 16384

noncomputable section

namespace Cert.Project.Hand

open Cert.Project Cert.Project.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The kernel's memrefs -/

/-- Each window's current staging memref at point `t`, spelled as the pipeline passes it (`bodyAt0`), and its wholeness. -/
abbrev ms0_0 (t : Fin cfg0.N) : Memref sig .tc .vmem S256x3584 .fp8e4m3 := win0_0.stage (cfg0.slots t 0)
abbrev hs0_0 (t : Fin cfg0.N) : (ms0_0 t).IsWhole := hstage0_0 0
abbrev ms0_1 (t : Fin cfg0.N) : Memref sig .tc .vmem S256x128 .f32 := win0_1.stage (cfg0.slots t 1)
abbrev hs0_1 (t : Fin cfg0.N) : (ms0_1 t).IsWhole := hstage0_1 0
abbrev ms0_2 (t : Fin cfg0.N) : Memref sig .tc .vmem S2x7680x128 .f32 := win0_2.stage (cfg0.slots t 2)
abbrev hs0_2 (t : Fin cfg0.N) : (ms0_2 t).IsWhole := hstage0_2 0
abbrev ms0_3 (t : Fin cfg0.N) : Memref sig .tc .vmem S2x7680x128 .f32 := win0_3.stage (cfg0.slots t 3)
abbrev hs0_3 (t : Fin cfg0.N) : (ms0_3 t).IsWhole := hstage0_3 0
/-- The scratch operands: whole scoped buffers of the kernel's own, passed beside the windows. -/
abbrev scM0_0 : Memref sig .tc .vmem S2x96x29x8x128 .fp8e4m3 := Memref.whole cc0_scratch0
abbrev scM0_1 : Memref sig .tc .vmem S2x8x128 .f32 := Memref.whole cc0_scratch1
abbrev scM0_2 : Memref sig .tc .vmem S2x2x768x128 .f32 := Memref.whole cc0_scratch2
abbrev scM0_3 : Memref sig .tc .vmem S2x1152x128 .f32 := Memref.whole cc0_scratch3
abbrev scM0_4 : Memref sig .tc .vmem S1x16464 .f32 := Memref.whole cc0_scratch4
abbrev scM0_5 : Memref sig .tc .vmem S3x2x8704 .f32 := Memref.whole cc0_scratch5
/-- The weights and the channels' scales, left in HBM, whole, and the result the body copies out itself. -/
abbrev hbM0_0 : Memref sig .tc .hbm S2058x28x8x128 .fp8e4m3 := Memref.whole main_v2
abbrev hbM0_1 : Memref sig .tc .hbm S1x16464 .f32 := Memref.whole main_v6
abbrev hbM0_2 : Memref sig .tc .hbm S3x2x8704 .f32 := Memref.whole main_v7_2
/-- Memref `M`'s buffer on core `c`: its contents type, and it held whole at `f`. -/
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

/-- The body's own DMA semaphores, cell by cell (their numbers in the pool). -/
abbrev osem0 : Fin 4 → SemLoc sig := fun j => (![SemLoc.dma 4, SemLoc.dma 5, SemLoc.dma 6, SemLoc.dma 7] : Fin 4 → SemLoc sig) j
theorem ownSemFacts0 : Pipeline.OwnSemFacts spec0 osem0 := by decide
/-- The cells at zero, listed. -/
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) := by
  rw [Pipeline.ownSems0_eq_of_list c osem0 [0, 1, 2, 3] (by decide) (by decide)]; rfl
/-- The HBM operands the body copies from and leaves unchanged: unscoped, no window's array (`Pipeline.restRefs`). -/
def H0 : Finset (Ref sig .tc) := {main_v2, main_v6}
theorem H0_sub : H0 ⊆ Pipeline.restRefs sig spec0 := by decide
/-- The one it writes is unscoped, no window's array, and none of `H0`. -/
def R0 : Finset (Ref sig .tc) := {main_v7_2}
theorem R0_sub : R0 ⊆ Pipeline.restRefs sig spec0 \ H0 := by decide
/-- The read operands' points-tos at the launch contents. -/
theorem hbmPts0_eq (c : Dev nD) :
    (bigSep H0 (fun b => ((c : Thread nD τ).loc b) ↦{fullShare} V m c b) : sProp 𝕄) = iprop(hbPt0 c hbM0_0 (V m c main_v2) ∗ hbPt0 c hbM0_1 (V m c main_v6)) := by
  rw [BI.bigSep_eq_bigSepL_of_eq [main_v2, main_v6] (by decide) (by decide)]; rfl

/-- The invariant of a body with transfers of its own that write an HBM operand, at written contents `Y`, conjunct by
    conjunct: the scratch operands owned at some contents, the generator register at some state, the own cells at zero,
    the operands read at their launch contents, the operand written at `Y`. -/
theorem PhiG_eq (Y : (c : Dev nD) → (b : Ref sig .tc) → Buf (Elt F) ((c : Thread nD τ).loc b)) (c : Dev nD) :
    (Pipeline.ΦDRG osem0 spec0 H0 R0 (V m) Y c : sProp 𝕄)
      = iprop(iprop((∃ d, hbPt0 c scM0_0 d) ∗ (∃ d, hbPt0 c scM0_1 d) ∗ (∃ d, hbPt0 c scM0_2 d) ∗ (∃ d, hbPt0 c scM0_3 d) ∗ (∃ d, hbPt0 c scM0_4 d) ∗ (∃ d, hbPt0 c scM0_5 d)) ∗ (∃ r, prngReg c r)
        ∗ iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0) ∗ iprop(hbPt0 c hbM0_0 (V m c main_v2) ∗ hbPt0 c hbM0_1 (V m c main_v6)) ∗ hbPt0 c hbM0_2 (Y c main_v7_2)) := by
  rw [Pipeline.ΦDRG_eq, scopedRest0_eq, ownSems00_eq, hbmPts0_eq, R0, Pipeline.routed_singleton]

end Cert.Project.Hand

end
-- ==== Proof.Project.Program.lean ====
/-
  The in-projection's kernel read as a program of named steps: the two copies of one block of weights started and
  waited for, the projection of one block stored tile by tile, and the two halves of a finished block saved to the
  results.
-/
module

public import proofs.«01_k».proof.Proof.Gen.Project

@[expose] public section

set_option maxRecDepth 65536

noncomputable section

namespace Cert.Project.Hand

open Cert.Project Cert.Project.Gen
open Idealize.ShloMosaic Idealize.ShloMosaic.TcCoe
open Idealize.SL.Sem

variable {F : FTy → Type} [FloatOps F]

/-- The two DMA cells' array, at an offset: one cell. -/
def cell (arg8 : DmaSems sig S2) (o : Fin 1 → Nat) (h : ∀ a, o a + S1.size a ≤ S2.size a) : DmaSem sig :=
  ((arg8.slice (Rect.unit (s := S2) o S1.size h)).squeeze S_ squeezes_S1_S_).sem
/-- Forty-eight rows of the re-tiled weights. -/
def wSrc (arg0 : Memref sig .tc .hbm S2058x28x8x128 .fp8e4m3) (o : Fin 4 → Nat) (h : ∀ a, o a + S48x28x8x128.size a ≤ S2058x28x8x128.size a) :
    Memref sig .tc .hbm S48x28x8x128 .fp8e4m3 :=
  arg0.slice (Rect.unit (s := S2058x28x8x128) o S48x28x8x128.size h) (fun _ => rfl)
/-- Half a slot of the weights' buffer. -/
def wDst (arg5 : Memref sig .tc .vmem S2x96x29x8x128 .fp8e4m3) (o : Fin 5 → Nat) (h : ∀ a, o a + S1x48x28x8x128.size a ≤ S2x96x29x8x128.size a) :
    Memref sig .tc .vmem S48x28x8x128 .fp8e4m3 :=
  (arg5.slice (Rect.unit (s := S2x96x29x8x128) o S1x48x28x8x128.size h) (fun _ => rfl)).squeeze S48x28x8x128 squeezes_S1x48x28x8x128_S48x28x8x128
/-- One slot of the projected blocks' buffer. -/
def pSlot (arg7 : Memref sig .tc .vmem S2x2x768x128 .f32) (o : Fin 4 → Nat) (h : ∀ a, o a + S1x2x768x128.size a ≤ S2x2x768x128.size a) :
    Memref sig .tc .vmem S2x768x128 .f32 :=
  (arg7.slice (Rect.unit (s := S2x2x768x128) o S1x2x768x128.size h) (fun _ => rfl)).squeeze S2x768x128 squeezes_S1x2x768x128_S2x768x128

/-- Tile `(b, t)` of a projected block: eight rows. -/
theorem tile_inb (b : Fin 2) (t : Fin 96) (a : Fin 3) : (![b.val, 8 * t.val, 0] : Fin 3 → Nat) a + S1x8x128.size a ≤ S2x768x128.size a := by
  have := b.isLt; have := t.isLt
  fin_cases a <;> simp [S1x8x128, S2x768x128] <;> omega

/-- The upper of the two groups of rows a tile is put together from. -/
def rowA (t : Fin 96) : Nat := 64 * (t.val / 8) + 8 * (t.val % 8 / 2)
theorem rowA_slices (d : Nat) (hd : d = 0 ∨ d = 32) (b : Fin 2) (t : Fin 96) : S768x256.Slices ![rowA t + d, 128 * b.val] S8x128 :=
  ⟨rfl, fun a => by
    have := b.isLt; have := t.isLt
    unfold rowA
    fin_cases a <;> simp [S8x128, S768x256] <;> omega⟩

/-- The tile's value: its two groups of four rows put together, times the scales. -/
def tileVal (r : FVec F S768x256 .f32) (sc : FVec F S8x128 .f32) (lo : IVec S8x128 1) (b : Fin 2) (t : Fin 96) : FVec F S8x128 .f32 :=
  mulf (if t.val % 2 = 0 then
      select lo (extractStridedSlice S8x128 ![rowA t + 0, 128 * b.val] r (rowA_slices 0 (.inl rfl) b t))
        (dynamicRotate 0 4#32 none (extractStridedSlice S8x128 ![rowA t + 32, 128 * b.val] r (rowA_slices 32 (.inr rfl) b t)) rotates_S8x128_d0)
    else
      select lo (dynamicRotate 0 4#32 none (extractStridedSlice S8x128 ![rowA t + 0, 128 * b.val] r (rowA_slices 0 (.inl rfl) b t)) rotates_S8x128_d0)
        (extractStridedSlice S8x128 ![rowA t + 32, 128 * b.val] r (rowA_slices 32 (.inr rfl) b t))) sc

/-- One tile stored, then `K`. -/
def tile (dst : Memref sig .tc .vmem S2x768x128 .f32) (r : FVec F S768x256 .f32) (sc : FVec F S8x128 .f32) (lo : IVec S8x128 1) (b : Fin 2) (t : Fin 96)
    (K : Prog (TpuEff nD τ sig (Elt F) Λ₀ .tc) PUnit) : Prog (TpuEff nD τ sig (Elt F) Λ₀ .tc) PUnit :=
  .op (.load dst (Rect.unit (s := S2x768x128) ![b.val, 8 * t.val, 0] S1x8x128.size (tile_inb b t)).toLoadRect (View.loadsAt_vmem h_S1x8x128)) fun _ =>
  .op (.store dst (Rect.unit (s := S2x768x128) ![b.val, 8 * t.val, 0] S1x8x128.size (tile_inb b t)) (shapeCast S1x8x128 (tileVal r sc lo b t) shapeCasts_S8x128_S1x8x128) Finset.univ (View.stores_vmem_bits_univ h_S1x8x128 rfl) (.inl rfl)) fun _ => K

/-- The last `n` tiles of batch `b`. -/
def tiles (dst : Memref sig .tc .vmem S2x768x128 .f32) (r : FVec F S768x256 .f32) (sc : FVec F S8x128 .f32) (lo : IVec S8x128 1) (b : Fin 2)
    (K : Prog (TpuEff nD τ sig (Elt F) Λ₀ .tc) PUnit) : (n : Nat) → n ≤ 96 → Prog (TpuEff nD τ sig (Elt F) Λ₀ .tc) PUnit
  | 0, _ => K
  | n + 1, h => tile dst r sc lo b ⟨95 - n, by omega⟩ (tiles dst r sc lo b K n (by omega))

/-- The mask of the first four of eight rows. -/
def loMask : IVec S8x128 1 := cmpi .slt (iota .tc S8x128 32 [0] iota_S8x128_d0_w32) (broadcast S8x128 4#32)

/-- A block of weights, its rows permuted, against the codes. -/
def prod (w : FVec F S1x96x28x8x128 .fp8e4m3) (q : FVec F S256x3584 .fp8e4m3) : FVec F S768x256 .f32 :=
  matmul dot_S768x3584_S256x3584_S768x256_1_1_0_0_n_n none
    (shapeCast S768x3584 (transpose S12x2x8x4x28x128 [0, 3, 1, 4, 2, 5] (shapeCast S12x8x28x2x4x128 (shapeCast S96x28x8x128 w shapeCasts_S1x96x28x8x128_S96x28x8x128)
      shapeCasts_S96x28x8x128_S12x8x28x2x4x128) transposes_S12x8x28x2x4x128_p0_3_1_4_2_5_S12x2x8x4x28x128) shapeCasts_S12x2x8x4x28x128_S768x3584)
    (shapeCast S256x3584 q shapeCasts_S256x3584_S256x3584) (constant S768x256 .f32 0x00000000#32)

/-- One block projected into its slot. -/
def projectTo (arg1 : Memref sig .tc .vmem S256x3584 .fp8e4m3) (arg5 : Memref sig .tc .vmem S2x96x29x8x128 .fp8e4m3) (arg6 : Memref sig .tc .vmem S2x8x128 .f32)
    (dst : Memref sig .tc .vmem S2x768x128 .f32) (o : Fin 5 → Nat) (h : ∀ a, o a + S1x96x28x8x128.size a ≤ S2x96x29x8x128.size a)
    (K : Prog (TpuEff nD τ sig (Elt F) Λ₀ .tc) PUnit) : Prog (TpuEff nD τ sig (Elt F) Λ₀ .tc) PUnit :=
  .op (.load arg5 (Rect.unit (s := S2x96x29x8x128) o S1x96x28x8x128.size h).toLoadRect (View.loadsAt_vmem h_S1x96x28x8x128)) fun (w : Vec F S1x96x28x8x128 .fp8e4m3) =>
  .op (.load arg1 (Rect.unit (s := S256x3584) ![0, 0] S256x3584.size inb_S256x3584_S256x3584_0_0).toLoadRect (View.loadsAt_vmem h_S256x3584)) fun (q : Vec F S256x3584 .fp8e4m3) =>
  .op (.load arg6 (Rect.unit (s := S2x8x128) ![0, 0, 0] S1x8x128.size inb_S2x8x128_S1x8x128_0_0_0).toLoadRect (View.loadsAt_vmem h_S1x8x128)) fun (s0 : Vec F S1x8x128 .f32) =>
  tiles dst (prod w q) (shapeCast S8x128 s0 shapeCasts_S1x8x128_S8x128) loMask 0 (n := 96) (K :=
  .op (.load arg6 (Rect.unit (s := S2x8x128) ![1, 0, 0] S1x8x128.size inb_S2x8x128_S1x8x128_1_0_0).toLoadRect (View.loadsAt_vmem h_S1x8x128)) fun (s1 : Vec F S1x8x128 .f32) =>
  tiles dst (prod w q) (shapeCast S8x128 s1 shapeCasts_S1x8x128_S8x128) loMask 1 K 96 (Nat.le_refl _)) (Nat.le_refl _)

/-- The two copies of a block started: the first half of the slot, then the second. -/
def startPair (arg0 : Memref sig .tc .hbm S2058x28x8x128 .fp8e4m3) (harg0 : arg0.IsWhole) (arg5 : Memref sig .tc .vmem S2x96x29x8x128 .fp8e4m3) (harg5 : arg5.IsWhole) (arg8 : DmaSems sig S2)
    (os : Fin 1 → Nat) (hs : ∀ a, os a + S1.size a ≤ S2.size a)
    (ox oz : Fin 4 → Nat) (hx : ∀ a, ox a + S48x28x8x128.size a ≤ S2058x28x8x128.size a) (hz : ∀ a, oz a + S48x28x8x128.size a ≤ S2058x28x8x128.size a)
    (hwx : (Rect.unit (s := S2058x28x8x128) ox S48x28x8x128.size hx).WholeWords (EltTy.packing .fp8e4m3)) (hwz : (Rect.unit (s := S2058x28x8x128) oz S48x28x8x128.size hz).WholeWords (EltTy.packing .fp8e4m3))
    (d0 d1 : Fin 5 → Nat) (h0 : ∀ a, d0 a + S1x48x28x8x128.size a ≤ S2x96x29x8x128.size a) (h1 : ∀ a, d1 a + S1x48x28x8x128.size a ≤ S2x96x29x8x128.size a)
    (hw0 : (Rect.unit (s := S2x96x29x8x128) d0 S1x48x28x8x128.size h0).WholeWords (EltTy.packing .fp8e4m3)) (hw1 : (Rect.unit (s := S2x96x29x8x128) d1 S1x48x28x8x128.size h1).WholeWords (EltTy.packing .fp8e4m3))
    (K : Prog (TpuEff nD τ sig (Elt F) Λ₀ .tc) PUnit) : Prog (TpuEff nD τ sig (Elt F) Λ₀ .tc) PUnit :=
  .op (.enqueueDma (wSrc arg0 ox hx) (.here (wDst arg5 d0 h0)) (.dma (cell arg8 os hs)) (harg0.wordExact_slice rfl _ hwx) ((harg5.wordExact_slice rfl _ hw0).reshape _ _) ⟨Or.inl rfl, trivial⟩) fun _ =>
  .op (.enqueueDma (wSrc arg0 oz hz) (.here (wDst arg5 d1 h1)) (.dma (cell arg8 os hs)) (harg0.wordExact_slice rfl _ hwz) ((harg5.wordExact_slice rfl _ hw1).reshape _ _) ⟨Or.inl rfl, trivial⟩) fun _ => K

/-- The two copies of a block waited for. -/
def waitPair (arg0 : Memref sig .tc .hbm S2058x28x8x128 .fp8e4m3) (harg0 : arg0.IsWhole) (arg5 : Memref sig .tc .vmem S2x96x29x8x128 .fp8e4m3) (harg5 : arg5.IsWhole) (arg8 : DmaSems sig S2)
    (os : Fin 1 → Nat) (hs : ∀ a, os a + S1.size a ≤ S2.size a)
    (ox oz : Fin 4 → Nat) (hx : ∀ a, ox a + S48x28x8x128.size a ≤ S2058x28x8x128.size a) (hz : ∀ a, oz a + S48x28x8x128.size a ≤ S2058x28x8x128.size a)
    (hwx : (Rect.unit (s := S2058x28x8x128) ox S48x28x8x128.size hx).WholeWords (EltTy.packing .fp8e4m3)) (hwz : (Rect.unit (s := S2058x28x8x128) oz S48x28x8x128.size hz).WholeWords (EltTy.packing .fp8e4m3))
    (d0 d1 : Fin 5 → Nat) (h0 : ∀ a, d0 a + S1x48x28x8x128.size a ≤ S2x96x29x8x128.size a) (h1 : ∀ a, d1 a + S1x48x28x8x128.size a ≤ S2x96x29x8x128.size a)
    (hw0 : (Rect.unit (s := S2x96x29x8x128) d0 S1x48x28x8x128.size h0).WholeWords (EltTy.packing .fp8e4m3)) (hw1 : (Rect.unit (s := S2x96x29x8x128) d1 S1x48x28x8x128.size h1).WholeWords (EltTy.packing .fp8e4m3))
    (K : Prog (TpuEff nD τ sig (Elt F) Λ₀ .tc) PUnit) : Prog (TpuEff nD τ sig (Elt F) Λ₀ .tc) PUnit :=
  .op (.waitDma2 (cell arg8 os hs) (wSrc arg0 ox hx) (wDst arg5 d0 h0) (harg0.wordExact_slice rfl _ hwx) ((harg5.wordExact_slice rfl _ hw0).reshape _ _)) fun _ =>
  .op (.waitDma2 (cell arg8 os hs) (wSrc arg0 oz hz) (wDst arg5 d1 h1) (harg0.wordExact_slice rfl _ hwz) ((harg5.wordExact_slice rfl _ hw1).reshape _ _)) fun _ => K

/-- Eight of the transposed scales, as a block of their buffer. -/
def scPiece (x : Vec F S128x128 .f32) : FVec F S1x8x128 .f32 :=
  shapeCast S1x8x128 (extractStridedSlice S8x128 ![0, 0] (transpose S128x128 [1, 0] (shapeCast S128x128 x shapeCasts_S128x128_S128x128) transposes_S128x128_p1_0_S128x128) slices_S128x128_o0_0_S8x128) shapeCasts_S8x128_S1x8x128
/-- Half a finished block, as stored. -/
def savePiece (p : Vec F S1x2x384x128 .f32) : FVec F S2x384x128 .f32 := shapeCast S2x384x128 p shapeCasts_S1x2x384x128_S2x384x128

/-- Half of a finished block saved to a result. -/
def save (arg7 : Memref sig .tc .vmem S2x2x768x128 .f32) (out : Memref sig .tc .vmem S2x7680x128 .f32)
    (o : Fin 4 → Nat) (h : ∀ a, o a + S1x2x384x128.size a ≤ S2x2x768x128.size a) (d : Fin 3 → Nat) (hd : ∀ a, d a + S2x384x128.size a ≤ S2x7680x128.size a)
    (K : Prog (TpuEff nD τ sig (Elt F) Λ₀ .tc) PUnit) : Prog (TpuEff nD τ sig (Elt F) Λ₀ .tc) PUnit :=
  .op (.load arg7 (Rect.unit (s := S2x2x768x128) o S1x2x384x128.size h).toLoadRect (View.loadsAt_vmem h_S1x2x384x128)) fun (p : Vec F S1x2x384x128 .f32) =>
  .op (.load out (Rect.unit (s := S2x7680x128) d S2x384x128.size hd).toLoadRect (View.loadsAt_vmem h_S2x384x128)) fun _ =>
  .op (.store out (Rect.unit (s := S2x7680x128) d S2x384x128.size hd) (savePiece p) Finset.univ (View.stores_vmem_bits_univ h_S2x384x128 rfl) (.inl rfl)) fun _ => K

/-- The scales of batch `b`, transposed, and the first eight rows kept. -/
def scales (arg2 : Memref sig .tc .vmem S256x128 .f32) (arg6 : Memref sig .tc .vmem S2x8x128 .f32) (o : Fin 2 → Nat) (h : ∀ a, o a + S128x128.size a ≤ S256x128.size a)
    (d : Fin 3 → Nat) (hd : ∀ a, d a + S1x8x128.size a ≤ S2x8x128.size a) (K : Prog (TpuEff nD τ sig (Elt F) Λ₀ .tc) PUnit) : Prog (TpuEff nD τ sig (Elt F) Λ₀ .tc) PUnit :=
  .op (.load arg2 (Rect.unit (s := S256x128) o S128x128.size h).toLoadRect (View.loadsAt_vmem h_S128x128)) fun (x : Vec F S128x128 .f32) =>
  .op (.load arg6 (Rect.unit (s := S2x8x128) d S1x8x128.size hd).toLoadRect (View.loadsAt_vmem h_S1x8x128)) fun _ =>
  .op (.store arg6 (Rect.unit (s := S2x8x128) d S1x8x128.size hd) (scPiece x) Finset.univ (View.stores_vmem_bits_univ h_S1x8x128 rfl) (.inl rfl)) fun _ => K

/-- An array's copy into its buffer started, `M`, the copy waited for, then `K`. -/
def copyIn {S : Shape} {e : EltTy} (src : Memref sig .tc .hbm S e) (hsrc : src.IsWhole) (dst : Memref sig .tc .vmem S e) (hdst : dst.IsWhole) (sem : DmaSems sig S_)
    (M : Prog (TpuEff nD τ sig (Elt F) Λ₀ .tc) PUnit → Prog (TpuEff nD τ sig (Elt F) Λ₀ .tc) PUnit) (K : Prog (TpuEff nD τ sig (Elt F) Λ₀ .tc) PUnit) : Prog (TpuEff nD τ sig (Elt F) Λ₀ .tc) PUnit :=
  .op (.enqueueDma src (.here dst) (.dma sem.sem) hsrc.wordExact hdst.wordExact ⟨Or.inl rfl, trivial⟩) fun _ =>
  M (.op (.waitDma2 sem.sem src dst hsrc.wordExact hdst.wordExact) fun _ => K)

/-- A buffer copied out to its array and waited for, then `K`. -/
def copyOut {S : Shape} {e : EltTy} (src : Memref sig .tc .vmem S e) (hsrc : src.IsWhole) (dst : Memref sig .tc .hbm S e) (hdst : dst.IsWhole) (sem : DmaSems sig S_) (K : Prog (TpuEff nD τ sig (Elt F) Λ₀ .tc) PUnit) : Prog (TpuEff nD τ sig (Elt F) Λ₀ .tc) PUnit :=
  .op (.enqueueDma src (.here dst) (.dma sem.sem) hsrc.wordExact hdst.wordExact ⟨Or.inl rfl, trivial⟩) fun _ =>
  .op (.waitDma2 sem.sem src dst hsrc.wordExact hdst.wordExact) fun _ => K

theorem row_slices (j : Fin 3) : S128x128.Slices ![125 + j.val, 0] S1x128 :=
  ⟨rfl, fun a => by have := j.isLt; fin_cases a <;> simp [S1x128, S128x128] <;> omega⟩
/-- A block of 128 channels of the projection, times the channels' scales: time by channel. -/
def convPiece (p : Vec F S1x1x128x128 .f32) (w : Vec F S1x128 .f32) : FVec F S128x128 .f32 :=
  mulf (transpose S128x128 [1, 0] (shapeCast S128x128 p shapeCasts_S1x1x128x128_S128x128) transposes_S128x128_p1_0_S128x128) (broadcastTo S128x128 w broadcasts_S1x128_S128x128)
/-- One of its last three times. -/
def convRow (j : Fin 3) (p : Vec F S1x1x128x128 .f32) (w : Vec F S1x128 .f32) : FVec F S1x1x128 .f32 :=
  shapeCast S1x1x128 (extractStridedSlice S1x128 ![125 + j.val, 0] (convPiece p w) (row_slices j)) shapeCasts_S1x128_S1x1x128
/-- One row stored, then `K`. -/
def putRow (arg12 : Memref sig .tc .vmem S3x2x8704 .f32) (o : Fin 3 → Nat) (h : ∀ a, o a + S1x1x128.size a ≤ S3x2x8704.size a) (row : FVec F S1x1x128 .f32) (K : Prog (TpuEff nD τ sig (Elt F) Λ₀ .tc) PUnit) : Prog (TpuEff nD τ sig (Elt F) Λ₀ .tc) PUnit :=
  .op (.load arg12 (Rect.unit (s := S3x2x8704) o S1x1x128.size h).toLoadRect (View.loadsAt_vmem h_S1x1x128)) fun _ =>
  .op (.store arg12 (Rect.unit (s := S3x2x8704) o S1x1x128.size h) row Finset.univ (View.stores_vmem_bits_univ h_S1x1x128 rfl) (.inl rfl)) fun _ => K
/-- A block of 128 channels: its last three times kept, then `K`. -/
def conv (arg9 : Memref sig .tc .vmem S2x2x768x128 .f32) (arg11 : Memref sig .tc .vmem S1x16464 .f32) (arg12 : Memref sig .tc .vmem S3x2x8704 .f32)
    (op : Fin 4 → Nat) (hp : ∀ a, op a + S1x1x128x128.size a ≤ S2x2x768x128.size a) (ow : Fin 2 → Nat) (hw : ∀ a, ow a + S1x128.size a ≤ S1x16464.size a)
    (o0 o1 o2 : Fin 3 → Nat) (h0 : ∀ a, o0 a + S1x1x128.size a ≤ S3x2x8704.size a) (h1 : ∀ a, o1 a + S1x1x128.size a ≤ S3x2x8704.size a) (h2 : ∀ a, o2 a + S1x1x128.size a ≤ S3x2x8704.size a)
    (K : Prog (TpuEff nD τ sig (Elt F) Λ₀ .tc) PUnit) : Prog (TpuEff nD τ sig (Elt F) Λ₀ .tc) PUnit :=
  .op (.load arg9 (Rect.unit (s := S2x2x768x128) op S1x1x128x128.size hp).toLoadRect (View.loadsAt_vmem h_S1x1x128x128)) fun (p : Vec F S1x1x128x128 .f32) =>
  .op (.load arg11 (Rect.unit (s := S1x16464) ow S1x128.size hw).toLoadRect (View.loadsAt_vmem h_S1x128)) fun (w : Vec F S1x128 .f32) =>
  putRow arg12 o0 h0 (convRow 0 p w) (putRow arg12 o1 h1 (convRow 1 p w) (putRow arg12 o2 h2 (convRow 2 p w) K))

/-! ## B, C and dt: their copies, their projection, their rows of the convolution state -/

/-- The first 96 rows of B and C. -/
def src0 (arg0 : Memref sig .tc .hbm S2058x28x8x128 .fp8e4m3) : Memref sig .tc .hbm S96x28x8x128 .fp8e4m3 :=
  arg0.slice (Rect.unit (s := S2058x28x8x128) ![1920, 0, 0, 0] S96x28x8x128.size inb_S2058x28x8x128_S96x28x8x128_1920_0_0_0) (fun _ => rfl)
/-- The other 32. -/
def src1 (arg0 : Memref sig .tc .hbm S2058x28x8x128 .fp8e4m3) : Memref sig .tc .hbm S32x28x8x128 .fp8e4m3 :=
  arg0.slice (Rect.unit (s := S2058x28x8x128) ![2016, 0, 0, 0] S32x28x8x128.size inb_S2058x28x8x128_S32x28x8x128_2016_0_0_0) (fun _ => rfl)
/-- The ten rows of dt. -/
def src2 (arg0 : Memref sig .tc .hbm S2058x28x8x128 .fp8e4m3) : Memref sig .tc .hbm S10x28x8x128 .fp8e4m3 :=
  arg0.slice (Rect.unit (s := S2058x28x8x128) ![2048, 0, 0, 0] S10x28x8x128.size inb_S2058x28x8x128_S10x28x8x128_2048_0_0_0) (fun _ => rfl)
/-- The first slot. -/
def dst0 (arg7 : Memref sig .tc .vmem S2x96x29x8x128 .fp8e4m3) : Memref sig .tc .vmem S96x28x8x128 .fp8e4m3 :=
  (arg7.slice (Rect.unit (s := S2x96x29x8x128) ![0, 0, 0, 0, 0] S1x96x28x8x128.size inb_S2x96x29x8x128_S1x96x28x8x128_0_0_0_0_0) (fun _ => rfl)).squeeze S96x28x8x128 squeezes_S1x96x28x8x128_S96x28x8x128
/-- The second slot's first 32 rows. -/
def dst1 (arg7 : Memref sig .tc .vmem S2x96x29x8x128 .fp8e4m3) : Memref sig .tc .vmem S32x28x8x128 .fp8e4m3 :=
  (arg7.slice (Rect.unit (s := S2x96x29x8x128) ![1, 0, 0, 0, 0] S1x32x28x8x128.size inb_S2x96x29x8x128_S1x32x28x8x128_1_0_0_0_0) (fun _ => rfl)).squeeze S32x28x8x128 squeezes_S1x32x28x8x128_S32x28x8x128
/-- Its next ten. -/
def dst2 (arg7 : Memref sig .tc .vmem S2x96x29x8x128 .fp8e4m3) : Memref sig .tc .vmem S10x28x8x128 .fp8e4m3 :=
  (arg7.slice (Rect.unit (s := S2x96x29x8x128) ![1, 32, 0, 0, 0] S1x10x28x8x128.size inb_S2x96x29x8x128_S1x10x28x8x128_1_32_0_0_0) (fun _ => rfl)).squeeze S10x28x8x128 squeezes_S1x10x28x8x128_S10x28x8x128

/-- The three copies started, then `K`. -/
def startBC (arg0 : Memref sig .tc .hbm S2058x28x8x128 .fp8e4m3) (harg0 : arg0.IsWhole) (arg7 : Memref sig .tc .vmem S2x96x29x8x128 .fp8e4m3) (harg7 : arg7.IsWhole) (arg14 : DmaSems sig S2)
    (K : Prog (TpuEff nD τ sig (Elt F) Λ₀ .tc) PUnit) : Prog (TpuEff nD τ sig (Elt F) Λ₀ .tc) PUnit :=
  .op (.enqueueDma (src0 arg0) (.here (dst0 arg7)) (.dma (cell arg14 ![0] inb_S2_S1_0)) (harg0.wordExact_slice rfl _ wordsfp8e4m3_S2058x28x8x128_S96x28x8x128_1920_0_0_0) ((harg7.wordExact_slice rfl _ wordsfp8e4m3_S2x96x29x8x128_S1x96x28x8x128_0_0_0_0_0).reshape _ _) ⟨Or.inl rfl, trivial⟩) fun _ =>
  .op (.enqueueDma (src1 arg0) (.here (dst1 arg7)) (.dma (cell arg14 ![1] inb_S2_S1_1)) (harg0.wordExact_slice rfl _ wordsfp8e4m3_S2058x28x8x128_S32x28x8x128_2016_0_0_0) ((harg7.wordExact_slice rfl _ wordsfp8e4m3_S2x96x29x8x128_S1x32x28x8x128_1_0_0_0_0).reshape _ _) ⟨Or.inl rfl, trivial⟩) fun _ =>
  .op (.enqueueDma (src2 arg0) (.here (dst2 arg7)) (.dma (cell arg14 ![1] inb_S2_S1_1)) (harg0.wordExact_slice rfl _ wordsfp8e4m3_S2058x28x8x128_S10x28x8x128_2048_0_0_0) ((harg7.wordExact_slice rfl _ wordsfp8e4m3_S2x96x29x8x128_S1x10x28x8x128_1_32_0_0_0).reshape _ _) ⟨Or.inl rfl, trivial⟩) fun _ => K
/-- The first waited for, then `K`. -/
def waitB (arg0 : Memref sig .tc .hbm S2058x28x8x128 .fp8e4m3) (harg0 : arg0.IsWhole) (arg7 : Memref sig .tc .vmem S2x96x29x8x128 .fp8e4m3) (harg7 : arg7.IsWhole) (arg14 : DmaSems sig S2)
    (K : Prog (TpuEff nD τ sig (Elt F) Λ₀ .tc) PUnit) : Prog (TpuEff nD τ sig (Elt F) Λ₀ .tc) PUnit :=
  .op (.waitDma2 (cell arg14 ![0] inb_S2_S1_0) (src0 arg0) (dst0 arg7) (harg0.wordExact_slice rfl _ wordsfp8e4m3_S2058x28x8x128_S96x28x8x128_1920_0_0_0) ((harg7.wordExact_slice rfl _ wordsfp8e4m3_S2x96x29x8x128_S1x96x28x8x128_0_0_0_0_0).reshape _ _)) fun _ => K
/-- The two others waited for, then `K`. -/
def waitC (arg0 : Memref sig .tc .hbm S2058x28x8x128 .fp8e4m3) (harg0 : arg0.IsWhole) (arg7 : Memref sig .tc .vmem S2x96x29x8x128 .fp8e4m3) (harg7 : arg7.IsWhole) (arg14 : DmaSems sig S2)
    (K : Prog (TpuEff nD τ sig (Elt F) Λ₀ .tc) PUnit) : Prog (TpuEff nD τ sig (Elt F) Λ₀ .tc) PUnit :=
  .op (.waitDma2 (cell arg14 ![1] inb_S2_S1_1) (src1 arg0) (dst1 arg7) (harg0.wordExact_slice rfl _ wordsfp8e4m3_S2058x28x8x128_S32x28x8x128_2016_0_0_0) ((harg7.wordExact_slice rfl _ wordsfp8e4m3_S2x96x29x8x128_S1x32x28x8x128_1_0_0_0_0).reshape _ _)) fun _ =>
  .op (.waitDma2 (cell arg14 ![1] inb_S2_S1_1) (src2 arg0) (dst2 arg7) (harg0.wordExact_slice rfl _ wordsfp8e4m3_S2058x28x8x128_S10x28x8x128_2048_0_0_0) ((harg7.wordExact_slice rfl _ wordsfp8e4m3_S2x96x29x8x128_S1x10x28x8x128_1_32_0_0_0).reshape _ _)) fun _ => K

/-- Six rows of zeros. -/
def zeroPiece : FVec F S1x6x28x8x128 .fp8e4m3 := shapeCast S1x6x28x8x128 (broadcast S6x28x8x128 (Scalar.ofBits .fp8e4m3 0x00#8)) shapeCasts_S6x28x8x128_S1x6x28x8x128
/-- The second slot's rows past dt's made zero, then `K`. -/
def zeros (arg7 : Memref sig .tc .vmem S2x96x29x8x128 .fp8e4m3) (harg7 : arg7.IsWhole) (K : Prog (TpuEff nD τ sig (Elt F) Λ₀ .tc) PUnit) : Prog (TpuEff nD τ sig (Elt F) Λ₀ .tc) PUnit :=
  .op (.load arg7 (Rect.unit (s := S2x96x29x8x128) ![1, 42, 0, 0, 0] S1x6x28x8x128.size inb_S2x96x29x8x128_S1x6x28x8x128_1_42_0_0_0).toLoadRect (View.loadsAt_vmem h_S1x6x28x8x128)) fun _ =>
  .op (.store arg7 (Rect.unit (s := S2x96x29x8x128) ![1, 42, 0, 0, 0] S1x6x28x8x128.size inb_S2x96x29x8x128_S1x6x28x8x128_1_42_0_0_0) zeroPiece Finset.univ (View.stores_vmem h_S1x6x28x8x128 (harg7.storeExact_slice rfl _ packedfp8e4m3_S2x96x29x8x128_S1x6x28x8x128_1_42_0_0_0) (fun _ => rfl)) (.inl rfl)) fun _ => K

/-- Tile `(b, t)` of the kept channels: eight rows. -/
theorem tileB_inb (b : Fin 2) (t : Nat) (ht : t < 144) (a : Fin 3) : (![b.val, 8 * t, 0] : Fin 3 → Nat) a + S1x8x128.size a ≤ S2x1152x128.size a := by
  have := b.isLt
  fin_cases a <;> simp [S1x8x128, S2x1152x128] <;> omega
/-- The last `n` of `N` tiles of batch `b`, kept from tile `R` on. -/
def tilesB (dst : Memref sig .tc .vmem S2x1152x128 .f32) (N R : Nat) (hR : R + N ≤ 144) (v : Fin N → FVec F S8x128 .f32) (b : Fin 2)
    (K : Prog (TpuEff nD τ sig (Elt F) Λ₀ .tc) PUnit) : (n : Nat) → n ≤ N → Prog (TpuEff nD τ sig (Elt F) Λ₀ .tc) PUnit
  | 0, _ => K
  | n + 1, h =>
    .op (.load dst (Rect.unit (s := S2x1152x128) ![b.val, 8 * (R + (N - 1 - n)), 0] S1x8x128.size (tileB_inb b _ (by omega))).toLoadRect (View.loadsAt_vmem h_S1x8x128)) fun _ =>
    .op (.store dst (Rect.unit (s := S2x1152x128) ![b.val, 8 * (R + (N - 1 - n)), 0] S1x8x128.size (tileB_inb b _ (by omega))) (shapeCast S1x8x128 (v ⟨N - 1 - n, by omega⟩) shapeCasts_S8x128_S1x8x128) Finset.univ (View.stores_vmem_bits_univ h_S1x8x128 rfl) (.inl rfl)) fun _ =>
    tilesB dst N R hR v b K n (by omega)

theorem rowA_slices48 (d : Nat) (hd : d = 0 ∨ d = 32) (b : Fin 2) (t : Fin 48) : S384x256.Slices ![64 * (t.val / 8) + 8 * (t.val % 8 / 2) + d, 128 * b.val] S8x128 :=
  ⟨rfl, fun a => by
    have := b.isLt; have := t.isLt
    fin_cases a <;> simp [S8x128, S384x256] <;> omega⟩
/-- A tile's value, from half a block. -/
def tileVal48 (r : FVec F S384x256 .f32) (sc : FVec F S8x128 .f32) (lo : IVec S8x128 1) (b : Fin 2) (t : Fin 48) : FVec F S8x128 .f32 :=
  mulf (if t.val % 2 = 0 then
      select lo (extractStridedSlice S8x128 ![64 * (t.val / 8) + 8 * (t.val % 8 / 2) + 0, 128 * b.val] r (rowA_slices48 0 (.inl rfl) b t))
        (dynamicRotate 0 4#32 none (extractStridedSlice S8x128 ![64 * (t.val / 8) + 8 * (t.val % 8 / 2) + 32, 128 * b.val] r (rowA_slices48 32 (.inr rfl) b t)) rotates_S8x128_d0)
    else
      select lo (dynamicRotate 0 4#32 none (extractStridedSlice S8x128 ![64 * (t.val / 8) + 8 * (t.val % 8 / 2) + 0, 128 * b.val] r (rowA_slices48 0 (.inl rfl) b t)) rotates_S8x128_d0)
        (extractStridedSlice S8x128 ![64 * (t.val / 8) + 8 * (t.val % 8 / 2) + 32, 128 * b.val] r (rowA_slices48 32 (.inr rfl) b t))) sc
/-- Half a block of weights, its rows permuted, against the codes. -/
def prod48 (w : FVec F S1x48x28x8x128 .fp8e4m3) (q : FVec F S256x3584 .fp8e4m3) : FVec F S384x256 .f32 :=
  matmul dot_S384x3584_S256x3584_S384x256_1_1_0_0_n_n none
    (shapeCast S384x3584 (transpose S6x2x8x4x28x128 [0, 3, 1, 4, 2, 5] (shapeCast S6x8x28x2x4x128 (shapeCast S48x28x8x128 w shapeCasts_S1x48x28x8x128_S48x28x8x128)
      shapeCasts_S48x28x8x128_S6x8x28x2x4x128) transposes_S6x8x28x2x4x128_p0_3_1_4_2_5_S6x2x8x4x28x128) shapeCasts_S6x2x8x4x28x128_S384x3584)
    (shapeCast S256x3584 q shapeCasts_S256x3584_S256x3584) (constant S384x256 .f32 0x00000000#32)

/-- The first slot projected into the kept channels' first 768 rows. -/
def projectB0 (arg1 : Memref sig .tc .vmem S256x3584 .fp8e4m3) (arg7 : Memref sig .tc .vmem S2x96x29x8x128 .fp8e4m3) (arg8 : Memref sig .tc .vmem S2x8x128 .f32) (arg10 : Memref sig .tc .vmem S2x1152x128 .f32)
    (K : Prog (TpuEff nD τ sig (Elt F) Λ₀ .tc) PUnit) : Prog (TpuEff nD τ sig (Elt F) Λ₀ .tc) PUnit :=
  .op (.load arg7 (Rect.unit (s := S2x96x29x8x128) ![0, 0, 0, 0, 0] S1x96x28x8x128.size inb_S2x96x29x8x128_S1x96x28x8x128_0_0_0_0_0).toLoadRect (View.loadsAt_vmem h_S1x96x28x8x128)) fun (w : Vec F S1x96x28x8x128 .fp8e4m3) =>
  .op (.load arg1 (Rect.unit (s := S256x3584) ![0, 0] S256x3584.size inb_S256x3584_S256x3584_0_0).toLoadRect (View.loadsAt_vmem h_S256x3584)) fun (q : Vec F S256x3584 .fp8e4m3) =>
  .op (.load arg8 (Rect.unit (s := S2x8x128) ![0, 0, 0] S1x8x128.size inb_S2x8x128_S1x8x128_0_0_0).toLoadRect (View.loadsAt_vmem h_S1x8x128)) fun (s0 : Vec F S1x8x128 .f32) =>
  tilesB arg10 96 0 (by omega) (tileVal (prod w q) (shapeCast S8x128 s0 shapeCasts_S1x8x128_S8x128) loMask 0) 0 (n := 96) (K :=
  .op (.load arg8 (Rect.unit (s := S2x8x128) ![1, 0, 0] S1x8x128.size inb_S2x8x128_S1x8x128_1_0_0).toLoadRect (View.loadsAt_vmem h_S1x8x128)) fun (s1 : Vec F S1x8x128 .f32) =>
  tilesB arg10 96 0 (by omega) (tileVal (prod w q) (shapeCast S8x128 s1 shapeCasts_S1x8x128_S8x128) loMask 1) 1 K 96 (Nat.le_refl _)) (Nat.le_refl _)
/-- Half of the second slot projected into the other 384. -/
def projectB1 (arg1 : Memref sig .tc .vmem S256x3584 .fp8e4m3) (arg7 : Memref sig .tc .vmem S2x96x29x8x128 .fp8e4m3) (arg8 : Memref sig .tc .vmem S2x8x128 .f32) (arg10 : Memref sig .tc .vmem S2x1152x128 .f32)
    (K : Prog (TpuEff nD τ sig (Elt F) Λ₀ .tc) PUnit) : Prog (TpuEff nD τ sig (Elt F) Λ₀ .tc) PUnit :=
  .op (.load arg7 (Rect.unit (s := S2x96x29x8x128) ![1, 0, 0, 0, 0] S1x48x28x8x128.size inb_S2x96x29x8x128_S1x48x28x8x128_1_0_0_0_0).toLoadRect (View.loadsAt_vmem h_S1x48x28x8x128)) fun (w : Vec F S1x48x28x8x128 .fp8e4m3) =>
  .op (.load arg1 (Rect.unit (s := S256x3584) ![0, 0] S256x3584.size inb_S256x3584_S256x3584_0_0).toLoadRect (View.loadsAt_vmem h_S256x3584)) fun (q : Vec F S256x3584 .fp8e4m3) =>
  .op (.load arg8 (Rect.unit (s := S2x8x128) ![0, 0, 0] S1x8x128.size inb_S2x8x128_S1x8x128_0_0_0).toLoadRect (View.loadsAt_vmem h_S1x8x128)) fun (s0 : Vec F S1x8x128 .f32) =>
  tilesB arg10 48 96 (by omega) (tileVal48 (prod48 w q) (shapeCast S8x128 s0 shapeCasts_S1x8x128_S8x128) loMask 0) 0 (n := 48) (K :=
  .op (.load arg8 (Rect.unit (s := S2x8x128) ![1, 0, 0] S1x8x128.size inb_S2x8x128_S1x8x128_1_0_0).toLoadRect (View.loadsAt_vmem h_S1x8x128)) fun (s1 : Vec F S1x8x128 .f32) =>
  tilesB arg10 48 96 (by omega) (tileVal48 (prod48 w q) (shapeCast S8x128 s1 shapeCasts_S1x8x128_S8x128) loMask 1) 1 K 48 (Nat.le_refl _)) (Nat.le_refl _)

/-- A block of 128 kept channels, times the channels' scales: time by channel. -/
def convPieceB (p : Vec F S1x128x128 .f32) (w : Vec F S1x128 .f32) : FVec F S128x128 .f32 :=
  mulf (transpose S128x128 [1, 0] (shapeCast S128x128 p shapeCasts_S1x128x128_S128x128) transposes_S128x128_p1_0_S128x128) (broadcastTo S128x128 w broadcasts_S1x128_S128x128)
/-- One of its last three times. -/
def convRowB (j : Fin 3) (p : Vec F S1x128x128 .f32) (w : Vec F S1x128 .f32) : FVec F S1x1x128 .f32 :=
  shapeCast S1x1x128 (extractStridedSlice S1x128 ![125 + j.val, 0] (convPieceB p w) (row_slices j)) shapeCasts_S1x128_S1x1x128
theorem pieceB_inb (b : Fin 2) (k : Nat) (hk : k < 8) (a : Fin 3) : (![b.val, 128 * k, 0] : Fin 3 → Nat) a + S1x128x128.size a ≤ S2x1152x128.size a := by
  have := b.isLt
  fin_cases a <;> simp [S1x128x128, S2x1152x128] <;> omega
theorem scaleB_inb (k : Nat) (hk : k < 8) (a : Fin 2) : (![0, 15360 + 128 * k] : Fin 2 → Nat) a + S1x128.size a ≤ S1x16464.size a := by
  fin_cases a <;> simp [S1x128, S1x16464] <;> omega
theorem rowB_inb (j : Fin 3) (b : Fin 2) (k : Nat) (hk : k < 8) (a : Fin 3) : (![j.val, b.val, 7680 + 128 * k] : Fin 3 → Nat) a + S1x1x128.size a ≤ S3x2x8704.size a := by
  have := b.isLt; have := j.isLt
  fin_cases a <;> simp [S1x1x128, S3x2x8704] <;> omega
/-- Block `k` of batch `b`'s kept channels: its last three times kept, then `K`. -/
def convB (arg10 : Memref sig .tc .vmem S2x1152x128 .f32) (arg11 : Memref sig .tc .vmem S1x16464 .f32) (arg12 : Memref sig .tc .vmem S3x2x8704 .f32) (b : Fin 2) (k : Nat) (hk : k < 8)
    (K : Prog (TpuEff nD τ sig (Elt F) Λ₀ .tc) PUnit) : Prog (TpuEff nD τ sig (Elt F) Λ₀ .tc) PUnit :=
  .op (.load arg10 (Rect.unit (s := S2x1152x128) ![b.val, 128 * k, 0] S1x128x128.size (pieceB_inb b k hk)).toLoadRect (View.loadsAt_vmem h_S1x128x128)) fun (p : Vec F S1x128x128 .f32) =>
  .op (.load arg11 (Rect.unit (s := S1x16464) ![0, 15360 + 128 * k] S1x128.size (scaleB_inb k hk)).toLoadRect (View.loadsAt_vmem h_S1x128)) fun (w : Vec F S1x128 .f32) =>
  putRow arg12 ![(0 : Fin 3).val, b.val, 7680 + 128 * k] (rowB_inb 0 b k hk) (convRowB 0 p w)
    (putRow arg12 ![(1 : Fin 3).val, b.val, 7680 + 128 * k] (rowB_inb 1 b k hk) (convRowB 1 p w)
      (putRow arg12 ![(2 : Fin 3).val, b.val, 7680 + 128 * k] (rowB_inb 2 b k hk) (convRowB 2 p w) K))
/-- The last `n` of the eight blocks. -/
def convsB (arg10 : Memref sig .tc .vmem S2x1152x128 .f32) (arg11 : Memref sig .tc .vmem S1x16464 .f32) (arg12 : Memref sig .tc .vmem S3x2x8704 .f32) (b : Fin 2)
    (K : Prog (TpuEff nD τ sig (Elt F) Λ₀ .tc) PUnit) : (n : Nat) → (h : n ≤ 8) → Prog (TpuEff nD τ sig (Elt F) Λ₀ .tc) PUnit
  | 0, _ => K
  | n + 1, h => convB arg10 arg11 arg12 b (7 - n) (by omega) (convsB arg10 arg11 arg12 b K n (by omega))

/-- One trip of the kernel's loop, as printed. -/
def region (arg0 : Memref sig .tc .hbm S2058x28x8x128 .fp8e4m3) (harg0 : arg0.IsWhole) (arg1 : Memref sig .tc .vmem S256x3584 .fp8e4m3) (harg1 : arg1.IsWhole)
    (arg2 : Memref sig .tc .vmem S256x128 .f32) (harg2 : arg2.IsWhole) (arg3 : Memref sig .tc .hbm S1x16464 .f32) (harg3 : arg3.IsWhole)
    (arg4 : Memref sig .tc .vmem S2x7680x128 .f32) (harg4 : arg4.IsWhole) (arg5 : Memref sig .tc .vmem S2x7680x128 .f32) (harg5 : arg5.IsWhole)
    (arg6 : Memref sig .tc .hbm S3x2x8704 .f32) (harg6 : arg6.IsWhole) (arg7 : Memref sig .tc .vmem S2x96x29x8x128 .fp8e4m3) (harg7 : arg7.IsWhole)
    (arg8 : Memref sig .tc .vmem S2x8x128 .f32) (harg8 : arg8.IsWhole) (arg9 : Memref sig .tc .vmem S2x2x768x128 .f32) (harg9 : arg9.IsWhole)
    (arg10 : Memref sig .tc .vmem S2x1152x128 .f32) (harg10 : arg10.IsWhole) (arg11 : Memref sig .tc .vmem S1x16464 .f32) (harg11 : arg11.IsWhole) (arg12 : Memref sig .tc .vmem S3x2x8704 .f32) (harg12 : arg12.IsWhole)
    (arg13 : DmaSems sig S_) (arg14 : DmaSems sig S2) (arg15 : DmaSems sig S_) (i : Fin k0_t1_loop.trips) : Prog (TpuEff nD τ sig (Elt F) Λ₀ .tc) PUnit := do
  let ⟨v1810, v1820, v1831, v1835, v1841, v1842⟩ : Σ' (v1810 : BitVec 32) (v1820 : BitVec 32) (v1831 : BitVec 32) (v1835 : BitVec 32) (v1841 : FVec F S128x128 .f32), FVec F S1x128 .f32 ← k0_part56 arg0 harg0 arg1 harg1 arg2 harg2 arg3 harg3 arg4 harg4 arg5 harg5 arg6 harg6 arg7 harg7 arg8 harg8 arg9 harg9 arg10 harg10 arg11 harg11 arg12 harg12 arg13 arg14 arg15 0#32 1#32 i
  let v1877 : FVec F S1x128 .f32 ← k0_part57 arg0 harg0 arg1 harg1 arg2 harg2 arg3 harg3 arg4 harg4 arg5 harg5 arg6 harg6 arg7 harg7 arg8 harg8 arg9 harg9 arg10 harg10 arg11 harg11 arg12 harg12 arg13 arg14 arg15 i v1820 v1831 v1835 v1841 v1842
  let ⟨v1910, v1916, v1917⟩ : Σ' (v1910 : BitVec 32) (v1916 : FVec F S128x128 .f32), FVec F S1x128 .f32 ← k0_part58 arg0 harg0 arg1 harg1 arg2 harg2 arg3 harg3 arg4 harg4 arg5 harg5 arg6 harg6 arg7 harg7 arg8 harg8 arg9 harg9 arg10 harg10 arg11 harg11 arg12 harg12 arg13 arg14 arg15 i v1820 v1831 v1877
  let v1952 : FVec F S1x128 .f32 ← k0_part59 arg0 harg0 arg1 harg1 arg2 harg2 arg3 harg3 arg4 harg4 arg5 harg5 arg6 harg6 arg7 harg7 arg8 harg8 arg9 harg9 arg10 harg10 arg11 harg11 arg12 harg12 arg13 arg14 arg15 i v1820 v1831 v1910 v1916 v1917
  let v1989 : FVec F S2x384x128 .f32 ← k0_part60 arg0 harg0 arg1 harg1 arg2 harg2 arg3 harg3 arg4 harg4 arg5 harg5 arg6 harg6 arg7 harg7 arg8 harg8 arg9 harg9 arg10 harg10 arg11 harg11 arg12 harg12 arg13 arg14 arg15 i v1820 v1831 v1952
  let _old : Vec F S2x384x128 .f32 ← Prog.lift (.load arg5 (Rect.unit (s := S2x7680x128) (k0_off21 i) S2x384x128.size (k0_off21_inb i)).toLoadRect (View.loadsAt_vmem h_S2x384x128))
  Prog.lift (.store arg5 (Rect.unit (s := S2x7680x128) (k0_off21 i) S2x384x128.size (k0_off21_inb i)) v1989 Finset.univ (View.stores_vmem_bits_univ h_S2x384x128 rfl) (.inl rfl))
  if h : k0_cond3 i = 1#1 then do
    Prog.lift (.enqueueDma (wSrc arg0 (k0_off25 i 960#32) (k0_off25_inb i h 1)) (.here (wDst arg7 (k0_off24 i) (k0_off24_inb i h))) (.dma (cell arg14 (k0_off23 i) (k0_off23_inb i h))) (harg0.wordExact_slice rfl _ (k0_off25_wordsfp8e4m3 i h 1)) ((harg7.wordExact_slice rfl _ (k0_off24_wordsfp8e4m3 i h)).reshape _ _) ⟨Or.inl rfl, trivial⟩)
    Prog.lift (.enqueueDma (wSrc arg0 (k0_off25 i 0#32) (k0_off25_inb i h 0)) (.here (wDst arg7 (k0_off26 i) (k0_off26_inb i h))) (.dma (cell arg14 (k0_off23 i) (k0_off23_inb i h))) (harg0.wordExact_slice rfl _ (k0_off25_wordsfp8e4m3 i h 0)) ((harg7.wordExact_slice rfl _ (k0_off26_wordsfp8e4m3 i h)).reshape _ _) ⟨Or.inl rfl, trivial⟩)
    pure ⟨⟩
  else do
    pure ⟨⟩
  pure ⟨⟩

/-- The next block waited for and projected, then `K`. -/
def next (arg0 : Memref sig .tc .hbm S2058x28x8x128 .fp8e4m3) (harg0 : arg0.IsWhole) (arg1 : Memref sig .tc .vmem S256x3584 .fp8e4m3)
    (arg7 : Memref sig .tc .vmem S2x96x29x8x128 .fp8e4m3) (harg7 : arg7.IsWhole) (arg8 : Memref sig .tc .vmem S2x8x128 .f32) (arg9 : Memref sig .tc .vmem S2x2x768x128 .f32) (arg14 : DmaSems sig S2)
    (i : Fin k0_t1_loop.trips) (h1 : k0_cond1 i = 1#1) (h2 : k0_cond2 i = 1#1) (K : Prog (TpuEff nD τ sig (Elt F) Λ₀ .tc) PUnit) : Prog (TpuEff nD τ sig (Elt F) Λ₀ .tc) PUnit :=
  waitPair arg0 harg0 arg7 harg7 arg14 (k0_off1 i) (k0_off1_inb i h1) (k0_off3 i 960#32) (k0_off3 i 0#32) (k0_off3_inb i h1 1) (k0_off3_inb i h1 0)
      (k0_off3_wordsfp8e4m3 i h1 1) (k0_off3_wordsfp8e4m3 i h1 0) (k0_off2 i) (k0_off4 i) (k0_off2_inb i h1) (k0_off4_inb i h1) (k0_off2_wordsfp8e4m3 i h1) (k0_off4_wordsfp8e4m3 i h1)
    (projectTo arg1 arg7 arg8 (pSlot arg9 (k0_off6 i) (k0_off6_inb i h2)) (k0_off5 i) (k0_off5_inb i h2) K)

/-- The last three times of the finished block's channels kept, batch by batch, then `K`. -/
def convs (arg9 : Memref sig .tc .vmem S2x2x768x128 .f32) (arg11 : Memref sig .tc .vmem S1x16464 .f32) (arg12 : Memref sig .tc .vmem S3x2x8704 .f32) (i : Fin k0_t1_loop.trips) (K : Prog (TpuEff nD τ sig (Elt F) Λ₀ .tc) PUnit) : Prog (TpuEff nD τ sig (Elt F) Λ₀ .tc) PUnit :=
  conv arg9 arg11 arg12 (k0_off7 i) (k0_off7_inb i) (k0_off8 i 0#32) (k0_off8_inb i 0) (k0_off9 i 0#32) (k0_off10 i 0#32) (k0_off11 i 0#32) (k0_off9_inb i 0) (k0_off10_inb i 0) (k0_off11_inb i 0) <|
  conv arg9 arg11 arg12 (k0_off12 i) (k0_off12_inb i) (k0_off8 i 128#32) (k0_off8_inb i 1) (k0_off9 i 128#32) (k0_off10 i 128#32) (k0_off11 i 128#32) (k0_off9_inb i 1) (k0_off10_inb i 1) (k0_off11_inb i 1) <|
  conv arg9 arg11 arg12 (k0_off13 i) (k0_off13_inb i) (k0_off8 i 256#32) (k0_off8_inb i 2) (k0_off9 i 256#32) (k0_off10 i 256#32) (k0_off11 i 256#32) (k0_off9_inb i 2) (k0_off10_inb i 2) (k0_off11_inb i 2) <|
  conv arg9 arg11 arg12 (k0_off14 i) (k0_off14_inb i) (k0_off8 i 0#32) (k0_off8_inb i 0) (k0_off15 i 0#32) (k0_off16 i 0#32) (k0_off17 i 0#32) (k0_off15_inb i 0) (k0_off16_inb i 0) (k0_off17_inb i 0) <|
  conv arg9 arg11 arg12 (k0_off18 i) (k0_off18_inb i) (k0_off8 i 128#32) (k0_off8_inb i 1) (k0_off15 i 128#32) (k0_off16 i 128#32) (k0_off17 i 128#32) (k0_off15_inb i 1) (k0_off16_inb i 1) (k0_off17_inb i 1) <|
  conv arg9 arg11 arg12 (k0_off19 i) (k0_off19_inb i) (k0_off8 i 256#32) (k0_off8_inb i 2) (k0_off15 i 256#32) (k0_off16 i 256#32) (k0_off17 i 256#32) (k0_off15_inb i 2) (k0_off16_inb i 2) (k0_off17_inb i 2) K

/-- The finished block saved, then `K`. -/
def saves (arg4 arg5 : Memref sig .tc .vmem S2x7680x128 .f32) (arg9 : Memref sig .tc .vmem S2x2x768x128 .f32) (i : Fin k0_t1_loop.trips) (K : Prog (TpuEff nD τ sig (Elt F) Λ₀ .tc) PUnit) : Prog (TpuEff nD τ sig (Elt F) Λ₀ .tc) PUnit :=
  save arg9 arg4 (k0_off20 i) (k0_off20_inb i) (k0_off21 i) (k0_off21_inb i)
    (save arg9 arg5 (k0_off22 i) (k0_off22_inb i) (k0_off21 i) (k0_off21_inb i) K)

/-- A further block's copies started, then `K`. -/
def ahead (arg0 : Memref sig .tc .hbm S2058x28x8x128 .fp8e4m3) (harg0 : arg0.IsWhole) (arg7 : Memref sig .tc .vmem S2x96x29x8x128 .fp8e4m3) (harg7 : arg7.IsWhole) (arg14 : DmaSems sig S2)
    (i : Fin k0_t1_loop.trips) (h : k0_cond3 i = 1#1) (K : Prog (TpuEff nD τ sig (Elt F) Λ₀ .tc) PUnit) : Prog (TpuEff nD τ sig (Elt F) Λ₀ .tc) PUnit :=
  startPair arg0 harg0 arg7 harg7 arg14 (k0_off23 i) (k0_off23_inb i h) (k0_off25 i 960#32) (k0_off25 i 0#32) (k0_off25_inb i h 1) (k0_off25_inb i h 0)
      (k0_off25_wordsfp8e4m3 i h 1) (k0_off25_wordsfp8e4m3 i h 0) (k0_off24 i) (k0_off26 i) (k0_off24_inb i h) (k0_off26_inb i h) (k0_off24_wordsfp8e4m3 i h) (k0_off26_wordsfp8e4m3 i h) K

/-- The kernel's body: the channels' scales copied in, the copies of the kept channels' weights started meanwhile, the row scales, the first three blocks' copies with the first
    projection between them, the loop, and the kept times copied out. -/
def body (arg0 : Memref sig .tc .hbm S2058x28x8x128 .fp8e4m3) (harg0 : arg0.IsWhole) (arg1 : Memref sig .tc .vmem S256x3584 .fp8e4m3) (harg1 : arg1.IsWhole)
    (arg2 : Memref sig .tc .vmem S256x128 .f32) (harg2 : arg2.IsWhole) (arg3 : Memref sig .tc .hbm S1x16464 .f32) (harg3 : arg3.IsWhole)
    (arg4 : Memref sig .tc .vmem S2x7680x128 .f32) (harg4 : arg4.IsWhole) (arg5 : Memref sig .tc .vmem S2x7680x128 .f32) (harg5 : arg5.IsWhole)
    (arg6 : Memref sig .tc .hbm S3x2x8704 .f32) (harg6 : arg6.IsWhole) (arg7 : Memref sig .tc .vmem S2x96x29x8x128 .fp8e4m3) (harg7 : arg7.IsWhole)
    (arg8 : Memref sig .tc .vmem S2x8x128 .f32) (harg8 : arg8.IsWhole) (arg9 : Memref sig .tc .vmem S2x2x768x128 .f32) (harg9 : arg9.IsWhole)
    (arg10 : Memref sig .tc .vmem S2x1152x128 .f32) (harg10 : arg10.IsWhole) (arg11 : Memref sig .tc .vmem S1x16464 .f32) (harg11 : arg11.IsWhole) (arg12 : Memref sig .tc .vmem S3x2x8704 .f32) (harg12 : arg12.IsWhole)
    (arg13 : DmaSems sig S_) (arg14 : DmaSems sig S2) (arg15 : DmaSems sig S_) :
    Prog (TpuEff nD τ sig (Elt F) Λ₀ .tc) PUnit :=
  copyIn arg3 harg3 arg11 harg11 arg13 (startBC arg0 harg0 arg7 harg7 arg14) <|
  scales arg2 arg8 ![0, 0] inb_S256x128_S128x128_0_0 ![0, 0, 0] inb_S2x8x128_S1x8x128_0_0_0 <|
  scales arg2 arg8 ![128, 0] inb_S256x128_S128x128_128_0 ![1, 0, 0] inb_S2x8x128_S1x8x128_1_0_0 <|
  zeros arg7 harg7 <|
  waitB arg0 harg0 arg7 harg7 arg14 <|
  projectB0 arg1 arg7 arg8 arg10 <|
  startPair arg0 harg0 arg7 harg7 arg14 ![0] inb_S2_S1_0 ![960, 0, 0, 0] ![0, 0, 0, 0] inb_S2058x28x8x128_S48x28x8x128_960_0_0_0 inb_S2058x28x8x128_S48x28x8x128_0_0_0_0
    wordsfp8e4m3_S2058x28x8x128_S48x28x8x128_960_0_0_0 wordsfp8e4m3_S2058x28x8x128_S48x28x8x128_0_0_0_0 ![0, 0, 0, 0, 0] ![0, 48, 0, 0, 0]
    inb_S2x96x29x8x128_S1x48x28x8x128_0_0_0_0_0 inb_S2x96x29x8x128_S1x48x28x8x128_0_48_0_0_0 wordsfp8e4m3_S2x96x29x8x128_S1x48x28x8x128_0_0_0_0_0 wordsfp8e4m3_S2x96x29x8x128_S1x48x28x8x128_0_48_0_0_0 <|
  waitC arg0 harg0 arg7 harg7 arg14 <|
  projectB1 arg1 arg7 arg8 arg10 <|
  startPair arg0 harg0 arg7 harg7 arg14 ![1] inb_S2_S1_1 ![1008, 0, 0, 0] ![48, 0, 0, 0] inb_S2058x28x8x128_S48x28x8x128_1008_0_0_0 inb_S2058x28x8x128_S48x28x8x128_48_0_0_0
    wordsfp8e4m3_S2058x28x8x128_S48x28x8x128_1008_0_0_0 wordsfp8e4m3_S2058x28x8x128_S48x28x8x128_48_0_0_0 ![1, 0, 0, 0, 0] ![1, 48, 0, 0, 0]
    inb_S2x96x29x8x128_S1x48x28x8x128_1_0_0_0_0 inb_S2x96x29x8x128_S1x48x28x8x128_1_48_0_0_0 wordsfp8e4m3_S2x96x29x8x128_S1x48x28x8x128_1_0_0_0_0 wordsfp8e4m3_S2x96x29x8x128_S1x48x28x8x128_1_48_0_0_0 <|
  convsB arg10 arg11 arg12 0 (n := 8) (h := Nat.le_refl _) (K := convsB arg10 arg11 arg12 1 (n := 8) (h := Nat.le_refl _) (K :=
  waitPair arg0 harg0 arg7 harg7 arg14 ![0] inb_S2_S1_0 ![960, 0, 0, 0] ![0, 0, 0, 0] inb_S2058x28x8x128_S48x28x8x128_960_0_0_0 inb_S2058x28x8x128_S48x28x8x128_0_0_0_0
    wordsfp8e4m3_S2058x28x8x128_S48x28x8x128_960_0_0_0 wordsfp8e4m3_S2058x28x8x128_S48x28x8x128_0_0_0_0 ![0, 0, 0, 0, 0] ![0, 48, 0, 0, 0]
    inb_S2x96x29x8x128_S1x48x28x8x128_0_0_0_0_0 inb_S2x96x29x8x128_S1x48x28x8x128_0_48_0_0_0 wordsfp8e4m3_S2x96x29x8x128_S1x48x28x8x128_0_0_0_0_0 wordsfp8e4m3_S2x96x29x8x128_S1x48x28x8x128_0_48_0_0_0 <|
  projectTo arg1 arg7 arg8 (pSlot arg9 ![0, 0, 0, 0] inb_S2x2x768x128_S1x2x768x128_0_0_0_0) ![0, 0, 0, 0, 0] inb_S2x96x29x8x128_S1x96x28x8x128_0_0_0_0_0 <|
  startPair arg0 harg0 arg7 harg7 arg14 ![0] inb_S2_S1_0 ![1056, 0, 0, 0] ![96, 0, 0, 0] inb_S2058x28x8x128_S48x28x8x128_1056_0_0_0 inb_S2058x28x8x128_S48x28x8x128_96_0_0_0
    wordsfp8e4m3_S2058x28x8x128_S48x28x8x128_1056_0_0_0 wordsfp8e4m3_S2058x28x8x128_S48x28x8x128_96_0_0_0 ![0, 0, 0, 0, 0] ![0, 48, 0, 0, 0]
    inb_S2x96x29x8x128_S1x48x28x8x128_0_0_0_0_0 inb_S2x96x29x8x128_S1x48x28x8x128_0_48_0_0_0 wordsfp8e4m3_S2x96x29x8x128_S1x48x28x8x128_0_0_0_0_0 wordsfp8e4m3_S2x96x29x8x128_S1x48x28x8x128_0_48_0_0_0 <|
  ((Scf.Loop.for k0_t1_loop k0_t1_ok ⟨⟩ fun i _ => region arg0 harg0 arg1 harg1 arg2 harg2 arg3 harg3 arg4 harg4 arg5 harg5 arg6 harg6 arg7 harg7 arg8 harg8 arg9 harg9 arg10 harg10 arg11 harg11 arg12 harg12 arg13 arg14 arg15 i) >>= fun _ => .ret ⟨⟩ : Prog (TpuEff nD τ sig (Elt F) Λ₀ .tc) PUnit) >>= fun _ =>
    copyOut arg12 harg12 arg6 harg6 arg15 (.ret ⟨⟩)))

end Cert.Project.Hand

end
-- ==== Proof.Project.Pieces.lean ====
/-
  What the copies move, piece by piece: the weights' buffer as its two slots' halves and a remainder no copy touches, the
  projected blocks' buffer as its two slots, the weights in HBM as one read share for each slot and half, and what a slot
  holds once a block has landed in it.
-/
module

public import proofs.«01_k».proof.Proof.Project.Kit
public import proofs.«01_k».proof.Proof.Project.Program
public import Idealize.ShloMosaic.Lib.Ring.WriteBehind
public import Idealize.ShloMosaic.Lib.ValueIdx

@[expose] public section

set_option maxRecDepth 16384

noncomputable section

namespace Cert.Project.Hand

open Cert.Project Cert.Project.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-! ## The cells, the halves, the windows and the slots -/

theorem inbCell (s : Fin 2) : ∀ a, (![s.val] : Fin 1 → Nat) a + S1.size a ≤ S2.size a := by
  have := s.isLt; intro a; fin_cases a
  show s.val + 1 ≤ 2; omega
theorem inbDst (s h : Fin 2) : ∀ a, (![s.val, 48 * h.val, 0, 0, 0] : Fin 5 → Nat) a + S1x48x28x8x128.size a ≤ S2x96x29x8x128.size a := by
  have := s.isLt; have := h.isLt; intro a; fin_cases a
  · show s.val + 1 ≤ 2; omega
  · show 48 * h.val + 48 ≤ 96; omega
  · show 0 + 28 ≤ 29; omega
  · show 0 + 8 ≤ 8; omega
  · show 0 + 128 ≤ 128; omega
theorem inbSrc (j : Fin 40) : ∀ a, (![48 * j.val, 0, 0, 0] : Fin 4 → Nat) a + S48x28x8x128.size a ≤ S2058x28x8x128.size a := by
  have := j.isLt; intro a; fin_cases a
  · show 48 * j.val + 48 ≤ 2058; omega
  · show 0 + 28 ≤ 28; omega
  · show 0 + 8 ≤ 8; omega
  · show 0 + 128 ≤ 128; omega
theorem inbSlot (s : Fin 2) : ∀ a, (![s.val, 0, 0, 0] : Fin 4 → Nat) a + S1x2x768x128.size a ≤ S2x2x768x128.size a := by
  have := s.isLt; intro a; fin_cases a
  · show s.val + 1 ≤ 2; omega
  · show 0 + 2 ≤ 2; omega
  · show 0 + 768 ≤ 768; omega
  · show 0 + 128 ≤ 128; omega

/-- Slot `s`'s cell, its half `h`, window `j` of the weights (48 rows), and slot `s` of the projected blocks. -/
abbrev cellC (s : Fin 2) : DmaSem sig := cell cc0_scratch7 ![s.val] (inbCell s)
abbrev dstC (s h : Fin 2) : Memref sig .tc .vmem S48x28x8x128 .fp8e4m3 := wDst scM0_0 ![s.val, 48 * h.val, 0, 0, 0] (inbDst s h)
abbrev srcC (j : Fin 40) : Memref sig .tc .hbm S48x28x8x128 .fp8e4m3 := wSrc hbM0_0 ![48 * j.val, 0, 0, 0] (inbSrc j)
abbrev slotC (s : Fin 2) : Memref sig .tc .vmem S2x768x128 .f32 := pSlot scM0_2 ![s.val, 0, 0, 0] (inbSlot s)

/-- Half `h` of block `i` is this window: the first halves are the windows from the twentieth on. -/
def blk (h : Fin 2) (i : Fin 20) : Fin 40 := ⟨20 * (1 - h.val) + i.val, by have := i.isLt; omega⟩

/-- The element sets of the halves and of the slots. -/
abbrev dstBox (p : Fin 2 × Fin 2) : Finset S2x96x29x8x128.Idx :=
  (Rect.unit (s := S2x96x29x8x128) ![p.1.val, 48 * p.2.val, 0, 0, 0] S1x48x28x8x128.size (inbDst p.1 p.2)).set
abbrev slotBox (s : Fin 2) : Finset S2x2x768x128.Idx := (Rect.unit (s := S2x2x768x128) ![s.val, 0, 0, 0] S1x2x768x128.size (inbSlot s)).set
theorem dst_set (s h : Fin 2) : (dstC s h).view.set = dstBox (s, h) := by
  refine (View.set_reshape _ _).trans ?_
  exact View.set_slice_whole _ _
theorem slot_set (s : Fin 2) : (slotC s).view.set = slotBox s := by
  refine (View.set_reshape _ _).trans ?_
  exact View.set_slice_whole _ _
theorem mem_dstBox (p : Fin 2 × Fin 2) (x : S2x96x29x8x128.Idx) :
    x ∈ dstBox p ↔ (x 0).val = p.1.val ∧ 48 * p.2.val ≤ (x 1).val ∧ (x 1).val < 48 * p.2.val + 48 ∧ (x 2).val < 28 := by
  have h3 : (x 3).val < 8 := (x 3).isLt
  have h4 : (x 4).val < 128 := (x 4).isLt
  rw [Rect.mem_set_unit]
  constructor
  · intro h
    have a0 : p.1.val ≤ (x 0).val ∧ (x 0).val < p.1.val + 1 := h 0
    have a1 : 48 * p.2.val ≤ (x 1).val ∧ (x 1).val < 48 * p.2.val + 48 := h 1
    have a2 : 0 ≤ (x 2).val ∧ (x 2).val < 0 + 28 := h 2
    omega
  · rintro ⟨e0, e1, e2, e3⟩ a
    match a with
    | ⟨0, _⟩ => exact (show p.1.val ≤ (x 0).val ∧ (x 0).val < p.1.val + 1 by omega)
    | ⟨1, _⟩ => exact (show 48 * p.2.val ≤ (x 1).val ∧ (x 1).val < 48 * p.2.val + 48 by omega)
    | ⟨2, _⟩ => exact (show 0 ≤ (x 2).val ∧ (x 2).val < 0 + 28 by omega)
    | ⟨3, _⟩ => exact (show 0 ≤ (x 3).val ∧ (x 3).val < 0 + 8 by omega)
    | ⟨4, _⟩ => exact (show 0 ≤ (x 4).val ∧ (x 4).val < 0 + 128 by omega)
theorem mem_slotBox (s : Fin 2) (x : S2x2x768x128.Idx) : x ∈ slotBox s ↔ (x 0).val = s.val := by
  have h1 : (x 1).val < 2 := (x 1).isLt
  have h2 : (x 2).val < 768 := (x 2).isLt
  have h3 : (x 3).val < 128 := (x 3).isLt
  rw [Rect.mem_set_unit]
  constructor
  · intro h
    have a0 : s.val ≤ (x 0).val ∧ (x 0).val < s.val + 1 := h 0
    omega
  · rintro e0 a
    match a with
    | ⟨0, _⟩ => exact (show s.val ≤ (x 0).val ∧ (x 0).val < s.val + 1 by omega)
    | ⟨1, _⟩ => exact (show 0 ≤ (x 1).val ∧ (x 1).val < 0 + 2 by omega)
    | ⟨2, _⟩ => exact (show 0 ≤ (x 2).val ∧ (x 2).val < 0 + 768 by omega)
    | ⟨3, _⟩ => exact (show 0 ≤ (x 3).val ∧ (x 3).val < 0 + 128 by omega)
theorem dst_disj (p p' : Fin 2 × Fin 2) (h : p ≠ p') : Disjoint (dstBox p) (dstBox p') := by
  rw [Finset.disjoint_left]
  intro x hx hx'
  rw [mem_dstBox] at hx hx'
  exact h (Prod.ext (Fin.ext (by omega)) (Fin.ext (by omega)))
theorem slot_disj (s s' : Fin 2) (h : s ≠ s') : Disjoint (slotBox s) (slotBox s') := by
  rw [Finset.disjoint_left]
  intro x hx hx'
  rw [mem_slotBox] at hx hx'
  exact h (Fin.ext (by omega))
theorem slot_cover : Finset.univ.biUnion slotBox = Finset.univ := by
  ext x
  simp only [Finset.mem_biUnion, Finset.mem_univ, true_and, iff_true]
  exact ⟨⟨(x 0).val, (x 0).isLt⟩, (mem_slotBox _ x).mpr rfl⟩

/-! ## The pieces held -/

abbrev wPt (c : Dev nD) (s h : Fin 2) (f : HbBuf0 (F := F) c scM0_0) : sProp 𝕄 :=
  (dstC s h).view.loc (c : Thread nD τ) ↦[(dstC s h).view.set]{fullShare} f
abbrev wSpare (c : Dev nD) (f : HbBuf0 (F := F) c scM0_0) : sProp 𝕄 :=
  scM0_0.view.loc (c : Thread nD τ) ↦[Finset.univ \ Finset.univ.biUnion dstBox]{fullShare} f
abbrev pPt (c : Dev nD) (s : Fin 2) (f : HbBuf0 (F := F) c scM0_2) : sProp 𝕄 :=
  (slotC s).view.loc (c : Thread nD τ) ↦[(slotC s).view.set]{fullShare} f
/-- The read share of slot `s`'s half `h`: the weights whole, or one window of them, or the others. -/
abbrev tok (s h : Fin 2) : PosShare TreeShare := Transfers.shareTokN fullShare (2 * s.val + h.val)
abbrev tokPt (c : Dev nD) (s h : Fin 2) (fw : HbBuf0 (F := F) c hbM0_0) : sProp 𝕄 :=
  hbM0_0.view.loc (c : Thread nD τ) ↦{tok s h} fw
abbrev srcPt (c : Dev nD) (s h : Fin 2) (j : Fin 40) (fw : HbBuf0 (F := F) c hbM0_0) : sProp 𝕄 :=
  (srcC j).view.loc (c : Thread nD τ) ↦[(srcC j).view.set]{tok s h} fw
abbrev restPt (c : Dev nD) (s h : Fin 2) (j : Fin 40) (fw : HbBuf0 (F := F) c hbM0_0) : sProp 𝕄 :=
  hbM0_0.view.loc (c : Thread nD τ) ↦[Finset.univ \ (srcC j).view.set]{tok s h} fw

theorem wPt_eq (c : Dev nD) (p : Fin 2 × Fin 2) (f : HbBuf0 (F := F) c scM0_0) :
    wPt c p.1 p.2 f = (scM0_0.view.loc (c : Thread nD τ) ↦[dstBox p]{fullShare} f : sProp 𝕄) :=
  congrArg (fun S : Finset (Idx (scM0_0.view.loc (c : Thread nD τ))) => (scM0_0.view.loc (c : Thread nD τ) ↦[S]{fullShare} f : sProp 𝕄)) (dst_set p.1 p.2)
theorem pPt_eq (c : Dev nD) (s : Fin 2) (f : HbBuf0 (F := F) c scM0_2) :
    pPt c s f = (scM0_2.view.loc (c : Thread nD τ) ↦[slotBox s]{fullShare} f : sProp 𝕄) :=
  congrArg (fun S : Finset (Idx (scM0_2.view.loc (c : Thread nD τ))) => (scM0_2.view.loc (c : Thread nD τ) ↦[S]{fullShare} f : sProp 𝕄)) (slot_set s)

theorem bigSep22 (Ψ : Fin 2 × Fin 2 → sProp 𝕄) :
    bigSep Finset.univ Ψ = (iprop(Ψ (0, 0) ∗ Ψ (0, 1) ∗ Ψ (1, 0) ∗ Ψ (1, 1)) : sProp 𝕄) := by
  rw [BI.bigSep_eq_bigSepL_of_eq [(0, 0), (0, 1), (1, 0), (1, 1)] (by decide) (by decide)]; rfl
theorem bigSep2 (Ψ : Fin 2 → sProp 𝕄) : bigSep Finset.univ Ψ = (iprop(Ψ 0 ∗ Ψ 1) : sProp 𝕄) := by
  rw [BI.bigSep_eq_bigSepL_of_eq [0, 1] (by decide) (by decide)]; rfl

/-- The weights' buffer at something is its four halves and the remainder; -/
theorem w_split (c : Dev nD) :
    iprop(∃ f, hbPt0 (F := F) c scM0_0 f)
      ⊢ iprop((iprop((∃ f, wPt (F := F) c 0 0 f) ∗ (∃ f, wPt (F := F) c 0 1 f) ∗ (∃ f, wPt (F := F) c 1 0 f) ∗ (∃ f, wPt (F := F) c 1 1 f))) ∗ ∃ f, wSpare (F := F) c f) := by
  rw [← bigSep22 (fun p => iprop(∃ f, wPt (F := F) c p.1 p.2 f))]
  exact Ring.pieces_split_spare (ℓ := scM0_0.view.loc (c : Thread nD τ)) dstBox dst_disj (fun p f => wPt c p.1 p.2 f) (wPt_eq c)
theorem w_join (c : Dev nD) :
    iprop((iprop((∃ f, wPt (F := F) c 0 0 f) ∗ (∃ f, wPt (F := F) c 0 1 f) ∗ (∃ f, wPt (F := F) c 1 0 f) ∗ (∃ f, wPt (F := F) c 1 1 f))) ∗ ∃ f, wSpare (F := F) c f)
      ⊢ iprop(∃ f, hbPt0 (F := F) c scM0_0 f) := by
  rw [← bigSep22 (fun p => iprop(∃ f, wPt (F := F) c p.1 p.2 f))]
  exact Ring.pieces_join_spare (ℓ := scM0_0.view.loc (c : Thread nD τ)) dstBox dst_disj (fun p f => wPt c p.1 p.2 f) (wPt_eq c)
/-- the projected blocks' buffer is its two slots. -/
theorem p_split (c : Dev nD) :
    iprop(∃ f, hbPt0 (F := F) c scM0_2 f) ⊢ iprop((∃ f, pPt (F := F) c 0 f) ∗ (∃ f, pPt (F := F) c 1 f)) := by
  rw [← bigSep2 (fun s => iprop(∃ f, pPt (F := F) c s f))]
  exact Ring.pieces_split (ℓ := scM0_2.view.loc (c : Thread nD τ)) slotBox slot_disj slot_cover (fun s f => pPt c s f) (pPt_eq c)
theorem p_join (c : Dev nD) (f₀ : HbBuf0 (F := F) c scM0_2) :
    iprop((∃ f, pPt (F := F) c 0 f) ∗ (∃ f, pPt (F := F) c 1 f)) ⊢ iprop(∃ f, hbPt0 (F := F) c scM0_2 f) := by
  rw [← bigSep2 (fun s => iprop(∃ f, pPt (F := F) c s f))]
  exact Ring.pieces_join (ℓ := scM0_2.view.loc (c : Thread nD τ)) slotBox slot_disj slot_cover (fun s f => pPt c s f) (pPt_eq c) f₀

/-- The weights whole are four read shares and what is left of the full share. -/
theorem tok_split (c : Dev nD) (fw : HbBuf0 (F := F) c hbM0_0) :
    (hbPt0 c hbM0_0 fw : sProp 𝕄) ⊣⊢ iprop((hbM0_0.view.loc (c : Thread nD τ) ↦{Transfers.shareDrop fullShare 4} fw)
      ∗ tokPt c 0 0 fw ∗ tokPt c 0 1 fw ∗ tokPt c 1 0 fw ∗ tokPt c 1 1 fw) := by
  have e : (BI.bigSep (Finset.range 4) (fun i => (hbM0_0.view.loc (c : Thread nD τ) ↦{Transfers.shareTokN fullShare i} fw : sProp 𝕄)))
      = iprop(tokPt c 0 0 fw ∗ tokPt c 0 1 fw ∗ tokPt c 1 0 fw ∗ tokPt c 1 1 fw) := by
    rw [BI.bigSep_eq_bigSepL_of_eq [0, 1, 2, 3] (by decide) (by decide)]; rfl
  rw [← e]
  exact Transfers.pointsTo_toks_range fullShare 4
/-- A share of the weights is one window of it and the rest. -/
theorem src_split (c : Dev nD) (s h : Fin 2) (j : Fin 40) (fw : HbBuf0 (F := F) c hbM0_0) :
    (tokPt c s h fw : sProp 𝕄) ⊣⊢ iprop(srcPt c s h j fw ∗ restPt c s h j fw) :=
  pointsTo_split_subset (Finset.subset_univ (srcC j).view.set)

/-! ## What a landed block leaves -/

/-- Row `r` of block `i` is this row of the weights. -/
def rowOf (i : Fin 20) (r : Fin 96) : Fin 2058 :=
  ⟨(if r.val < 48 then 960 else 0) + 48 * i.val + r.val % 48, by have := i.isLt; have := r.isLt; split <;> omega⟩
/-- Block `i` as loaded. -/
def wv (fw : Vec F S2058x28x8x128 .fp8e4m3) (i : Fin 20) : Vec F S1x96x28x8x128 .fp8e4m3 :=
  fun x => fw (ix4 (rowOf i (x 1)) (x 2) (x 3) (x 4))
/-- A slot's contents with block `i` landed (at its last columns anything). -/
def Wc (fw : Vec F S2058x28x8x128 .fp8e4m3) (i : Fin 20) : Vec F S2x96x29x8x128 .fp8e4m3 :=
  fun x => fw (ix4 (rowOf i (x 1)) ⟨(x 2).val % 28, Nat.mod_lt _ (by decide)⟩ (x 3) (x 4))

theorem dst_emb (s h : Fin 2) (x : S48x28x8x128.Idx) :
    (dstC s h).view.emb x = ix5 s ⟨48 * h.val + (x 0).val, by have := h.isLt; have h : (x 0).val < 48 := (x 0).isLt; omega⟩
      ⟨(x 1).val, by have h : (x 1).val < 28 := (x 1).isLt; omega⟩ (x 2) (x 3) := by
  show (Rect.unit (s := S2x96x29x8x128) ![s.val, 48 * h.val, 0, 0, 0] S1x48x28x8x128.size (inbDst s h)).emb
    (Shape.reshapeEquiv (Shape.Squeezes.numel_eq squeezes_S1x48x28x8x128_S48x28x8x128) x) = _
  have e : Shape.reshapeEquiv (Shape.Squeezes.numel_eq squeezes_S1x48x28x8x128_S48x28x8x128) x = ix5 0 (x 0) (x 1) (x 2) (x 3) := by
    refine (Shape.reshapeEquiv_cons_one _ x).trans (funext fun a => ?_)
    match a with
    | ⟨0, _⟩ => rfl
    | ⟨1, _⟩ => rfl
    | ⟨2, _⟩ => rfl
    | ⟨3, _⟩ => rfl
    | ⟨4, _⟩ => rfl
  rw [e]
  funext a
  match a with
  | ⟨0, _⟩ => exact Fin.ext (by show s.val + 1 * 0 = s.val; omega)
  | ⟨1, _⟩ => exact Fin.ext (by show 48 * h.val + 1 * (x 0).val = 48 * h.val + (x 0).val; omega)
  | ⟨2, _⟩ => exact Fin.ext (by show 0 + 1 * (x 1).val = (x 1).val; omega)
  | ⟨3, _⟩ => exact Fin.ext (by show 0 + 1 * (x 2).val = (x 2).val; omega)
  | ⟨4, _⟩ => exact Fin.ext (by show 0 + 1 * (x 3).val = (x 3).val; omega)

theorem src_read (j : Fin 40) (fw : Vec F S2058x28x8x128 .fp8e4m3) (x : S48x28x8x128.Idx) :
    (srcC j).view.read (Elt F) fw x = fw (ix4 ⟨48 * j.val + (x 0).val, by have := j.isLt; have h : (x 0).val < 48 := (x 0).isLt; omega⟩ (x 1) (x 2) (x 3)) := by
  show fw _ = fw _
  refine congrArg fw (funext fun a => ?_)
  match a with
  | ⟨0, _⟩ => exact Fin.ext (by show 48 * j.val + 1 * (x 0).val = 48 * j.val + (x 0).val; omega)
  | ⟨1, _⟩ => exact Fin.ext (by show 0 + 1 * (x 1).val = (x 1).val; omega)
  | ⟨2, _⟩ => exact Fin.ext (by show 0 + 1 * (x 2).val = (x 2).val; omega)
  | ⟨3, _⟩ => exact Fin.ext (by show 0 + 1 * (x 3).val = (x 3).val; omega)

/-- A copy's landing is the block's contents on that half. -/
theorem landed (c : Dev nD) (s h : Fin 2) (i : Fin 20) (fw : HbBuf0 (F := F) c hbM0_0) (fd : HbBuf0 (F := F) c scM0_0) :
    wPt c s h ((dstC s h).view.write (Elt F) fd (ReadAs.same.apply ((srcC (blk h i)).view.read (Elt F) fw)) Finset.univ) = wPt c s h (Wc fw i) :=
  pointsTo_congr fun y hy => by
    obtain ⟨x, -, rfl⟩ := Finset.mem_map.mp hy
    refine (View.write_emb_of_mem _ _ (Finset.mem_univ _)).trans ?_
    show (srcC (blk h i)).view.read (Elt F) fw x = Wc fw i ((dstC s h).view.emb x)
    rw [src_read, dst_emb]
    have h0 : (x 0).val < 48 := (x 0).isLt
    have h1 : (x 1).val < 28 := (x 1).isLt
    have hh := h.isLt
    refine congrArg fw (funext fun a => ?_)
    match a with
    | ⟨0, _⟩ =>
      refine Fin.ext ?_
      show 48 * (20 * (1 - h.val) + i.val) + (x 0).val
        = (if 48 * h.val + (x 0).val < 48 then 960 else 0) + 48 * i.val + (48 * h.val + (x 0).val) % 48
      split <;> omega
    | ⟨1, _⟩ => exact Fin.ext (Nat.mod_eq_of_lt h1).symm
    | ⟨2, _⟩ => rfl
    | ⟨3, _⟩ => rfl

theorem inbLoad (s : Fin 2) : ∀ a, (![s.val, 0, 0, 0, 0] : Fin 5 → Nat) a + S1x96x28x8x128.size a ≤ S2x96x29x8x128.size a := by
  have := s.isLt; intro a; fin_cases a
  · show s.val + 1 ≤ 2; omega
  · show 0 + 96 ≤ 96; omega
  · show 0 + 28 ≤ 29; omega
  · show 0 + 8 ≤ 8; omega
  · show 0 + 128 ≤ 128; omega
/-- A slot with a block landed reads that block. -/
theorem load_Wc (s : Fin 2) (i : Fin 20) (fw : Vec F S2058x28x8x128 .fp8e4m3) :
    View.readAt (Elt F) scM0_0.view (Rect.unit (s := S2x96x29x8x128) ![s.val, 0, 0, 0, 0] S1x96x28x8x128.size (inbLoad s)).toLoadRect (Wc fw i) = wv fw i := by
  funext x
  have h2 : (x 2).val < 28 := (x 2).isLt
  show Wc fw i _ = wv fw i x
  unfold Wc wv
  refine congrArg fw (funext fun a => ?_)
  match a with
  | ⟨0, _⟩ => exact congrArg (rowOf i) (Fin.ext (by show 0 + 1 * (x 1).val = (x 1).val; omega))
  | ⟨1, _⟩ => exact Fin.ext (by show (0 + 1 * (x 2).val) % 28 = (x 2).val; omega)
  | ⟨2, _⟩ => exact Fin.ext (by show 0 + 1 * (x 3).val = (x 3).val; omega)
  | ⟨3, _⟩ => exact Fin.ext (by show 0 + 1 * (x 4).val = (x 4).val; omega)
/-- The two halves of a slot hold what its load reads. -/
theorem load_sub (s : Fin 2) :
    scM0_0.view.setOn (Rect.unit (s := S2x96x29x8x128) ![s.val, 0, 0, 0, 0] S1x96x28x8x128.size (inbLoad s)).toLoadRect.set ⊆ dstBox (s, 0) ∪ dstBox (s, 1) := by
  intro x hx
  obtain ⟨y, hy, rfl⟩ := Finset.mem_map.mp hx
  have hy' : y ∈ (Rect.unit (s := S2x96x29x8x128) ![s.val, 0, 0, 0, 0] S1x96x28x8x128.size (inbLoad s)).set := hy
  rw [Rect.mem_set_unit] at hy'
  have a0 : s.val ≤ (y 0).val ∧ (y 0).val < s.val + 1 := hy' 0
  have a1 : 0 ≤ (y 1).val ∧ (y 1).val < 0 + 96 := hy' 1
  have a2 : 0 ≤ (y 2).val ∧ (y 2).val < 0 + 28 := hy' 2
  have e : scM0_0.view.emb y = y := rfl
  rw [Finset.mem_union, e, mem_dstBox, mem_dstBox]
  show ((y 0).val = s.val ∧ 48 * 0 ≤ (y 1).val ∧ (y 1).val < 48 * 0 + 48 ∧ (y 2).val < 28) ∨ ((y 0).val = s.val ∧ 48 * 1 ≤ (y 1).val ∧ (y 1).val < 48 * 1 + 48 ∧ (y 2).val < 28)
  omega
/-- The two halves joined, and parted again. -/
theorem halves (c : Dev nD) (s : Fin 2) (f : HbBuf0 (F := F) c scM0_0) :
    (scM0_0.view.loc (c : Thread nD τ) ↦[dstBox (s, 0) ∪ dstBox (s, 1)]{fullShare} f : sProp 𝕄) ⊣⊢ iprop(wPt c s 0 f ∗ wPt c s 1 f) := by
  rw [wPt_eq c (s, 0), wPt_eq c (s, 1)]
  exact pointsTo_union (dst_disj _ _ (by simp))

end Cert.Project.Hand

end
-- ==== Proof.Project.Copies.lean ====
/-
  The two copies of a block: a slot with nothing under way in it, one with a block landed, one with both copies under
  way; and the steps between them.
-/
module

public import proofs.«01_k».proof.Proof.Project.Pieces

@[expose] public section

set_option maxRecDepth 16384

noncomputable section

namespace Cert.Project.Hand

open Cert.Project Cert.Project.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ
local notation "EC" => countersEmb (U := Pipeline.UD sig nD τ)

/-- Slot `s` at rest, its halves at `f`, and the read shares its copies read the weights with. -/
def AtRest (c : Dev nD) (s : Fin 2) (f : HbBuf0 (F := F) c scM0_0) (fw : HbBuf0 (F := F) c hbM0_0) : sProp 𝕄 :=
  iprop(semVal ((c : Thread nD τ), SemLoc.dma (cellC s)) 0 ∗ wPt c s 0 f ∗ wPt c s 1 f ∗ tokPt c s 0 fw ∗ tokPt c s 1 fw)
/-- Slot `s` at rest, its halves at something. -/
def Home (c : Dev nD) (s : Fin 2) (fw : HbBuf0 (F := F) c hbM0_0) : sProp 𝕄 :=
  iprop(semVal ((c : Thread nD τ), SemLoc.dma (cellC s)) 0 ∗ (∃ f, wPt (F := F) c s 0 f) ∗ (∃ f, wPt (F := F) c s 1 f) ∗ tokPt c s 0 fw ∗ tokPt c s 1 fw)
/-- What the copy into half `h` of slot `s` delivers. -/
def Deliv (c : Dev nD) (s : Fin 2) (i : Fin 20) (fw : HbBuf0 (F := F) c hbM0_0) (h : Fin 2) : sProp 𝕄 :=
  iprop(wPt c s h (Wc fw i) ∗ srcPt c s h (blk h i) fw)
/-- One copy's credit. -/
abbrev credit : ℕ := (dstC 0 0).view.dmaCredit
theorem credit_pos : 0 < credit := by decide +kernel
/-- Slot `s` with block `i`'s two copies under way. -/
def InFl (c : Dev nD) (s : Fin 2) (i : Fin 20) (fw : HbBuf0 (F := F) c hbM0_0) : sProp 𝕄 :=
  iprop(Transfers.Batch EC (c : Thread nD τ) (SemLoc.dma (cellC s)) () credit (Deliv c s i fw) 2 0
    ∗ restPt c s 0 (blk 0 i) fw ∗ restPt c s 1 (blk 1 i) fw)

theorem storable_pt (ℓ : Loc nD τ sig) (I : Finset (Idx ℓ)) (q : PosShare TreeShare) (f : Buf (Elt F) ℓ) :
    Storable (upEmb : UEmb _ 𝕄) (ℓ ↦[I]{q} f : sProp 𝕄) := inferInstance
instance (c : Dev nD) (s : Fin 2) (i : Fin 20) (fw : HbBuf0 (F := F) c hbM0_0) (h : Fin 2) :
    Storable (upEmb : UEmb _ 𝕄) (Deliv (F := F) c s i fw h) := by
  unfold Deliv
  haveI : Storable (upEmb : UEmb _ 𝕄) (wPt (F := F) c s h (Wc fw i)) := storable_pt _ _ _ _
  haveI : Storable (upEmb : UEmb _ 𝕄) (srcPt (F := F) c s h (blk h i) fw) := storable_pt _ _ _ _
  exact Storable.sep _ _ _

theorem home_of_atRest (c : Dev nD) (s : Fin 2) (f : HbBuf0 (F := F) c scM0_0) (fw : HbBuf0 (F := F) c hbM0_0) :
    AtRest c s f fw ⊢ Home c s fw := by
  unfold AtRest Home
  iintro ⟨Hv, H0, H1, T0, T1⟩
  isplitl [Hv]; · iexact Hv
  isplitl [H0]; · iexists _; iexact H0
  isplitl [H1]; · iexists _; iexact H1
  isplitl [T0] <;> iassumption

theorem amount_eq (s h : Fin 2) (x : DmaSem sig) : (dstC s h).view.amount (SemLoc.dma x) = credit := rfl
theorem delivers (c : Dev nD) (s h : Fin 2) (i : Fin 20) (fw : HbBuf0 (F := F) c hbM0_0) (fd : HbBuf0 (F := F) c scM0_0) :
    iprop(wPt c s h ((dstC s h).view.write (Elt F) fd (ReadAs.same.apply ((srcC (blk h i)).view.read (Elt F) fw)) Finset.univ) ∗ srcPt c s h (blk h i) fw)
      ⊢ Deliv c s i fw h := by
  unfold Deliv
  rw [landed]

set_option maxHeartbeats 1000000 in
/-- The two copies of block `i` started into slot `s`. -/
theorem start_wp (c : Dev nD) (s : Fin 2) (i : Fin 20) (fw : HbBuf0 (F := F) c hbM0_0)
    (os : Fin 1 → Nat) (hs) (ox oz : Fin 4 → Nat) (hx) (hz) (hwx) (hwz) (d0 d1 : Fin 5 → Nat) (h0) (h1) (hw0) (hw1)
    (eos : os = ![s.val]) (eox : ox = ![48 * (blk 0 i).val, 0, 0, 0]) (eoz : oz = ![48 * (blk 1 i).val, 0, 0, 0])
    (ed0 : d0 = ![s.val, 48 * (0 : Fin 2).val, 0, 0, 0]) (ed1 : d1 = ![s.val, 48 * (1 : Fin 2).val, 0, 0, 0])
    (K : Prog (TpuEff nD τ sig (Elt F) Λ₀ .tc) PUnit) (Q : PUnit → sProp 𝕄) :
    iprop(Home c s fw ∗ (InFl c s i fw -∗ wp frame (wpE (defs₀ (F := F)) Variants.none (c : Thread nD τ) none) Set.univ K Q))
      ⊢ wp frame (wpE (defs₀ (F := F)) Variants.none (c : Thread nD τ) none) Set.univ
          (startPair hbM0_0 (Memref.isWhole_whole _) scM0_0 (Memref.isWhole_whole _) cc0_scratch7 os hs ox oz hx hz hwx hwz d0 d1 h0 h1 hw0 hw1 K) Q := by
  subst eos eox eoz ed0 ed1
  unfold Home InFl
  iintro ⟨⟨Hv, ⟨%f0, H0⟩, ⟨%f1, H1⟩, T0, T1⟩, HK⟩
  imod (Transfers.batch_alloc' EC (c := (c : Thread nD τ)) (sm := SemLoc.dma (cellC s)) () credit (Deliv c s i fw)) $$ Hv with HB
  ihave T0' := (src_split c s 0 (blk 0 i) fw).1 $$ T0
  ihave T1' := (src_split c s 1 (blk 1 i) fw).1 $$ T1
  icases T0' with ⟨S0, R0⟩
  icases T1' with ⟨S1, R1⟩
  unfold startPair
  iapply (Transfers.wp_dmaBatch EC Variants.none (c : Thread nD τ) none (src := srcC (blk 0 i)) (dst := dstC s 0) () credit (amount_eq _ _ _) (Finset.Subset.refl _) (by decide : 0 < 2) (Nat.zero_le _)
    (D := Deliv c s i fw) (q := tok s 0) (fs := fw) (fd := f0) (delivers c s 0 i fw f0)) $$ [S0 H0 HB]
  · isplitl [S0]; · iexact S0
    isplitl [H0]; · iexact H0
    iexact HB
  iintro HB
  iapply (Transfers.wp_dmaBatch EC Variants.none (c : Thread nD τ) none (src := srcC (blk 1 i)) (dst := dstC s 1) () credit (amount_eq _ _ _) (Finset.Subset.refl _) (by decide : 1 < 2) (Nat.zero_le _)
    (D := Deliv c s i fw) (q := tok s 1) (fs := fw) (fd := f1) (delivers c s 1 i fw f1)) $$ [S1 H1 HB]
  · isplitl [S1]; · iexact S1
    isplitl [H1]; · iexact H1
    iexact HB
  iintro HB
  iapply HK
  isplitl [HB]; · iexact HB
  isplitl [R0] <;> iassumption

/-- The two copies of block `i` waited for in slot `s`. -/
theorem wait_wp (c : Dev nD) (s : Fin 2) (i : Fin 20) (fw : HbBuf0 (F := F) c hbM0_0) (W : Waits sig Unit)
    (os : Fin 1 → Nat) (hs) (ox oz : Fin 4 → Nat) (hx) (hz) (hwx) (hwz) (d0 d1 : Fin 5 → Nat) (h0) (h1) (hw0) (hw1)
    (eos : os = ![s.val])
    (K : Prog (TpuEff nD τ sig (Elt F) Λ₀ .tc) PUnit) (Q : PUnit → sProp 𝕄) :
    iprop(InFl c s i fw ∗ owes (c : Thread nD τ) 0 W
        ∗ (iprop(AtRest c s (Wc fw i) fw ∗ ∃ W, owes (c : Thread nD τ) 0 W) -∗ wp frame (wpE (defs₀ (F := F)) Variants.none (c : Thread nD τ) none) Set.univ K Q))
      ⊢ wp frame (wpE (defs₀ (F := F)) Variants.none (c : Thread nD τ) none) Set.univ
          (waitPair hbM0_0 (Memref.isWhole_whole _) scM0_0 (Memref.isWhole_whole _) cc0_scratch7 os hs ox oz hx hz hwx hwz d0 d1 h0 h1 hw0 hw1 K) Q := by
  subst eos
  unfold AtRest InFl
  iintro ⟨⟨HB, R0, R1⟩, HO, HK⟩
  unfold waitPair
  iapply (Transfers.wp_waitBatch EC Variants.none (c : Thread nD τ) none (srcw := wSrc hbM0_0 ox hx) (dstw := wDst scM0_0 d0 h0) (hsrc := (Memref.isWhole_whole main_v2).wordExact_slice rfl _ hwx) (hdst := ((Memref.isWhole_whole cc0_scratch0).wordExact_slice rfl _ hw0).reshape _ _) () (N := credit) rfl (by have := credit_pos; omega : 0 + credit < credit * 2)) $$ [HB HO]
  · isplitl [HB]; · iexact HB
    iexact HO
  iintro ⟨HB, HO⟩
  iapply (Transfers.wp_waitBatchLast EC Variants.none (c : Thread nD τ) none (srcw := wSrc hbM0_0 oz hz) (dstw := wDst scM0_0 d1 h1) (hsrc := (Memref.isWhole_whole main_v2).wordExact_slice rfl _ hwz) (hdst := ((Memref.isWhole_whole cc0_scratch0).wordExact_slice rfl _ hw1).reshape _ _) () (N := credit) rfl credit_pos (by have := credit_pos; omega : 0 + credit + credit = credit * 2)) $$ [HB HO]
  · isplitl [HB]; · iexact HB
    iexact HO
  iintro ⟨HD, Hv, HO⟩
  ihave HD' := (Entails.of_eq (bigSep2 (Deliv c s i fw))) $$ HD
  unfold Deliv
  icases HD' with ⟨⟨H0, S0⟩, ⟨H1, S1⟩⟩
  iapply HK
  isplitr [HO]
  · isplitl [Hv]; · iexact Hv
    isplitl [H0]; · iexact H0
    isplitl [H1]; · iexact H1
    isplitl [S0 R0]
    · iapply (src_split c s 0 (blk 0 i) fw).2
      isplitl [S0] <;> iassumption
    · iapply (src_split c s 1 (blk 1 i) fw).2
      isplitl [S1] <;> iassumption
  · iexists _; iexact HO

end Cert.Project.Hand

end
-- ==== Proof.Project.Tiles.lean ====
/-
  The steps that compute: the scales transposed into their buffer, one block projected into its slot tile by tile, and
  the two halves of a finished block saved to the results. Each is stated by the contents it leaves.
-/
module

public import proofs.«01_k».proof.Proof.Project.Copies
public import Idealize.ShloMosaic.Lib.WritesUnit
public import Idealize.ShloMosaic.Lib.Pipeline.Value

@[expose] public section

set_option maxRecDepth 16384

noncomputable section

namespace Cert.Project.Hand

open Cert.Project Cert.Project.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-! ## The values -/

/-- The scales as kept: batch `b`'s 128 scales, transposed, on eight rows. -/
def scOf (g : Vec F S256x128 .f32) : Vec F S2x8x128 .f32 :=
  fun x => g (ix2 ⟨128 * (x 0).val + (x 2).val, by have h : (x 0).val < 2 := (x 0).isLt; have h : (x 2).val < 128 := (x 2).isLt; omega⟩
    ⟨(x 1).val, by have h : (x 1).val < 8 := (x 1).isLt; omega⟩)
/-- Batch `b`'s eight rows of them. -/
def scRow (s : Vec F S2x8x128 .f32) (b : Fin 2) : FVec F S8x128 .f32 := fun x => s (ix3 b (x 0) (x 1))
/-- Tile `t` at row `j`, lane `l`. -/
def tileAt (r : FVec F S768x256 .f32) (sc : FVec F S8x128 .f32) (y : S2x768x128.Idx) : F .f32 :=
  tileVal r sc loMask (y 0) ⟨(y 1).val / 8, by have h : (y 1).val < 768 := (y 1).isLt; omega⟩ (ix2 ⟨(y 1).val % 8, Nat.mod_lt _ (by decide)⟩ (y 2))
/-- A projected block. -/
def pv (w : FVec F S1x96x28x8x128 .fp8e4m3) (q : FVec F S256x3584 .fp8e4m3) (s : Vec F S2x8x128 .f32) (y : S2x768x128.Idx) : F .f32 :=
  tileAt (prod w q) (scRow s (y 0)) y
/-- The buffer's contents with it in either slot. -/
def Pc (w : FVec F S1x96x28x8x128 .fp8e4m3) (q : FVec F S256x3584 .fp8e4m3) (s : Vec F S2x8x128 .f32) : Vec F S2x2x768x128 .f32 :=
  fun x => pv w q s (ix3 (x 1) (x 2) (x 3))

/-- A load of the whole operand at offset zero. -/
theorem readAt_zero {sp : Space} {S : Shape} {e : EltTy} (M : Memref sig .tc sp S e) (o : Fin S.rank → Nat) (ho : ∀ a, o a = 0)
    (h : ∀ a, o a + S.size a ≤ S.size a) (f : M.view.ty.Contents (Elt F)) :
    View.readAt (Elt F) M.view (Rect.unit o S.size h).toLoadRect f = M.view.read (Elt F) f := by
  funext x
  show M.view.read (Elt F) f _ = M.view.read (Elt F) f x
  congr 1
  funext a
  exact Fin.ext (by show o a + 1 * (x a).val = (x a).val; rw [ho a]; omega)

/-! ## The tiles of one batch -/

/-- The first `8 (96 - n)` rows of batch `b` and all of the other are as before, the others are the tiles'. -/
def TilesDone (dst : Memref sig .tc .vmem S2x768x128 .f32) (r : FVec F S768x256 .f32) (sc : FVec F S8x128 .f32) (b : Fin 2) (n : Nat)
    (f f' : dst.view.ty.Contents (Elt F)) : Prop :=
  ∀ y : S2x768x128.Idx, dst.view.read (Elt F) f' y
    = if (y 0).val = b.val ∧ 8 * (96 - n) ≤ (y 1).val then tileAt r sc y else dst.view.read (Elt F) f y

theorem tiles_step (dst : Memref sig .tc .vmem S2x768x128 .f32) (r : FVec F S768x256 .f32) (sc : FVec F S8x128 .f32) (b : Fin 2) (n : Nat) (hn : n + 1 ≤ 96)
    (f f' : dst.view.ty.Contents (Elt F)) (inb)
    (h : TilesDone dst r sc b n (dst.view.writes (Elt F) f [⟨Rect.unit (s := S2x768x128) ![b.val, 8 * (95 - n), 0] S1x8x128.size inb,
      shapeCast S1x8x128 (tileVal r sc loMask b ⟨95 - n, by omega⟩) shapeCasts_S8x128_S1x8x128⟩]) f') :
    TilesDone dst r sc b (n + 1) f f' := by
  intro y
  rw [h y]
  have h0 : (y 0).val < 2 := (y 0).isLt
  have h1 : (y 1).val < 768 := (y 1).isLt
  have hb := b.isLt
  by_cases hlo : (y 0).val = b.val ∧ 8 * (96 - n) ≤ (y 1).val
  · rw [if_pos hlo, if_pos ⟨hlo.1, by omega⟩]
  rw [if_neg hlo]
  by_cases hhi : (y 0).val = b.val ∧ 8 * (96 - (n + 1)) ≤ (y 1).val
  · rw [if_pos hhi]
    obtain ⟨e', hy⟩ := hhi
    have e : y 0 = b := Fin.ext e'
    have hy' : ¬ 8 * (96 - n) ≤ (y 1).val := fun h => hlo ⟨e', h⟩
    refine (View.read_writes_cons_unit_of_mem dst.view f (off' := ![b.val, 8 * (95 - n), 0]) inb _ [] y
      (ix3 (0 : Fin 1) (⟨(y 1).val % 8, Nat.mod_lt _ (by decide)⟩ : Fin 8) (y 2)) rfl ?_).trans ?_
    · intro a
      match a with
      | ⟨0, _⟩ => exact (show (y 0).val = b.val + 0 by rw [e', Nat.add_zero])
      | ⟨1, _⟩ => exact (show (y 1).val = 8 * (95 - n) + (y 1).val % 8 by omega)
      | ⟨2, _⟩ => exact (show (y 2).val = 0 + (y 2).val by omega)
    · refine (shapeCast_addUnit_apply _ _ _ _).trans ?_
      unfold tileAt
      have et : (⟨95 - n, by omega⟩ : Fin 96) = ⟨(y 1).val / 8, by omega⟩ := Fin.ext (by show 95 - n = (y 1).val / 8; omega)
      rw [et, e]
      refine congrArg _ (funext fun a => ?_)
      match a with
      | ⟨0, _⟩ => rfl
      | ⟨1, _⟩ => rfl
  · rw [if_neg hhi]
    by_cases e : (y 0).val = b.val
    · have hy' : ¬ 8 * (96 - (n + 1)) ≤ (y 1).val := fun h => hhi ⟨e, h⟩
      exact View.read_writes_cons_unit_of_not_mem dst.view f (off' := ![b.val, 8 * (95 - n), 0]) inb _ [] y rfl 1
        (.inl (show (y 1).val < 8 * (95 - n) by omega))
    · refine View.read_writes_cons_unit_of_not_mem dst.view f (off' := ![b.val, 8 * (95 - n), 0]) inb _ [] y rfl 0 ?_
      show (y 0).val < b.val ∨ b.val + 1 ≤ (y 0).val
      omega

theorem tiles_succ (dst : Memref sig .tc .vmem S2x768x128 .f32) (r : FVec F S768x256 .f32) (sc : FVec F S8x128 .f32) (lo : IVec S8x128 1) (b : Fin 2)
    (K : Prog (TpuEff nD τ sig (Elt F) Λ₀ .tc) PUnit) (n : Nat) (hn : n + 1 ≤ 96) :
    tiles dst r sc lo b K (n + 1) hn = tile dst r sc lo b ⟨95 - n, by omega⟩ (tiles dst r sc lo b K n (by omega)) := rfl

theorem access_sub {sp : Space} {S : Shape} {e : EltTy} (M : Memref sig .tc sp S e) (r : Rect S) : (M.access r).set ⊆ M.view.set :=
  (View.set_slice_subset_setOn M.view r).trans (View.setOn_subset_set _ _)

theorem tiles_wp (c : Dev nD) (dst : Memref sig .tc .vmem S2x768x128 .f32) (r : FVec F S768x256 .f32) (sc : FVec F S8x128 .f32) (b : Fin 2)
    (K : Prog (TpuEff nD τ sig (Elt F) Λ₀ .tc) PUnit) (Q : PUnit → sProp 𝕄) (n : Nat) (hn : n ≤ 96) (f : HbBuf0 (F := F) c dst) :
    iprop((dst.view.loc (c : Thread nD τ) ↦[dst.view.set]{fullShare} f)
        ∗ ((∃ f' : HbBuf0 (F := F) c dst, ⌜TilesDone dst r sc b n f f'⌝ ∗ dst.view.loc (c : Thread nD τ) ↦[dst.view.set]{fullShare} f') -∗ wp frame (wpE (defs₀ (F := F)) Variants.none (c : Thread nD τ) none) Set.univ K Q))
      ⊢ wp frame (wpE (defs₀ (F := F)) Variants.none (c : Thread nD τ) none) Set.univ (tiles dst r sc loMask b K n hn) Q := by
  induction n generalizing f with
  | zero =>
    iintro ⟨H, HK⟩
    iapply HK
    iexists f
    isplitr; swap; · iexact H
    ipureintro
    intro y
    have h1 : (y 1).val < 768 := (y 1).isLt
    rw [if_neg (by rintro ⟨-, h⟩; omega)]
  | succ n ih =>
    rw [tiles_succ]
    unfold tile
    iintro ⟨H, HK⟩
    iapply (wp_load Variants.none (c : Thread nD τ) none Set.univ (m := dst) (S := dst.view.set) (View.setOn_subset_set _ _)) $$ H
    iintro H
    iapply (wp_store_writes₀ Variants.none (c : Thread nD τ) none Set.univ (m := dst) (S := dst.view.set) (access_sub dst _)) $$ H
    iintro H
    iapply (ih _ _)
    isplitl [H]; · iexact H
    iintro ⟨%f', %hf', H⟩
    iapply HK
    iexists f'
    isplitr; swap; · iexact H
    ipureintro
    exact tiles_step dst r sc b n hn f f' _ hf'

/-! ## One block projected -/

theorem slot_emb (s : Fin 2) (y : S2x768x128.Idx) : (slotC s).view.emb y = ix4 s (y 0) (y 1) (y 2) := by
  show (Rect.unit (s := S2x2x768x128) ![s.val, 0, 0, 0] S1x2x768x128.size (inbSlot s)).emb
    (Shape.reshapeEquiv (Shape.Squeezes.numel_eq squeezes_S1x2x768x128_S2x768x128) y) = _
  have e : Shape.reshapeEquiv (Shape.Squeezes.numel_eq squeezes_S1x2x768x128_S2x768x128) y = ix4 0 (y 0) (y 1) (y 2) := by
    refine (Shape.reshapeEquiv_cons_one _ y).trans (funext fun a => ?_)
    match a with
    | ⟨0, _⟩ => rfl
    | ⟨1, _⟩ => rfl
    | ⟨2, _⟩ => rfl
    | ⟨3, _⟩ => rfl
  rw [e]
  funext a
  match a with
  | ⟨0, _⟩ => exact Fin.ext (by show s.val + 1 * 0 = s.val; omega)
  | ⟨1, _⟩ => exact Fin.ext (by show 0 + 1 * (y 0).val = (y 0).val; omega)
  | ⟨2, _⟩ => exact Fin.ext (by show 0 + 1 * (y 1).val = (y 1).val; omega)
  | ⟨3, _⟩ => exact Fin.ext (by show 0 + 1 * (y 2).val = (y 2).val; omega)

/-- After both batches' tiles a slot holds the projected block. -/
theorem slot_done (c : Dev nD) (s : Fin 2) (w : FVec F S1x96x28x8x128 .fp8e4m3) (q : FVec F S256x3584 .fp8e4m3) (sc : Vec F S2x8x128 .f32)
    (f f1 f2 : HbBuf0 (F := F) c scM0_2)
    (h1 : TilesDone (slotC s) (prod w q) (scRow sc 0) 0 96 f f1) (h2 : TilesDone (slotC s) (prod w q) (scRow sc 1) 1 96 f1 f2) :
    pPt c s f2 = pPt c s (Pc w q sc) :=
  pointsTo_congr fun x hx => by
    obtain ⟨y, -, rfl⟩ := Finset.mem_map.mp hx
    refine Eq.trans (b := pv w q sc y) ?_ ?_
    · refine (h2 y).trans ?_
      have h0 : (y 0).val < 2 := (y 0).isLt
      unfold pv
      by_cases e : (y 0).val = (1 : Fin 2).val
      · rw [if_pos ⟨e, by omega⟩, show y 0 = (1 : Fin 2) from Fin.ext e]
      · have e0 : (y 0).val = (0 : Fin 2).val := by have : (y 0).val ≠ 1 := e; show (y 0).val = 0; omega
        rw [if_neg (fun h => e h.1)]
        refine (h1 y).trans ?_
        rw [if_pos ⟨e0, by omega⟩, show y 0 = (0 : Fin 2) from Fin.ext e0]
    · refine Eq.trans ?_ (congrArg (Pc w q sc) (slot_emb s y)).symm
      show pv w q sc y = pv w q sc (ix3 (y 0) (y 1) (y 2))
      exact congrArg _ (eq_ix3 y)

/-- A load of batch `b`'s rows of the scales. -/
theorem scale_read (b : Fin 2) (o : Fin 3 → Nat) (e : o = ![b.val, 0, 0]) (inb : ∀ a, o a + S1x8x128.size a ≤ S2x8x128.size a) (s : Vec F S2x8x128 .f32) :
    shapeCast S8x128 (View.readAt (Elt F) scM0_1.view (Rect.unit (s := S2x8x128) o S1x8x128.size inb).toLoadRect s) shapeCasts_S1x8x128_S8x128 = scRow s b := by
  subst e
  funext x
  refine (shapeCast_dropUnit_apply _ _ _ _).trans ?_
  show s _ = s _
  refine congrArg s (funext fun a => ?_)
  match a with
  | ⟨0, _⟩ => exact Fin.ext (by show b.val + 1 * 0 = b.val; omega)
  | ⟨1, _⟩ => exact Fin.ext (by show 0 + 1 * (x 0).val = (x 0).val; omega)
  | ⟨2, _⟩ => exact Fin.ext (by show 0 + 1 * (x 1).val = (x 1).val; omega)

set_option maxHeartbeats 1000000 in
/-- Block `i`, landed in slot `s`, projected into slot `s'`. -/
theorem project_wp (c : Dev nD) (arg1 : Memref sig .tc .vmem S256x3584 .fp8e4m3) (s s' : Fin 2) (i : Fin 20)
    (fw : HbBuf0 (F := F) c hbM0_0) (fq : HbBuf0 (F := F) c arg1) (sc : HbBuf0 (F := F) c scM0_1)
    (op : Fin 4 → Nat) (hp) (o : Fin 5 → Nat) (h) (eop : op = ![s'.val, 0, 0, 0]) (eo : o = ![s.val, 0, 0, 0, 0])
    (K : Prog (TpuEff nD τ sig (Elt F) Λ₀ .tc) PUnit) (Q : PUnit → sProp 𝕄) :
    iprop(AtRest c s (Wc fw i) fw ∗ hbPt0 c arg1 fq ∗ hbPt0 c scM0_1 sc ∗ (∃ f, pPt (F := F) c s' f)
        ∗ (iprop(AtRest c s (Wc fw i) fw ∗ hbPt0 c arg1 fq ∗ hbPt0 c scM0_1 sc ∗ pPt c s' (Pc (wv fw i) (arg1.view.read (Elt F) fq) sc))
            -∗ wp frame (wpE (defs₀ (F := F)) Variants.none (c : Thread nD τ) none) Set.univ K Q))
      ⊢ wp frame (wpE (defs₀ (F := F)) Variants.none (c : Thread nD τ) none) Set.univ
          (projectTo arg1 scM0_0 scM0_1 (pSlot scM0_2 op hp) o h K) Q := by
  subst eop eo
  unfold AtRest projectTo
  iintro ⟨⟨Hv, H0, H1, T0, T1⟩, Hq, Hs, ⟨%f, Hp⟩, HK⟩
  icombine H0 H1 as H01
  ihave H := (halves c s (Wc fw i)).2 $$ H01
  iapply (wp_load Variants.none (c : Thread nD τ) none Set.univ (m := scM0_0) (S := dstBox (s, 0) ∪ dstBox (s, 1)) (load_sub s)) $$ H
  iintro H
  ihave H01 := (halves c s (Wc fw i)).1 $$ H
  icases H01 with ⟨H0, H1⟩
  rw [load_Wc]
  iapply (wp_load Variants.none (c : Thread nD τ) none Set.univ (m := arg1) (S := Finset.univ) (Finset.subset_univ _)) $$ Hq
  iintro Hq
  rw [readAt_zero arg1 ![0, 0] (by intro a; fin_cases a <;> rfl)]
  iapply (wp_load Variants.none (c : Thread nD τ) none Set.univ (m := scM0_1) (S := Finset.univ) (Finset.subset_univ _)) $$ Hs
  iintro Hs
  rw [scale_read 0 ![0, 0, 0] rfl]
  iapply (tiles_wp c (slotC s') _ _ 0 _ Q 96 _ f)
  isplitl [Hp]; · iexact Hp
  iintro ⟨%f1, %hf1, Hp⟩
  iapply (wp_load Variants.none (c : Thread nD τ) none Set.univ (m := scM0_1) (S := Finset.univ) (Finset.subset_univ _)) $$ Hs
  iintro Hs
  rw [scale_read 1 ![1, 0, 0] rfl]
  iapply (tiles_wp c (slotC s') _ _ 1 _ Q 96 _ f1)
  isplitl [Hp]; · iexact Hp
  iintro ⟨%f2, %hf2, Hp⟩
  iapply HK
  isplitl [Hv H0 H1 T0 T1]
  · isplitl [Hv]; · iexact Hv
    isplitl [H0]; · iexact H0
    isplitl [H1]; · iexact H1
    isplitl [T0] <;> iassumption
  isplitl [Hq]; · iexact Hq
  isplitl [Hs]; · iexact Hs
  rw [← slot_done c s' (wv fw i) (arg1.view.read (Elt F) fq) sc f f1 f2 hf1 hf2]
  iexact Hp

end Cert.Project.Hand

end
-- ==== Proof.Project.Saves.lean ====
/-
  The scales transposed into their buffer, and the two halves of a finished block saved to the results.
-/
module

public import proofs.«01_k».proof.Proof.Project.Tiles

@[expose] public section

set_option maxRecDepth 16384

noncomputable section

namespace Cert.Project.Hand

open Cert.Project Cert.Project.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- A store's cells are within the whole buffer. -/
theorem access_univ {sp : Space} {S : Shape} {e : EltTy} (c : Dev nD) (M : Memref sig .tc sp S e) (r : Rect S) :
    (M.access r).set ⊆ (Finset.univ : Finset (Idx (M.view.loc (c : Thread nD τ)))) := Finset.subset_univ _

/-! ## The scales -/

theorem scPiece_apply (x : Vec F S128x128 .f32) (r : Fin 8) (l : Fin 128) :
    scPiece x (ix3 (0 : Fin 1) r l) = x (ix2 l ⟨r.val, by have := r.isLt; omega⟩) := by
  unfold scPiece
  rw [shapeCast_self]
  refine (shapeCast_addUnit_apply _ _ _ _).trans ?_
  show x _ = x _
  refine congrArg x (funext fun a => ?_)
  match a with
  | ⟨0, _⟩ => exact Fin.ext (by show 0 + l.val = l.val; omega)
  | ⟨1, _⟩ => exact Fin.ext (by show 0 + r.val = r.val; omega)

/-- One batch's scales kept: its block of the buffer holds them, the rest is as before. -/
def ScDone (b : Fin 2) (g : Vec F S256x128 .f32) (f f' : Vec F S2x8x128 .f32) : Prop :=
  ∀ y : S2x8x128.Idx, f' y = if (y 0).val = b.val then scOf g y else f y

theorem sc_step (arg2 : Memref sig .tc .vmem S256x128 .f32) (M : Memref sig .tc .vmem S2x8x128 .f32) (b : Fin 2) (g : arg2.view.ty.Contents (Elt F)) (f : M.view.ty.Contents (Elt F)) (inb) (inbd) :
    ScDone b (arg2.view.read (Elt F) g) (M.view.read (Elt F) f) (M.view.read (Elt F) (M.view.writes (Elt F) f [⟨Rect.unit (s := S2x8x128) ![b.val, 0, 0] S1x8x128.size inbd,
      scPiece (View.readAt (Elt F) arg2.view (Rect.unit (s := S256x128) ![128 * b.val, 0] S128x128.size inb).toLoadRect g)⟩])) := by
  intro y
  have h0 : (y 0).val < 2 := (y 0).isLt
  by_cases e : (y 0).val = b.val
  · rw [if_pos e]
    refine (View.read_writes_cons_unit_of_mem M.view f (off' := ![b.val, 0, 0]) inbd _ [] y (ix3 (0 : Fin 1) (y 1) (y 2)) rfl ?_).trans ?_
    · intro a
      match a with
      | ⟨0, _⟩ => exact (show (y 0).val = b.val + 0 by omega)
      | ⟨1, _⟩ => exact (show (y 1).val = 0 + (y 1).val by omega)
      | ⟨2, _⟩ => exact (show (y 2).val = 0 + (y 2).val by omega)
    · refine (scPiece_apply _ (y 1) (y 2)).trans ?_
      show arg2.view.read (Elt F) g _ = arg2.view.read (Elt F) g _
      refine congrArg _ (funext fun a => ?_)
      match a with
      | ⟨0, _⟩ => exact Fin.ext (by show 128 * b.val + 1 * (y 2).val = 128 * (y 0).val + (y 2).val; omega)
      | ⟨1, _⟩ => exact Fin.ext (by show 0 + 1 * (y 1).val = (y 1).val; omega)
  · rw [if_neg e]
    refine (View.read_writes_cons_unit_of_not_mem M.view f (off' := ![b.val, 0, 0]) inbd _ [] y rfl 0 ?_)
    have := b.isLt
    show (y 0).val < b.val ∨ b.val + 1 ≤ (y 0).val
    omega

theorem sc_both (g : Vec F S256x128 .f32) (f f1 f2 : Vec F S2x8x128 .f32) (h1 : ScDone 0 g f f1) (h2 : ScDone 1 g f1 f2) : f2 = scOf g := by
  funext y
  have h0 : (y 0).val < 2 := (y 0).isLt
  rw [h2 y]
  by_cases e : (y 0).val = (1 : Fin 2).val
  · rw [if_pos e]
  · rw [if_neg e, h1 y, if_pos (by have : (y 0).val ≠ 1 := e; show (y 0).val = 0; omega)]

theorem scales_wp (c : Dev nD) (arg2 : Memref sig .tc .vmem S256x128 .f32) (M : Memref sig .tc .vmem S2x8x128 .f32) (b : Fin 2) (g : HbBuf0 (F := F) c arg2) (f : HbBuf0 (F := F) c M)
    (o : Fin 2 → Nat) (h) (d : Fin 3 → Nat) (hd) (eo : o = ![128 * b.val, 0]) (ed : d = ![b.val, 0, 0])
    (K : Prog (TpuEff nD τ sig (Elt F) Λ₀ .tc) PUnit) (Q : PUnit → sProp 𝕄) :
    iprop(hbPt0 c arg2 g ∗ hbPt0 c M f
        ∗ (iprop(hbPt0 c arg2 g ∗ ∃ f' : HbBuf0 (F := F) c M, ⌜ScDone b (arg2.view.read (Elt F) g) (M.view.read (Elt F) f) (M.view.read (Elt F) f')⌝ ∗ hbPt0 c M f')
            -∗ wp frame (wpE (defs₀ (F := F)) Variants.none (c : Thread nD τ) none) Set.univ K Q))
      ⊢ wp frame (wpE (defs₀ (F := F)) Variants.none (c : Thread nD τ) none) Set.univ (scales arg2 M o h d hd K) Q := by
  subst eo ed
  unfold scales
  iintro ⟨Hg, Hf, HK⟩
  iapply (wp_load Variants.none (c : Thread nD τ) none Set.univ (m := arg2) (S := Finset.univ) (Finset.subset_univ _)) $$ Hg
  iintro Hg
  iapply (wp_load Variants.none (c : Thread nD τ) none Set.univ (m := M) (S := Finset.univ) (Finset.subset_univ _)) $$ Hf
  iintro Hf
  iapply (wp_store_writes₀ Variants.none (c : Thread nD τ) none Set.univ (m := M) (S := Finset.univ) (access_univ c M _)) $$ Hf
  iintro Hf
  iapply HK
  isplitl [Hg]; · iexact Hg
  iexists _
  isplitr; swap; · iexact Hf
  ipureintro
  exact sc_step arg2 M b g f h hd

/-! ## A finished block saved -/

/-- A result's element: block `i`'s row `384 h + …`. -/
def outOf (fw : Vec F S2058x28x8x128 .fp8e4m3) (q : FVec F S256x3584 .fp8e4m3) (sc : Vec F S2x8x128 .f32) (h : Fin 2) (y : S2x7680x128.Idx) : F .f32 :=
  pv (wv fw ⟨(y 1).val / 384, by have h : (y 1).val < 7680 := (y 1).isLt; omega⟩) q sc
    (ix3 (y 0) ⟨384 * h.val + (y 1).val % 384, by have := h.isLt; omega⟩ (y 2))
/-- A result done below row `384 k`. -/
def Done (out : Memref sig .tc .vmem S2x7680x128 .f32) (G : S2x7680x128.Idx → F .f32) (k : Nat) (fo : out.view.ty.Contents (Elt F)) : Prop :=
  ∀ y : S2x7680x128.Idx, (y 1).val < 384 * k → out.view.read (Elt F) fo y = G y

theorem done_zero (out : Memref sig .tc .vmem S2x7680x128 .f32) (G : S2x7680x128.Idx → F .f32) (fo : out.view.ty.Contents (Elt F)) : Done out G 0 fo :=
  fun y hy => absurd hy (by omega)
theorem done_all (out : Memref sig .tc .vmem S2x7680x128 .f32) (G : S2x7680x128.Idx → F .f32) (fo : out.view.ty.Contents (Elt F)) (h : Done out G 20 fo) :
    out.view.read (Elt F) fo = G :=
  funext fun y => h y (show (y 1).val < 384 * 20 from (y 1).isLt)

theorem inbSave (s h : Fin 2) : ∀ a, (![s.val, 0, 384 * h.val, 0] : Fin 4 → Nat) a + S1x2x384x128.size a ≤ S2x2x768x128.size a := by
  have := s.isLt; have := h.isLt; intro a; fin_cases a
  · show s.val + 1 ≤ 2; omega
  · show 0 + 2 ≤ 2; omega
  · show 384 * h.val + 384 ≤ 768; omega
  · show 0 + 128 ≤ 128; omega
theorem save_sub (s h : Fin 2) (o : Fin 4 → Nat) (eo : o = ![s.val, 0, 384 * h.val, 0]) (inb) :
    scM0_2.view.setOn (Rect.unit (s := S2x2x768x128) o S1x2x384x128.size inb).toLoadRect.set ⊆ slotBox s := by
  subst eo
  intro x hx
  obtain ⟨y, hy, rfl⟩ := Finset.mem_map.mp hx
  have hy' : y ∈ (Rect.unit (s := S2x2x768x128) ![s.val, 0, 384 * h.val, 0] S1x2x384x128.size inb).set := hy
  rw [Rect.mem_set_unit] at hy'
  have a0 : s.val ≤ (y 0).val ∧ (y 0).val < s.val + 1 := hy' 0
  have e : scM0_2.view.emb y = y := rfl
  rw [e, mem_slotBox]
  omega

/-- What is saved, element by element. -/
theorem save_read (s h : Fin 2) (o : Fin 4 → Nat) (eo : o = ![s.val, 0, 384 * h.val, 0]) (inb)
    (w : FVec F S1x96x28x8x128 .fp8e4m3) (q : FVec F S256x3584 .fp8e4m3) (sc : Vec F S2x8x128 .f32) (b : Fin 2) (r : Fin 384) (l : Fin 128) :
    savePiece (View.readAt (Elt F) scM0_2.view (Rect.unit (s := S2x2x768x128) o S1x2x384x128.size inb).toLoadRect (Pc w q sc)) (ix3 b r l)
      = pv w q sc (ix3 b ⟨384 * h.val + r.val, by have := h.isLt; have := r.isLt; omega⟩ l) := by
  subst eo
  refine (shapeCast_dropUnit_apply _ _ _ _).trans ?_
  show pv w q sc _ = pv w q sc _
  refine congrArg _ (funext fun a => ?_)
  match a with
  | ⟨0, _⟩ => exact Fin.ext (by show 0 + 1 * b.val = b.val; omega)
  | ⟨1, _⟩ => exact Fin.ext (by show 384 * h.val + 1 * r.val = 384 * h.val + r.val; omega)
  | ⟨2, _⟩ => exact Fin.ext (by show 0 + 1 * l.val = l.val; omega)

theorem done_step (out : Memref sig .tc .vmem S2x7680x128 .f32) (fw : Vec F S2058x28x8x128 .fp8e4m3) (q : FVec F S256x3584 .fp8e4m3) (sc : Vec F S2x8x128 .f32)
    (h : Fin 2) (i : Fin 20) (fo : out.view.ty.Contents (Elt F)) (p : FVec F S2x384x128 .f32)
    (hp : ∀ b r l, p (ix3 b r l) = pv (wv fw i) q sc (ix3 b ⟨384 * h.val + r.val, by have := h.isLt; have := r.isLt; omega⟩ l))
    (d : Fin 3 → Nat) (hd) (ed : d = ![0, 384 * i.val, 0]) (H : Done out (outOf fw q sc h) i.val fo) :
    Done out (outOf fw q sc h) (i.val + 1) (out.view.writes (Elt F) fo [⟨Rect.unit (s := S2x7680x128) d S2x384x128.size hd, p⟩]) := by
  intro y hy
  have h1 : (y 1).val < 7680 := (y 1).isLt
  by_cases e : (y 1).val < 384 * i.val
  · exact (View.read_writes_cons_unit_of_not_mem out.view fo (off' := ![0, 384 * i.val, 0]) hd _ [] y ed 1 (.inl e)).trans (H y e)
  · refine (View.read_writes_cons_unit_of_mem out.view fo (off' := ![0, 384 * i.val, 0]) hd _ [] y
      (ix3 (y 0) (⟨(y 1).val % 384, Nat.mod_lt _ (by decide)⟩ : Fin 384) (y 2)) ed ?_).trans ?_
    · intro a
      match a with
      | ⟨0, _⟩ => exact (show (y 0).val = 0 + (y 0).val by omega)
      | ⟨1, _⟩ => exact (show (y 1).val = 384 * i.val + (y 1).val % 384 by omega)
      | ⟨2, _⟩ => exact (show (y 2).val = 0 + (y 2).val by omega)
    · refine (hp _ _ _).trans ?_
      unfold outOf
      rw [show i = ⟨(y 1).val / 384, by omega⟩ from Fin.ext (by show i.val = (y 1).val / 384; omega)]

theorem save_wp (c : Dev nD) (out : Memref sig .tc .vmem S2x7680x128 .f32) (s h : Fin 2) (i : Fin 20)
    (fw : Vec F S2058x28x8x128 .fp8e4m3) (q : FVec F S256x3584 .fp8e4m3) (sc : Vec F S2x8x128 .f32) (fo : HbBuf0 (F := F) c out)
    (H : Done out (outOf fw q sc h) i.val fo)
    (o : Fin 4 → Nat) (ho) (d : Fin 3 → Nat) (hd) (eo : o = ![s.val, 0, 384 * h.val, 0]) (ed : d = ![0, 384 * i.val, 0])
    (K : Prog (TpuEff nD τ sig (Elt F) Λ₀ .tc) PUnit) (Q : PUnit → sProp 𝕄) :
    iprop(pPt c s (Pc (wv fw i) q sc) ∗ hbPt0 c out fo
        ∗ (iprop(pPt c s (Pc (wv fw i) q sc) ∗ ∃ fo' : HbBuf0 (F := F) c out, ⌜Done out (outOf fw q sc h) (i.val + 1) fo'⌝ ∗ hbPt0 c out fo')
            -∗ wp frame (wpE (defs₀ (F := F)) Variants.none (c : Thread nD τ) none) Set.univ K Q))
      ⊢ wp frame (wpE (defs₀ (F := F)) Variants.none (c : Thread nD τ) none) Set.univ (save scM0_2 out o ho d hd K) Q := by
  rw [pPt_eq]
  unfold save
  iintro ⟨Hp, Ho, HK⟩
  iapply (wp_load Variants.none (c : Thread nD τ) none Set.univ (m := scM0_2) (S := slotBox s) (save_sub s h o eo ho)) $$ Hp
  iintro Hp
  iapply (wp_load Variants.none (c : Thread nD τ) none Set.univ (m := out) (S := Finset.univ) (Finset.subset_univ _)) $$ Ho
  iintro Ho
  iapply (wp_store_writes₀ Variants.none (c : Thread nD τ) none Set.univ (m := out) (S := Finset.univ) (access_univ c out _)) $$ Ho
  iintro Ho
  iapply HK
  isplitl [Hp]; · iexact Hp
  iexists _
  isplitr; swap; · iexact Ho
  ipureintro
  exact done_step out fw q sc h i fo _ (save_read s h o eo ho _ q sc) d hd ed H

end Cert.Project.Hand

end
-- ==== Proof.Project.Start.lean ====
/-
  The copies of the channels of B, C and dt: 96 rows into the first slot, 32 and ten into the second, the six rows after
  them made zero; and what the slots hold then.
-/
module

public import proofs.«01_k».proof.Proof.Project.Copies
public import Idealize.ShloMosaic.Lib.MixedBatch
public import Idealize.ShloMosaic.Lib.WritesUnit

@[expose] public section

set_option maxRecDepth 16384

noncomputable section

namespace Cert.Project.Hand

open Cert.Project Cert.Project.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ
local notation "EC" => countersEmb (U := Pipeline.UD sig nD τ)

/-! ## What the slots hold -/

/-- The first slot: rows 1920 to 2015 of the weights (at its last columns anything). -/
def WB0 (fw : Vec F S2058x28x8x128 .fp8e4m3) : Vec F S2x96x29x8x128 .fp8e4m3 :=
  fun x => fw (ix4 ⟨1920 + (x 1).val, by have h : (x 1).val < 96 := (x 1).isLt; omega⟩ ⟨(x 2).val % 28, Nat.mod_lt _ (by decide)⟩ (x 3) (x 4))
/-- The second: rows 2016 to 2057, then zeros. -/
def WB1 (fw : Vec F S2058x28x8x128 .fp8e4m3) : Vec F S2x96x29x8x128 .fp8e4m3 :=
  fun x => if h : (x 1).val < 42 then fw (ix4 ⟨2016 + (x 1).val, by omega⟩ ⟨(x 2).val % 28, Nat.mod_lt _ (by decide)⟩ (x 3) (x 4))
    else Scalar.ofBits .fp8e4m3 0x00#8
/-- The two as loaded. -/
def wb0 (fw : Vec F S2058x28x8x128 .fp8e4m3) : Vec F S1x96x28x8x128 .fp8e4m3 :=
  fun x => fw (ix4 ⟨1920 + (x 1).val, by have h : (x 1).val < 96 := (x 1).isLt; omega⟩ (x 2) (x 3) (x 4))
def wb1 (fw : Vec F S2058x28x8x128 .fp8e4m3) : Vec F S1x48x28x8x128 .fp8e4m3 :=
  fun x => if h : (x 1).val < 42 then fw (ix4 ⟨2016 + (x 1).val, by omega⟩ (x 2) (x 3) (x 4)) else Scalar.ofBits .fp8e4m3 0x00#8

theorem load_WB0 (inb) (fw : Vec F S2058x28x8x128 .fp8e4m3) :
    View.readAt (Elt F) scM0_0.view (Rect.unit (s := S2x96x29x8x128) ![(0 : Fin 2).val, 0, 0, 0, 0] S1x96x28x8x128.size inb).toLoadRect (WB0 fw) = wb0 fw := by
  funext x
  have h2 : (x 2).val < 28 := (x 2).isLt
  show WB0 fw _ = wb0 fw x
  unfold WB0 wb0
  refine congrArg fw (funext fun a => ?_)
  match a with
  | ⟨0, _⟩ => exact Fin.ext (by show 1920 + (0 + 1 * (x 1).val) = 1920 + (x 1).val; omega)
  | ⟨1, _⟩ => exact Fin.ext (by show (0 + 1 * (x 2).val) % 28 = (x 2).val; omega)
  | ⟨2, _⟩ => exact Fin.ext (by show 0 + 1 * (x 3).val = (x 3).val; omega)
  | ⟨3, _⟩ => exact Fin.ext (by show 0 + 1 * (x 4).val = (x 4).val; omega)
theorem WB1_lo (fw : Vec F S2058x28x8x128 .fp8e4m3) (x : S2x96x29x8x128.Idx) (y : S2058x28x8x128.Idx) (h : (x 1).val < 42) (h2 : (x 2).val < 28)
    (e0 : (y 0).val = 2016 + (x 1).val) (e1 : (y 1).val = (x 2).val) (e2 : (y 2).val = (x 3).val) (e3 : (y 3).val = (x 4).val) : WB1 fw x = fw y := by
  unfold WB1
  rw [dif_pos h]
  refine congrArg fw (funext fun a => ?_)
  match a with
  | ⟨0, _⟩ => exact Fin.ext e0.symm
  | ⟨1, _⟩ => exact Fin.ext (by show (x 2).val % 28 = (y 1).val; omega)
  | ⟨2, _⟩ => exact Fin.ext e2.symm
  | ⟨3, _⟩ => exact Fin.ext e3.symm
theorem WB1_hi (fw : Vec F S2058x28x8x128 .fp8e4m3) (x : S2x96x29x8x128.Idx) (h : ¬ (x 1).val < 42) : WB1 fw x = Scalar.ofBits .fp8e4m3 0x00#8 := by
  unfold WB1
  rw [dif_neg h]
theorem load_WB1 (inb) (fw : Vec F S2058x28x8x128 .fp8e4m3) :
    View.readAt (Elt F) scM0_0.view (Rect.unit (s := S2x96x29x8x128) ![1, 0, 0, 0, 0] S1x48x28x8x128.size inb).toLoadRect (WB1 fw) = wb1 fw := by
  funext x
  have h2 : (x 2).val < 28 := (x 2).isLt
  have e1 : 0 + 1 * (x 1).val = (x 1).val := by omega
  show WB1 fw _ = wb1 fw x
  unfold wb1
  by_cases h : (x 1).val < 42
  · rw [dif_pos h]
    exact WB1_lo fw _ _ (by show 0 + 1 * (x 1).val < 42; omega) (by show 0 + 1 * (x 2).val < 28; omega)
      (by show 2016 + (x 1).val = 2016 + (0 + 1 * (x 1).val); omega) (by show (x 2).val = 0 + 1 * (x 2).val; omega)
      (by show (x 3).val = 0 + 1 * (x 3).val; omega) (by show (x 4).val = 0 + 1 * (x 4).val; omega)
  · rw [dif_neg h]
    exact WB1_hi fw _ (by show ¬ 0 + 1 * (x 1).val < 42; omega)

/-! ## The pieces -/

/-- Rows of the second slot. -/
abbrev boxA : Finset S2x96x29x8x128.Idx := (Rect.unit (s := S2x96x29x8x128) ![1, 0, 0, 0, 0] S1x32x28x8x128.size inb_S2x96x29x8x128_S1x32x28x8x128_1_0_0_0_0).set
abbrev boxB : Finset S2x96x29x8x128.Idx := (Rect.unit (s := S2x96x29x8x128) ![1, 32, 0, 0, 0] S1x10x28x8x128.size inb_S2x96x29x8x128_S1x10x28x8x128_1_32_0_0_0).set
abbrev boxC : Finset S2x96x29x8x128.Idx := (Rect.unit (s := S2x96x29x8x128) ![1, 42, 0, 0, 0] S1x6x28x8x128.size inb_S2x96x29x8x128_S1x6x28x8x128_1_42_0_0_0).set
abbrev box0 : Finset S2x96x29x8x128.Idx := (Rect.unit (s := S2x96x29x8x128) ![0, 0, 0, 0, 0] S1x96x28x8x128.size inb_S2x96x29x8x128_S1x96x28x8x128_0_0_0_0_0).set
theorem set_d0 : (dst0 scM0_0).view.set = box0 := (View.set_reshape _ _).trans (View.set_slice_whole _ _)
theorem set_d1 : (dst1 scM0_0).view.set = boxA := (View.set_reshape _ _).trans (View.set_slice_whole _ _)
theorem set_d2 : (dst2 scM0_0).view.set = boxB := (View.set_reshape _ _).trans (View.set_slice_whole _ _)
theorem mem_boxA (x : S2x96x29x8x128.Idx) : x ∈ boxA ↔ (x 0).val = 1 ∧ (x 1).val < 32 ∧ (x 2).val < 28 := by
  have h3 : (x 3).val < 8 := (x 3).isLt
  have h4 : (x 4).val < 128 := (x 4).isLt
  rw [Rect.mem_set_unit]
  constructor
  · intro h
    have a0 : 1 ≤ (x 0).val ∧ (x 0).val < 1 + 1 := h 0
    have a1 : 0 ≤ (x 1).val ∧ (x 1).val < 0 + 32 := h 1
    have a2 : 0 ≤ (x 2).val ∧ (x 2).val < 0 + 28 := h 2
    omega
  · rintro ⟨e0, e1, e2⟩ a
    match a with
    | ⟨0, _⟩ => exact (show 1 ≤ (x 0).val ∧ (x 0).val < 1 + 1 by omega)
    | ⟨1, _⟩ => exact (show 0 ≤ (x 1).val ∧ (x 1).val < 0 + 32 by omega)
    | ⟨2, _⟩ => exact (show 0 ≤ (x 2).val ∧ (x 2).val < 0 + 28 by omega)
    | ⟨3, _⟩ => exact (show 0 ≤ (x 3).val ∧ (x 3).val < 0 + 8 by omega)
    | ⟨4, _⟩ => exact (show 0 ≤ (x 4).val ∧ (x 4).val < 0 + 128 by omega)
theorem mem_boxB (x : S2x96x29x8x128.Idx) : x ∈ boxB ↔ (x 0).val = 1 ∧ 32 ≤ (x 1).val ∧ (x 1).val < 42 ∧ (x 2).val < 28 := by
  have h3 : (x 3).val < 8 := (x 3).isLt
  have h4 : (x 4).val < 128 := (x 4).isLt
  rw [Rect.mem_set_unit]
  constructor
  · intro h
    have a0 : 1 ≤ (x 0).val ∧ (x 0).val < 1 + 1 := h 0
    have a1 : 32 ≤ (x 1).val ∧ (x 1).val < 32 + 10 := h 1
    have a2 : 0 ≤ (x 2).val ∧ (x 2).val < 0 + 28 := h 2
    omega
  · rintro ⟨e0, e1, e1', e2⟩ a
    match a with
    | ⟨0, _⟩ => exact (show 1 ≤ (x 0).val ∧ (x 0).val < 1 + 1 by omega)
    | ⟨1, _⟩ => exact (show 32 ≤ (x 1).val ∧ (x 1).val < 32 + 10 by omega)
    | ⟨2, _⟩ => exact (show 0 ≤ (x 2).val ∧ (x 2).val < 0 + 28 by omega)
    | ⟨3, _⟩ => exact (show 0 ≤ (x 3).val ∧ (x 3).val < 0 + 8 by omega)
    | ⟨4, _⟩ => exact (show 0 ≤ (x 4).val ∧ (x 4).val < 0 + 128 by omega)
theorem mem_boxC (x : S2x96x29x8x128.Idx) : x ∈ boxC ↔ (x 0).val = 1 ∧ 42 ≤ (x 1).val ∧ (x 1).val < 48 ∧ (x 2).val < 28 := by
  have h3 : (x 3).val < 8 := (x 3).isLt
  have h4 : (x 4).val < 128 := (x 4).isLt
  rw [Rect.mem_set_unit]
  constructor
  · intro h
    have a0 : 1 ≤ (x 0).val ∧ (x 0).val < 1 + 1 := h 0
    have a1 : 42 ≤ (x 1).val ∧ (x 1).val < 42 + 6 := h 1
    have a2 : 0 ≤ (x 2).val ∧ (x 2).val < 0 + 28 := h 2
    omega
  · rintro ⟨e0, e1, e1', e2⟩ a
    match a with
    | ⟨0, _⟩ => exact (show 1 ≤ (x 0).val ∧ (x 0).val < 1 + 1 by omega)
    | ⟨1, _⟩ => exact (show 42 ≤ (x 1).val ∧ (x 1).val < 42 + 6 by omega)
    | ⟨2, _⟩ => exact (show 0 ≤ (x 2).val ∧ (x 2).val < 0 + 28 by omega)
    | ⟨3, _⟩ => exact (show 0 ≤ (x 3).val ∧ (x 3).val < 0 + 8 by omega)
    | ⟨4, _⟩ => exact (show 0 ≤ (x 4).val ∧ (x 4).val < 0 + 128 by omega)
theorem mem_box0 (x : S2x96x29x8x128.Idx) (h : x ∈ box0) : (x 0).val = 0 ∧ (x 2).val < 28 := by
  rw [Rect.mem_set_unit] at h
  have a0 : 0 ≤ (x 0).val ∧ (x 0).val < 0 + 1 := h 0
  have a2 : 0 ≤ (x 2).val ∧ (x 2).val < 0 + 28 := h 2
  omega
/-- The first slot's destination is its two halves. -/
theorem box0_sub : box0 ⊆ dstBox (0, 0) ∪ dstBox (0, 1) := by
  intro x hx
  have h1 : (x 1).val < 96 := (x 1).isLt
  obtain ⟨a, b⟩ := mem_box0 x hx
  rw [Finset.mem_union, mem_dstBox, mem_dstBox]
  show ((x 0).val = 0 ∧ 48 * 0 ≤ (x 1).val ∧ (x 1).val < 48 * 0 + 48 ∧ (x 2).val < 28) ∨ ((x 0).val = 0 ∧ 48 * 1 ≤ (x 1).val ∧ (x 1).val < 48 * 1 + 48 ∧ (x 2).val < 28)
  omega
theorem half_eq : dstBox (1, 0) = boxA ∪ (boxB ∪ boxC) := by
  ext x
  rw [Finset.mem_union, Finset.mem_union, mem_dstBox, mem_boxA, mem_boxB, mem_boxC]
  show ((x 0).val = 1 ∧ 48 * 0 ≤ (x 1).val ∧ (x 1).val < 48 * 0 + 48 ∧ (x 2).val < 28) ↔ _
  omega
theorem disjA : Disjoint boxA (boxB ∪ boxC) := by
  rw [Finset.disjoint_left]
  intro x hx hx'
  rw [mem_boxA] at hx
  rw [Finset.mem_union, mem_boxB, mem_boxC] at hx'
  omega
theorem disjB : Disjoint boxB boxC := by
  rw [Finset.disjoint_left]
  intro x hx hx'
  rw [mem_boxB] at hx
  rw [mem_boxC] at hx'
  omega

abbrev boxPt (c : Dev nD) (S : Finset S2x96x29x8x128.Idx) (f : HbBuf0 (F := F) c scM0_0) : sProp 𝕄 :=
  scM0_0.view.loc (c : Thread nD τ) ↦[S]{fullShare} f
/-- The second slot's first half is its three pieces. -/
theorem half_split (c : Dev nD) (f : HbBuf0 (F := F) c scM0_0) :
    (wPt c 1 0 f : sProp 𝕄) ⊣⊢ iprop(boxPt c boxA f ∗ boxPt c (boxB ∪ boxC) f) := by
  rw [wPt_eq c (1, 0), half_eq]
  exact pointsTo_union disjA
theorem half_split' (c : Dev nD) (f : HbBuf0 (F := F) c scM0_0) :
    (boxPt c (boxB ∪ boxC) f : sProp 𝕄) ⊣⊢ iprop(boxPt c boxB f ∗ boxPt c boxC f) := pointsTo_union disjB

/-- Some rows of the weights, at a share. -/
abbrev winPt (c : Dev nD) {S : Shape} (M : Memref sig .tc .hbm S .fp8e4m3) (q : PosShare TreeShare) (fw : Buf (Elt F) (M.view.loc (c : Thread nD τ))) : sProp 𝕄 :=
  M.view.loc (c : Thread nD τ) ↦[M.view.set]{q} fw
abbrev offPt (c : Dev nD) (S : Finset (Idx (hbM0_0.view.loc (c : Thread nD τ)))) (q : PosShare TreeShare) (fw : HbBuf0 (F := F) c hbM0_0) : sProp 𝕄 :=
  hbM0_0.view.loc (c : Thread nD τ) ↦[Finset.univ \ S]{q} fw
theorem win_split (c : Dev nD) (S : Finset (Idx (hbM0_0.view.loc (c : Thread nD τ)))) (q : PosShare TreeShare) (fw : HbBuf0 (F := F) c hbM0_0) :
    (hbM0_0.view.loc (c : Thread nD τ) ↦{q} fw : sProp 𝕄) ⊣⊢ iprop((hbM0_0.view.loc (c : Thread nD τ) ↦[S]{q} fw) ∗ offPt c S q fw) :=
  pointsTo_split_subset (Finset.subset_univ S)

/-! ## The landings -/

theorem emb0 (x : S96x28x8x128.Idx) : (dst0 scM0_0).view.emb x = ix5 0 (x 0) ⟨(x 1).val, by have h : (x 1).val < 28 := (x 1).isLt; omega⟩ (x 2) (x 3) := by
  show (Rect.unit (s := S2x96x29x8x128) ![0, 0, 0, 0, 0] S1x96x28x8x128.size inb_S2x96x29x8x128_S1x96x28x8x128_0_0_0_0_0).emb
    (Shape.reshapeEquiv (Shape.Squeezes.numel_eq squeezes_S1x96x28x8x128_S96x28x8x128) x) = _
  rw [Shape.reshapeEquiv_cons_one _ x]
  funext a
  match a with
  | ⟨0, _⟩ => rfl
  | ⟨1, _⟩ => exact Fin.ext (by show 0 + 1 * (x 0).val = (x 0).val; omega)
  | ⟨2, _⟩ => exact Fin.ext (by show 0 + 1 * (x 1).val = (x 1).val; omega)
  | ⟨3, _⟩ => exact Fin.ext (by show 0 + 1 * (x 2).val = (x 2).val; omega)
  | ⟨4, _⟩ => exact Fin.ext (by show 0 + 1 * (x 3).val = (x 3).val; omega)
theorem emb1 (x : S32x28x8x128.Idx) : (dst1 scM0_0).view.emb x = ix5 1 ⟨(x 0).val, by have h : (x 0).val < 32 := (x 0).isLt; omega⟩
    ⟨(x 1).val, by have h : (x 1).val < 28 := (x 1).isLt; omega⟩ (x 2) (x 3) := by
  show (Rect.unit (s := S2x96x29x8x128) ![1, 0, 0, 0, 0] S1x32x28x8x128.size inb_S2x96x29x8x128_S1x32x28x8x128_1_0_0_0_0).emb
    (Shape.reshapeEquiv (Shape.Squeezes.numel_eq squeezes_S1x32x28x8x128_S32x28x8x128) x) = _
  rw [Shape.reshapeEquiv_cons_one _ x]
  funext a
  match a with
  | ⟨0, _⟩ => rfl
  | ⟨1, _⟩ => exact Fin.ext (by show 0 + 1 * (x 0).val = (x 0).val; omega)
  | ⟨2, _⟩ => exact Fin.ext (by show 0 + 1 * (x 1).val = (x 1).val; omega)
  | ⟨3, _⟩ => exact Fin.ext (by show 0 + 1 * (x 2).val = (x 2).val; omega)
  | ⟨4, _⟩ => exact Fin.ext (by show 0 + 1 * (x 3).val = (x 3).val; omega)
theorem emb2 (x : S10x28x8x128.Idx) : (dst2 scM0_0).view.emb x = ix5 1 ⟨32 + (x 0).val, by have h : (x 0).val < 10 := (x 0).isLt; omega⟩
    ⟨(x 1).val, by have h : (x 1).val < 28 := (x 1).isLt; omega⟩ (x 2) (x 3) := by
  show (Rect.unit (s := S2x96x29x8x128) ![1, 32, 0, 0, 0] S1x10x28x8x128.size inb_S2x96x29x8x128_S1x10x28x8x128_1_32_0_0_0).emb
    (Shape.reshapeEquiv (Shape.Squeezes.numel_eq squeezes_S1x10x28x8x128_S10x28x8x128) x) = _
  rw [Shape.reshapeEquiv_cons_one _ x]
  funext a
  match a with
  | ⟨0, _⟩ => rfl
  | ⟨1, _⟩ => exact Fin.ext (by show 32 + 1 * (x 0).val = 32 + (x 0).val; omega)
  | ⟨2, _⟩ => exact Fin.ext (by show 0 + 1 * (x 1).val = (x 1).val; omega)
  | ⟨3, _⟩ => exact Fin.ext (by show 0 + 1 * (x 2).val = (x 2).val; omega)
  | ⟨4, _⟩ => exact Fin.ext (by show 0 + 1 * (x 3).val = (x 3).val; omega)

theorem idx_ext (y z : S2x96x29x8x128.Idx) (h0 : (y 0).val = (z 0).val) (h1 : (y 1).val = (z 1).val) (h2 : (y 2).val = (z 2).val) (h3 : (y 3).val = (z 3).val)
    (h4 : (y 4).val = (z 4).val) : y = z := by
  funext a
  match a with
  | ⟨0, _⟩ => exact Fin.ext h0
  | ⟨1, _⟩ => exact Fin.ext h1
  | ⟨2, _⟩ => exact Fin.ext h2
  | ⟨3, _⟩ => exact Fin.ext h3
  | ⟨4, _⟩ => exact Fin.ext h4
theorem landed0 (c : Dev nD) (fw : HbBuf0 (F := F) c hbM0_0) (fd : HbBuf0 (F := F) c scM0_0) (y : S2x96x29x8x128.Idx) (hy : y ∈ dstBox (0, 0) ∪ dstBox (0, 1)) :
    (dst0 scM0_0).view.write (Elt F) fd (ReadAs.same.apply ((src0 hbM0_0).view.read (Elt F) fw)) Finset.univ y = WB0 fw y := by
  have hy' : (y 0).val = 0 ∧ (y 2).val < 28 := by
    rw [Finset.mem_union, mem_dstBox, mem_dstBox] at hy
    have : (y 0).val = 0 ∧ (y 2).val < 28 ∨ (y 0).val = 0 ∧ (y 2).val < 28 := hy.imp (fun h => ⟨h.1, h.2.2.2⟩) (fun h => ⟨h.1, h.2.2.2⟩)
    omega
  have h1 : (y 1).val < 96 := (y 1).isLt
  have ey : y = (dst0 scM0_0).view.emb (ix4 (⟨(y 1).val, h1⟩ : Fin 96) (⟨(y 2).val, hy'.2⟩ : Fin 28) (y 3) (y 4)) := by
    rw [emb0]
    exact idx_ext _ _ hy'.1 rfl rfl rfl rfl
  clear hy
  refine (congrArg ((dst0 scM0_0).view.write (Elt F) fd (ReadAs.same.apply ((src0 hbM0_0).view.read (Elt F) fw)) Finset.univ) ey).trans ?_
  refine (View.write_emb_of_mem _ _ (Finset.mem_univ _)).trans ?_
  show fw _ = fw _
  refine congrArg fw (funext fun a => ?_)
  match a with
  | ⟨0, _⟩ => exact Fin.ext (by show 1920 + 1 * (y 1).val = 1920 + (y 1).val; omega)
  | ⟨1, _⟩ => exact Fin.ext (by show 0 + 1 * (y 2).val = (y 2).val % 28; omega)
  | ⟨2, _⟩ => exact Fin.ext (by show 0 + 1 * (y 3).val = (y 3).val; omega)
  | ⟨3, _⟩ => exact Fin.ext (by show 0 + 1 * (y 4).val = (y 4).val; omega)
theorem landed1 (c : Dev nD) (fw : HbBuf0 (F := F) c hbM0_0) (fd : HbBuf0 (F := F) c scM0_0) (y : S2x96x29x8x128.Idx) (hy : y ∈ boxA) :
    (dst1 scM0_0).view.write (Elt F) fd (ReadAs.same.apply ((src1 hbM0_0).view.read (Elt F) fw)) Finset.univ y = WB1 fw y := by
  rw [mem_boxA] at hy
  have ey : y = (dst1 scM0_0).view.emb (ix4 (⟨(y 1).val, hy.2.1⟩ : Fin 32) (⟨(y 2).val, hy.2.2⟩ : Fin 28) (y 3) (y 4)) := by
    rw [emb1]
    funext a
    match a with
    | ⟨0, _⟩ => exact Fin.ext hy.1
    | ⟨1, _⟩ => rfl
    | ⟨2, _⟩ => rfl
    | ⟨3, _⟩ => rfl
    | ⟨4, _⟩ => rfl
  refine Eq.trans ?_ (WB1_lo fw y (ix4 ⟨2016 + (y 1).val, by omega⟩ ⟨(y 2).val, hy.2.2⟩ (y 3) (y 4)) (by omega) hy.2.2 rfl rfl rfl rfl).symm
  refine (congrArg ((dst1 scM0_0).view.write (Elt F) fd (ReadAs.same.apply ((src1 hbM0_0).view.read (Elt F) fw)) Finset.univ) ey).trans ?_
  refine (View.write_emb_of_mem _ _ (Finset.mem_univ _)).trans ?_
  show fw _ = fw _
  refine congrArg fw (funext fun a => ?_)
  match a with
  | ⟨0, _⟩ => exact Fin.ext (by show 2016 + 1 * (y 1).val = 2016 + (y 1).val; omega)
  | ⟨1, _⟩ => exact Fin.ext (by show 0 + 1 * (y 2).val = (y 2).val; omega)
  | ⟨2, _⟩ => exact Fin.ext (by show 0 + 1 * (y 3).val = (y 3).val; omega)
  | ⟨3, _⟩ => exact Fin.ext (by show 0 + 1 * (y 4).val = (y 4).val; omega)
theorem landed2 (c : Dev nD) (fw : HbBuf0 (F := F) c hbM0_0) (fd : HbBuf0 (F := F) c scM0_0) (y : S2x96x29x8x128.Idx) (hy : y ∈ boxB) :
    (dst2 scM0_0).view.write (Elt F) fd (ReadAs.same.apply ((src2 hbM0_0).view.read (Elt F) fw)) Finset.univ y = WB1 fw y := by
  rw [mem_boxB] at hy
  have ey : y = (dst2 scM0_0).view.emb (ix4 (⟨(y 1).val - 32, by omega⟩ : Fin 10) (⟨(y 2).val, hy.2.2.2⟩ : Fin 28) (y 3) (y 4)) := by
    rw [emb2]
    funext a
    match a with
    | ⟨0, _⟩ => exact Fin.ext hy.1
    | ⟨1, _⟩ => exact Fin.ext (by show (y 1).val = 32 + ((y 1).val - 32); omega)
    | ⟨2, _⟩ => rfl
    | ⟨3, _⟩ => rfl
    | ⟨4, _⟩ => rfl
  refine Eq.trans ?_ (WB1_lo fw y (ix4 ⟨2016 + (y 1).val, by omega⟩ ⟨(y 2).val, hy.2.2.2⟩ (y 3) (y 4)) (by omega) hy.2.2.2 rfl rfl rfl rfl).symm
  refine (congrArg ((dst2 scM0_0).view.write (Elt F) fd (ReadAs.same.apply ((src2 hbM0_0).view.read (Elt F) fw)) Finset.univ) ey).trans ?_
  refine (View.write_emb_of_mem _ _ (Finset.mem_univ _)).trans ?_
  show fw _ = fw _
  refine congrArg fw (funext fun a => ?_)
  match a with
  | ⟨0, _⟩ => exact Fin.ext (by show 2048 + 1 * ((y 1).val - 32) = 2016 + (y 1).val; omega)
  | ⟨1, _⟩ => exact Fin.ext (by show 0 + 1 * (y 2).val = (y 2).val; omega)
  | ⟨2, _⟩ => exact Fin.ext (by show 0 + 1 * (y 3).val = (y 3).val; omega)
  | ⟨3, _⟩ => exact Fin.ext (by show 0 + 1 * (y 4).val = (y 4).val; omega)

/-! ## The batches -/

/-- Two halves at different contents are one piece at some. -/
theorem halves_any (c : Dev nD) (f0 f1 : HbBuf0 (F := F) c scM0_0) :
    iprop(wPt c 0 0 f0 ∗ wPt c 0 1 f1) ⊢ iprop(∃ f, boxPt (F := F) c (dstBox (0, 0) ∪ dstBox (0, 1)) f) := by
  rw [wPt_eq c (0, 0), wPt_eq c (0, 1)]
  iintro ⟨H0, H1⟩
  iexists (fun x : S2x96x29x8x128.Idx => if x ∈ dstBox (0, 0) then f0 x else f1 x : HbBuf0 (F := F) c scM0_0)
  iapply (pointsTo_union (dst_disj (0, 0) (0, 1) (by simp))).2
  isplitl [H0]
  · ihave H := (Entails.of_eq (pointsTo_congr (fun x hx => (if_pos hx).symm))) $$ H0
    iexact H
  · ihave H := (Entails.of_eq (pointsTo_congr (fun x hx => (if_neg (fun h => Finset.disjoint_left.mp (dst_disj (0, 0) (0, 1) (by simp)) h hx)).symm))) $$ H1
    iexact H

abbrev credit0 : ℕ := (dst0 scM0_0).view.dmaCredit
abbrev credits : Fin 2 → ℕ := fun t => if t = 0 then (dst1 scM0_0).view.dmaCredit else (dst2 scM0_0).view.dmaCredit
theorem credit0_pos : 0 < credit0 := by decide +kernel
theorem credits_pos : ∀ t, 0 < credits t := by decide +kernel

def Deliv0 (c : Dev nD) (fw : HbBuf0 (F := F) c hbM0_0) (t : Fin 1) : sProp 𝕄 :=
  iprop(boxPt c (dstBox (0, 0) ∪ dstBox (0, 1)) (WB0 fw) ∗ winPt c (src0 hbM0_0) (tok 0 0) fw)
def DelivA (c : Dev nD) (fw : HbBuf0 (F := F) c hbM0_0) : sProp 𝕄 := iprop(boxPt c boxA (WB1 fw) ∗ winPt c (src1 hbM0_0) (tok 1 0) fw)
def DelivB (c : Dev nD) (fw : HbBuf0 (F := F) c hbM0_0) : sProp 𝕄 := iprop(boxPt c boxB (WB1 fw) ∗ winPt c (src2 hbM0_0) (tok 1 1) fw)
def Deliv1 (c : Dev nD) (fw : HbBuf0 (F := F) c hbM0_0) (t : Fin 2) : sProp 𝕄 := if t = 0 then DelivA c fw else DelivB c fw
instance (c : Dev nD) (fw : HbBuf0 (F := F) c hbM0_0) (t : Fin 1) : Storable (upEmb : UEmb _ 𝕄) (Deliv0 (F := F) c fw t) := by
  unfold Deliv0
  haveI : Storable (upEmb : UEmb _ 𝕄) (boxPt (F := F) c (dstBox (0, 0) ∪ dstBox (0, 1)) (WB0 fw)) := storable_pt _ _ _ _
  haveI : Storable (upEmb : UEmb _ 𝕄) (winPt (F := F) c (src0 hbM0_0) (tok 0 0) fw) := storable_pt _ _ _ _
  exact Storable.sep _ _ _
instance (c : Dev nD) (fw : HbBuf0 (F := F) c hbM0_0) (t : Fin 2) : Storable (upEmb : UEmb _ 𝕄) (Deliv1 (F := F) c fw t) := by
  unfold Deliv1
  split
  · unfold DelivA
    haveI : Storable (upEmb : UEmb _ 𝕄) (boxPt (F := F) c boxA (WB1 fw)) := storable_pt _ _ _ _
    haveI : Storable (upEmb : UEmb _ 𝕄) (winPt (F := F) c (src1 hbM0_0) (tok 1 0) fw) := storable_pt _ _ _ _
    exact Storable.sep _ _ _
  · unfold DelivB
    haveI : Storable (upEmb : UEmb _ 𝕄) (boxPt (F := F) c boxB (WB1 fw)) := storable_pt _ _ _ _
    haveI : Storable (upEmb : UEmb _ 𝕄) (winPt (F := F) c (src2 hbM0_0) (tok 1 1) fw) := storable_pt _ _ _ _
    exact Storable.sep _ _ _

/-- The first slot with its copy under way; -/
def InB (c : Dev nD) (fw : HbBuf0 (F := F) c hbM0_0) : sProp 𝕄 :=
  iprop(Transfers.Batch EC (c : Thread nD τ) (SemLoc.dma (cellC 0)) () credit0 (Deliv0 c fw) 1 0
    ∗ offPt c (src0 hbM0_0).view.set (tok 0 0) fw ∗ tokPt c 0 1 fw)
/-- the second with its two. -/
def InC (c : Dev nD) (fw : HbBuf0 (F := F) c hbM0_0) : sProp 𝕄 :=
  iprop(Transfers.MixedBatch EC (c : Thread nD τ) (SemLoc.dma (cellC 1)) () credits (Deliv1 c fw) 2 0
    ∗ offPt c (src1 hbM0_0).view.set (tok 1 0) fw ∗ offPt c (src2 hbM0_0).view.set (tok 1 1) fw ∗ ∃ f, wPt (F := F) c 1 1 f)
/-- The second slot at rest with B, C and dt in its first half. -/
def AtC (c : Dev nD) (fw : HbBuf0 (F := F) c hbM0_0) : sProp 𝕄 :=
  iprop(semVal ((c : Thread nD τ), SemLoc.dma (cellC 1)) 0 ∗ wPt c 1 0 (WB1 fw) ∗ (∃ f, wPt (F := F) c 1 1 f) ∗ tokPt c 1 0 fw ∗ tokPt c 1 1 fw)
theorem home_of_atC (c : Dev nD) (fw : HbBuf0 (F := F) c hbM0_0) : AtC c fw ⊢ Home c 1 fw := by
  unfold AtC Home
  iintro ⟨Hv, H0, H1, T0, T1⟩
  isplitl [Hv]; · iexact Hv
  isplitl [H0]; · iexists _; iexact H0
  isplitl [H1]; · iexact H1
  isplitl [T0] <;> iassumption

theorem delivers0 (c : Dev nD) (fw : HbBuf0 (F := F) c hbM0_0) (fd : HbBuf0 (F := F) c scM0_0) :
    iprop(boxPt c (dstBox (0, 0) ∪ dstBox (0, 1)) ((dst0 scM0_0).view.write (Elt F) fd (ReadAs.same.apply ((src0 hbM0_0).view.read (Elt F) fw)) Finset.univ) ∗ winPt c (src0 hbM0_0) (tok 0 0) fw)
      ⊢ Deliv0 c fw 0 := by
  unfold Deliv0
  exact Entails.of_eq (congrArg (fun P => iprop(P ∗ winPt c (src0 hbM0_0) (tok 0 0) fw)) (pointsTo_congr fun y hy => landed0 c fw fd y hy))
theorem delivers1 (c : Dev nD) (fw : HbBuf0 (F := F) c hbM0_0) (fd : HbBuf0 (F := F) c scM0_0) :
    iprop(boxPt c boxA ((dst1 scM0_0).view.write (Elt F) fd (ReadAs.same.apply ((src1 hbM0_0).view.read (Elt F) fw)) Finset.univ) ∗ winPt c (src1 hbM0_0) (tok 1 0) fw)
      ⊢ Deliv1 c fw 0 := by
  show _ ⊢ DelivA c fw
  unfold DelivA
  exact Entails.of_eq (congrArg (fun P => iprop(P ∗ winPt c (src1 hbM0_0) (tok 1 0) fw)) (pointsTo_congr fun y hy => landed1 c fw fd y hy))
theorem delivers2 (c : Dev nD) (fw : HbBuf0 (F := F) c hbM0_0) (fd : HbBuf0 (F := F) c scM0_0) :
    iprop(boxPt c boxB ((dst2 scM0_0).view.write (Elt F) fd (ReadAs.same.apply ((src2 hbM0_0).view.read (Elt F) fw)) Finset.univ) ∗ winPt c (src2 hbM0_0) (tok 1 1) fw)
      ⊢ Deliv1 c fw 1 := by
  show _ ⊢ DelivB c fw
  unfold DelivB
  exact Entails.of_eq (congrArg (fun P => iprop(P ∗ winPt c (src2 hbM0_0) (tok 1 1) fw)) (pointsTo_congr fun y hy => landed2 c fw fd y hy))

set_option maxHeartbeats 1000000 in
/-- The three copies started. -/
theorem startBC_wp (c : Dev nD) (fw : HbBuf0 (F := F) c hbM0_0) (K : Prog (TpuEff nD τ sig (Elt F) Λ₀ .tc) PUnit) (Q : PUnit → sProp 𝕄) :
    iprop(Home c 0 fw ∗ Home c 1 fw ∗ (iprop(InB c fw ∗ InC c fw ∗ ∃ f, boxPt (F := F) c boxC f) -∗ wp frame (wpE (defs₀ (F := F)) Variants.none (c : Thread nD τ) none) Set.univ K Q))
      ⊢ wp frame (wpE (defs₀ (F := F)) Variants.none (c : Thread nD τ) none) Set.univ
          (startBC hbM0_0 (Memref.isWhole_whole _) scM0_0 (Memref.isWhole_whole _) cc0_scratch7 K) Q := by
  unfold Home InB InC
  iintro ⟨⟨Hv0, ⟨%f0, H0⟩, ⟨%f1, H1⟩, T0, T1⟩, ⟨Hv1, ⟨%f2, H2⟩, H3, T2, T3⟩, HK⟩
  imod (Transfers.batch_alloc' EC (c := (c : Thread nD τ)) (sm := SemLoc.dma (cellC 0)) () credit0 (Deliv0 c fw)) $$ Hv0 with HB
  imod (Transfers.mixedBatch_alloc' EC (c := (c : Thread nD τ)) (sm := SemLoc.dma (cellC 1)) () credits (Deliv1 c fw)) $$ Hv1 with HM
  ihave T0' := (win_split c (src0 hbM0_0).view.set (tok 0 0) fw).1 $$ T0
  icases T0' with ⟨S0, R0⟩
  ihave T2' := (win_split c (src1 hbM0_0).view.set (tok 1 0) fw).1 $$ T2
  icases T2' with ⟨S1, R1⟩
  ihave T3' := (win_split c (src2 hbM0_0).view.set (tok 1 1) fw).1 $$ T3
  icases T3' with ⟨S2, R2⟩
  ihave H01 := (halves_any c f0 f1) $$ [H0 H1]
  · isplitl [H0] <;> iassumption
  icases H01 with ⟨%f, H⟩
  ihave H2' := (half_split c f2).1 $$ H2
  icases H2' with ⟨HA, HBC⟩
  ihave HBC' := (half_split' c f2).1 $$ HBC
  icases HBC' with ⟨HB', HC⟩
  unfold startBC
  iapply (Transfers.wp_dmaBatch EC Variants.none (c : Thread nD τ) none (src := src0 hbM0_0) (dst := dst0 scM0_0) () credit0 rfl (by rw [set_d0]; exact box0_sub) (by decide : 0 < 1) (Nat.zero_le _)
    (D := Deliv0 c fw) (q := tok 0 0) (fs := fw) (Sd := dstBox (0, 0) ∪ dstBox (0, 1)) (fd := f) (delivers0 c fw f)) $$ [S0 H HB]
  · isplitl [S0]; · iexact S0
    isplitl [H]; · iexact H
    iexact HB
  iintro HB
  iapply (Transfers.wp_dmaMixedBatch EC Variants.none (c : Thread nD τ) none (src := src1 hbM0_0) (dst := dst1 scM0_0) () credits set_d1.subset (by decide : 0 < 2) rfl (Nat.zero_le _)
    (D := Deliv1 c fw) (q := tok 1 0) (fs := fw) (Sd := boxA) (fd := f2) (delivers1 c fw f2)) $$ [S1 HA HM]
  · isplitl [S1]; · iexact S1
    isplitl [HA]; · iexact HA
    iexact HM
  iintro HM
  iapply (Transfers.wp_dmaMixedBatch EC Variants.none (c : Thread nD τ) none (src := src2 hbM0_0) (dst := dst2 scM0_0) () credits set_d2.subset (by decide : 1 < 2) rfl (Nat.zero_le _)
    (D := Deliv1 c fw) (q := tok 1 1) (fs := fw) (Sd := boxB) (fd := f2) (delivers2 c fw f2)) $$ [S2 HB' HM]
  · isplitl [S2]; · iexact S2
    isplitl [HB']; · iexact HB'
    iexact HM
  iintro HM
  iapply HK
  isplitl [HB R0 T1]
  · isplitl [HB]; · iexact HB
    isplitl [R0] <;> iassumption
  isplitl [HM R1 R2 H3]
  · isplitl [HM]; · iexact HM
    isplitl [R1]; · iexact R1
    isplitl [R2]; · iexact R2
    iexact H3
  iexists _; iexact HC

/-- The first copy waited for. -/
theorem waitB_wp (c : Dev nD) (fw : HbBuf0 (F := F) c hbM0_0) (W : Waits sig Unit) (K : Prog (TpuEff nD τ sig (Elt F) Λ₀ .tc) PUnit) (Q : PUnit → sProp 𝕄) :
    iprop(InB c fw ∗ owes (c : Thread nD τ) 0 W
        ∗ (iprop(AtRest c 0 (WB0 fw) fw ∗ ∃ W, owes (c : Thread nD τ) 0 W) -∗ wp frame (wpE (defs₀ (F := F)) Variants.none (c : Thread nD τ) none) Set.univ K Q))
      ⊢ wp frame (wpE (defs₀ (F := F)) Variants.none (c : Thread nD τ) none) Set.univ
          (waitB hbM0_0 (Memref.isWhole_whole _) scM0_0 (Memref.isWhole_whole _) cc0_scratch7 K) Q := by
  unfold AtRest InB
  iintro ⟨⟨HB, R0, T1⟩, HO, HK⟩
  unfold waitB
  iapply (Transfers.wp_waitBatchLast EC Variants.none (c : Thread nD τ) none (srcw := src0 hbM0_0) (dstw := dst0 scM0_0) (hsrc := (Memref.isWhole_whole main_v2).wordExact_slice rfl _ wordsfp8e4m3_S2058x28x8x128_S96x28x8x128_1920_0_0_0) (hdst := ((Memref.isWhole_whole cc0_scratch0).wordExact_slice rfl _ wordsfp8e4m3_S2x96x29x8x128_S1x96x28x8x128_0_0_0_0_0).reshape _ _) () (N := credit0) rfl credit0_pos (by have := credit0_pos; omega : 0 + credit0 = credit0 * 1)) $$ [HB HO]
  · isplitl [HB]; · iexact HB
    iexact HO
  iintro ⟨HD, Hv, HO⟩
  ihave HD' := (show bigSep Finset.univ (Deliv0 c fw) ⊢ Deliv0 c fw 0 from Entails.of_eq (by rw [BI.bigSep_eq_bigSepL_of_eq [0] (by decide) (by decide)]; rfl)) $$ HD
  unfold Deliv0
  icases HD' with ⟨H, S0⟩
  ihave H' := (halves c 0 (WB0 fw)).1 $$ H
  icases H' with ⟨H0, H1⟩
  iapply HK
  isplitr [HO]
  · isplitl [Hv]; · iexact Hv
    isplitl [H0]; · iexact H0
    isplitl [H1]; · iexact H1
    isplitl [S0 R0]
    · iapply (win_split c (src0 hbM0_0).view.set (tok 0 0) fw).2
      isplitl [S0]
      · iexact S0
      · iexact R0
    · iexact T1
  · iexists _; iexact HO

/-- The two others waited for, the zeros written before. -/
theorem waitC_wp (c : Dev nD) (fw : HbBuf0 (F := F) c hbM0_0) (W : Waits sig Unit) (K : Prog (TpuEff nD τ sig (Elt F) Λ₀ .tc) PUnit) (Q : PUnit → sProp 𝕄) :
    iprop(InC c fw ∗ boxPt c boxC (WB1 fw) ∗ owes (c : Thread nD τ) 0 W
        ∗ (iprop(AtC c fw ∗ ∃ W, owes (c : Thread nD τ) 0 W) -∗ wp frame (wpE (defs₀ (F := F)) Variants.none (c : Thread nD τ) none) Set.univ K Q))
      ⊢ wp frame (wpE (defs₀ (F := F)) Variants.none (c : Thread nD τ) none) Set.univ
          (waitC hbM0_0 (Memref.isWhole_whole _) scM0_0 (Memref.isWhole_whole _) cc0_scratch7 K) Q := by
  unfold AtC InC
  iintro ⟨⟨HB, R1, R2, H3⟩, HC, HO, HK⟩
  unfold waitC
  iapply (Transfers.wp_waitMixedBatch EC Variants.none (c : Thread nD τ) none (srcw := src1 hbM0_0) (dstw := dst1 scM0_0) (hsrc := (Memref.isWhole_whole main_v2).wordExact_slice rfl _ wordsfp8e4m3_S2058x28x8x128_S32x28x8x128_2016_0_0_0) (hdst := ((Memref.isWhole_whole cc0_scratch0).wordExact_slice rfl _ wordsfp8e4m3_S2x96x29x8x128_S1x32x28x8x128_1_0_0_0_0).reshape _ _) () (A := credits) (J := credits 0) rfl (by decide +kernel : 0 + credits 0 ≤ Transfers.sumTo credits 2)) $$ [HB HO]
  · isplitl [HB]; · iexact HB
    iexact HO
  iintro ⟨HB, HO⟩
  iapply (Transfers.wp_waitMixedBatchAll EC Variants.none (c : Thread nD τ) none (srcw := src2 hbM0_0) (dstw := dst2 scM0_0) (hsrc := (Memref.isWhole_whole main_v2).wordExact_slice rfl _ wordsfp8e4m3_S2058x28x8x128_S10x28x8x128_2048_0_0_0) (hdst := ((Memref.isWhole_whole cc0_scratch0).wordExact_slice rfl _ wordsfp8e4m3_S2x96x29x8x128_S1x10x28x8x128_1_32_0_0_0).reshape _ _) () (A := credits) (J := credits 1) rfl credits_pos (by decide +kernel : 0 + credits 0 + credits 1 = Transfers.sumTo credits 2)) $$ [HB HO]
  · isplitl [HB]; · iexact HB
    iexact HO
  iintro ⟨HD, Hv, HO⟩
  ihave HD' := (Entails.of_eq (bigSep2 (Deliv1 c fw))) $$ HD
  ihave HD'' := (show iprop(Deliv1 c fw 0 ∗ Deliv1 c fw 1) ⊢ iprop(DelivA c fw ∗ DelivB c fw) from .rfl) $$ HD'
  unfold DelivA DelivB
  icases HD'' with ⟨⟨HA, S1⟩, ⟨HB, S2⟩⟩
  iapply HK
  isplitr [HO]
  · isplitl [Hv]; · iexact Hv
    isplitl [HA HB HC]
    · iapply (half_split c (WB1 fw)).2
      isplitl [HA]; · iexact HA
      iapply (half_split' c (WB1 fw)).2
      isplitl [HB] <;> iassumption
    isplitl [H3]; · iexact H3
    isplitl [S1 R1]
    · iapply (win_split c (src1 hbM0_0).view.set (tok 1 0) fw).2
      isplitl [S1]
      · iexact S1
      · iexact R1
    · iapply (win_split c (src2 hbM0_0).view.set (tok 1 1) fw).2
      isplitl [S2]
      · iexact S2
      · iexact R2
  · iexists _; iexact HO

theorem zero_apply (x : S1x6x28x8x128.Idx) : (zeroPiece : FVec F S1x6x28x8x128 .fp8e4m3) x = Scalar.ofBits .fp8e4m3 0x00#8 := rfl
theorem zero_done (c : Dev nD) (fw : HbBuf0 (F := F) c hbM0_0) (f : HbBuf0 (F := F) c scM0_0) (y : S2x96x29x8x128.Idx) (hy : y ∈ boxC) :
    scM0_0.view.read (Elt F) (scM0_0.view.writes (Elt F) f [⟨Rect.unit (s := S2x96x29x8x128) ![1, 42, 0, 0, 0] S1x6x28x8x128.size inb_S2x96x29x8x128_S1x6x28x8x128_1_42_0_0_0, zeroPiece⟩]) y = WB1 fw y := by
  rw [mem_boxC] at hy
  refine Eq.trans ?_ (WB1_hi fw y (by omega)).symm
  refine (View.read_writes_cons_unit_of_mem scM0_0.view f (off' := ![1, 42, 0, 0, 0]) inb_S2x96x29x8x128_S1x6x28x8x128_1_42_0_0_0 (zeroPiece (F := F)) [] y
    (ix5 (0 : Fin 1) (⟨(y 1).val - 42, by omega⟩ : Fin 6) (⟨(y 2).val, hy.2.2.2⟩ : Fin 28) (y 3) (y 4)) rfl ?_).trans (zero_apply _)
  intro a
  match a with
  | ⟨0, _⟩ => exact (show (y 0).val = 1 + 0 by omega)
  | ⟨1, _⟩ => exact (show (y 1).val = 42 + ((y 1).val - 42) by omega)
  | ⟨2, _⟩ => exact (show (y 2).val = 0 + (y 2).val by omega)
  | ⟨3, _⟩ => exact (show (y 3).val = 0 + (y 3).val by omega)
  | ⟨4, _⟩ => exact (show (y 4).val = 0 + (y 4).val by omega)

theorem box_congr (c : Dev nD) (g g' : HbBuf0 (F := F) c scM0_0) (h : ∀ y ∈ boxC, scM0_0.view.read (Elt F) g y = g' y) : boxPt c boxC g = boxPt c boxC g' :=
  pointsTo_congr h
theorem zeros_eq (c : Dev nD) (fw : HbBuf0 (F := F) c hbM0_0) (f : HbBuf0 (F := F) c scM0_0) :
    boxPt c boxC (scM0_0.view.writes (Elt F) f [⟨Rect.unit (s := S2x96x29x8x128) ![1, 42, 0, 0, 0] S1x6x28x8x128.size inb_S2x96x29x8x128_S1x6x28x8x128_1_42_0_0_0, zeroPiece⟩])
      = boxPt c boxC (WB1 fw) := box_congr c _ _ fun y hy => zero_done c fw f y hy
theorem load_subC : scM0_0.view.setOn (Rect.unit (s := S2x96x29x8x128) ![1, 42, 0, 0, 0] S1x6x28x8x128.size inb_S2x96x29x8x128_S1x6x28x8x128_1_42_0_0_0).toLoadRect.set ⊆ boxC := by
  intro x hx
  obtain ⟨y, hy, rfl⟩ := Finset.mem_map.mp hx
  exact hy
theorem store_subC : (scM0_0.access (Rect.unit (s := S2x96x29x8x128) ![1, 42, 0, 0, 0] S1x6x28x8x128.size inb_S2x96x29x8x128_S1x6x28x8x128_1_42_0_0_0)).set ⊆ boxC :=
  (View.set_slice_whole _ _).subset

set_option maxHeartbeats 1000000 in
/-- The zeros written. -/
theorem zeros_wp (c : Dev nD) (fw : HbBuf0 (F := F) c hbM0_0) (K : Prog (TpuEff nD τ sig (Elt F) Λ₀ .tc) PUnit) (Q : PUnit → sProp 𝕄) :
    iprop((∃ f, boxPt (F := F) c boxC f) ∗ (boxPt c boxC (WB1 fw) -∗ wp frame (wpE (defs₀ (F := F)) Variants.none (c : Thread nD τ) none) Set.univ K Q))
      ⊢ wp frame (wpE (defs₀ (F := F)) Variants.none (c : Thread nD τ) none) Set.univ (zeros scM0_0 (Memref.isWhole_whole _) K) Q := by
  unfold zeros
  iintro ⟨⟨%f, H⟩, HK⟩
  iapply (wp_load Variants.none (c : Thread nD τ) none Set.univ (m := scM0_0) (S := boxC) load_subC) $$ H
  iintro H
  iapply (wp_store_writes₀ Variants.none (c : Thread nD τ) none Set.univ (m := scM0_0) (S := boxC) store_subC) $$ H
  iintro H
  iapply HK
  rw [← zeros_eq c fw f]
  iexact H

end Cert.Project.Hand

end
-- ==== Proof.Project.TilesB.lean ====
/-
  The channels of B, C and dt projected: the buffer that keeps them for the whole call, tile by tile.
-/
module

public import proofs.«01_k».proof.Proof.Project.Saves
public import proofs.«01_k».proof.Proof.Project.Start

@[expose] public section

set_option maxRecDepth 16384

noncomputable section

namespace Cert.Project.Hand

open Cert.Project Cert.Project.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-- What the buffer holds in the end: the first block's 768 channels, then half a block's 384. -/
def Bc (fw : Vec F S2058x28x8x128 .fp8e4m3) (q : FVec F S256x3584 .fp8e4m3) (sc : Vec F S2x8x128 .f32) (y : S2x1152x128.Idx) : F .f32 :=
  if h : (y 1).val < 768 then
    tileVal (prod (wb0 fw) q) (scRow sc (y 0)) loMask (y 0) ⟨(y 1).val / 8, by omega⟩ (ix2 ⟨(y 1).val % 8, Nat.mod_lt _ (by decide)⟩ (y 2))
  else tileVal48 (prod48 (wb1 fw) q) (scRow sc (y 0)) loMask (y 0) ⟨((y 1).val - 768) / 8, by have h : (y 1).val < 1152 := (y 1).isLt; omega⟩
    (ix2 ⟨(y 1).val % 8, Nat.mod_lt _ (by decide)⟩ (y 2))

/-- The last `n` of `N` tiles from tile `R` on stored, and nothing else changed. -/
def TilesB (dst : Memref sig .tc .vmem S2x1152x128 .f32) (N R : Nat) (v : Fin N → FVec F S8x128 .f32) (b : Fin 2) (n : Nat) (f f' : dst.view.ty.Contents (Elt F)) : Prop :=
  ∀ y : S2x1152x128.Idx,
    (∀ t : Fin N, (y 0).val = b.val → (y 1).val / 8 = R + t.val → N - n ≤ t.val →
      dst.view.read (Elt F) f' y = v t (ix2 ⟨(y 1).val % 8, Nat.mod_lt _ (by decide)⟩ (y 2)))
    ∧ (¬ ((y 0).val = b.val ∧ 8 * (R + (N - n)) ≤ (y 1).val ∧ (y 1).val < 8 * (R + N)) → dst.view.read (Elt F) f' y = dst.view.read (Elt F) f y)

theorem tilesB_step (dst : Memref sig .tc .vmem S2x1152x128 .f32) (N R : Nat) (hR : R + N ≤ 144) (v : Fin N → FVec F S8x128 .f32) (b : Fin 2) (n : Nat) (hn : n + 1 ≤ N)
    (f f' : dst.view.ty.Contents (Elt F)) (inb)
    (h : TilesB dst N R v b n (dst.view.writes (Elt F) f [⟨Rect.unit (s := S2x1152x128) ![b.val, 8 * (R + (N - 1 - n)), 0] S1x8x128.size inb,
      shapeCast S1x8x128 (v ⟨N - 1 - n, by omega⟩) shapeCasts_S8x128_S1x8x128⟩]) f') :
    TilesB dst N R v b (n + 1) f f' := by
  intro y
  have h0 : (y 0).val < 2 := (y 0).isLt
  have hb := b.isLt
  have hlt : N - 1 - n < N := by omega
  constructor
  · intro t e0 et ht
    by_cases c : N - n ≤ t.val
    · exact (h y).1 t e0 et c
    have e : t = ⟨N - 1 - n, hlt⟩ := Fin.ext (by show t.val = N - 1 - n; omega)
    rw [(h y).2 (by rintro ⟨-, h1, -⟩; omega)]
    subst e
    have et' : (y 1).val / 8 = R + (N - 1 - n) := et
    refine (View.read_writes_cons_unit_of_mem dst.view f (off' := ![b.val, 8 * (R + (N - 1 - n)), 0]) inb _ [] y
      (ix3 (0 : Fin 1) (⟨(y 1).val % 8, Nat.mod_lt _ (by decide)⟩ : Fin 8) (y 2)) rfl ?_).trans ?_
    · intro a
      match a with
      | ⟨0, _⟩ => exact (show (y 0).val = b.val + 0 by rw [e0, Nat.add_zero])
      | ⟨1, _⟩ => exact (show (y 1).val = 8 * (R + (N - 1 - n)) + (y 1).val % 8 by omega)
      | ⟨2, _⟩ => exact (show (y 2).val = 0 + (y 2).val by omega)
    · refine (shapeCast_addUnit_apply _ _ _ _).trans (congrArg _ (funext fun a => ?_))
      match a with
      | ⟨0, _⟩ => rfl
      | ⟨1, _⟩ => rfl
  · intro hc
    rw [(h y).2 (by rintro ⟨e0, h1, h2⟩; exact hc ⟨e0, by omega, h2⟩)]
    by_cases e : (y 0).val = b.val
    · have hc' : (y 1).val < 8 * (R + (N - 1 - n)) ∨ 8 * (R + (N - 1 - n)) + 8 ≤ (y 1).val := by
        by_contra hh
        exact hc ⟨e, by omega, by omega⟩
      exact View.read_writes_cons_unit_of_not_mem dst.view f (off' := ![b.val, 8 * (R + (N - 1 - n)), 0]) inb _ [] y rfl 1 hc'
    · refine View.read_writes_cons_unit_of_not_mem dst.view f (off' := ![b.val, 8 * (R + (N - 1 - n)), 0]) inb _ [] y rfl 0 ?_
      show (y 0).val < b.val ∨ b.val + 1 ≤ (y 0).val
      omega

theorem tilesB_wp (c : Dev nD) (dst : Memref sig .tc .vmem S2x1152x128 .f32) (N R : Nat) (hR : R + N ≤ 144) (v : Fin N → FVec F S8x128 .f32) (b : Fin 2)
    (K : Prog (TpuEff nD τ sig (Elt F) Λ₀ .tc) PUnit) (Q : PUnit → sProp 𝕄) (n : Nat) (hn : n ≤ N) (f : HbBuf0 (F := F) c dst) :
    iprop(hbPt0 c dst f
        ∗ ((∃ f' : HbBuf0 (F := F) c dst, ⌜TilesB dst N R v b n f f'⌝ ∗ hbPt0 c dst f') -∗ wp frame (wpE (defs₀ (F := F)) Variants.none (c : Thread nD τ) none) Set.univ K Q))
      ⊢ wp frame (wpE (defs₀ (F := F)) Variants.none (c : Thread nD τ) none) Set.univ (tilesB dst N R hR v b K n hn) Q := by
  induction n generalizing f with
  | zero =>
    iintro ⟨H, HK⟩
    iapply HK
    iexists f
    isplitr; swap; · iexact H
    ipureintro
    exact fun y => ⟨fun t _ _ ht => absurd t.isLt (by omega), fun _ => rfl⟩
  | succ n ih =>
    rw [tilesB]
    iintro ⟨H, HK⟩
    iapply (wp_load Variants.none (c : Thread nD τ) none Set.univ (m := dst) (S := Finset.univ) (Finset.subset_univ _)) $$ H
    iintro H
    iapply (wp_store_writes₀ Variants.none (c : Thread nD τ) none Set.univ (m := dst) (S := Finset.univ) (access_univ c dst _)) $$ H
    iintro H
    iapply (ih _ _)
    isplitl [H]; · iexact H
    iintro ⟨%f', %hf', H⟩
    iapply HK
    iexists f'
    isplitr; swap; · iexact H
    ipureintro
    exact tilesB_step dst N R hR v b n hn f f' _ hf'

/-- The first 768 channels in place. -/
def Half (U f : S2x1152x128.Idx → F .f32) : Prop := ∀ y : S2x1152x128.Idx, (y 1).val < 768 → f y = U y

theorem bDone0 (dst : Memref sig .tc .vmem S2x1152x128 .f32) (fw : Vec F S2058x28x8x128 .fp8e4m3) (q : FVec F S256x3584 .fp8e4m3) (sc : Vec F S2x8x128 .f32)
    (f f1 f2 : dst.view.ty.Contents (Elt F))
    (h1 : TilesB dst 96 0 (tileVal (prod (wb0 fw) q) (scRow sc 0) loMask 0) 0 96 f f1) (h2 : TilesB dst 96 0 (tileVal (prod (wb0 fw) q) (scRow sc 1) loMask 1) 1 96 f1 f2) :
    Half (Bc fw q sc) (dst.view.read (Elt F) f2) := by
  intro y hy
  have h0 : (y 0).val < 2 := (y 0).isLt
  unfold Bc
  rw [dif_pos hy]
  by_cases e : (y 0).val = (1 : Fin 2).val
  · rw [(h2 y).1 ⟨(y 1).val / 8, by omega⟩ e (by show (y 1).val / 8 = 0 + (y 1).val / 8; omega) (by omega), show y 0 = (1 : Fin 2) from Fin.ext e]
  · have e0 : (y 0).val = (0 : Fin 2).val := by have : (y 0).val ≠ 1 := e; show (y 0).val = 0; omega
    rw [(h2 y).2 (fun h => e h.1), (h1 y).1 ⟨(y 1).val / 8, by omega⟩ e0 (by show (y 1).val / 8 = 0 + (y 1).val / 8; omega) (by omega),
      show y 0 = (0 : Fin 2) from Fin.ext e0]

theorem bDone1 (dst : Memref sig .tc .vmem S2x1152x128 .f32) (fw : Vec F S2058x28x8x128 .fp8e4m3) (q : FVec F S256x3584 .fp8e4m3) (sc : Vec F S2x8x128 .f32)
    (f f1 f2 : dst.view.ty.Contents (Elt F)) (hf : Half (Bc fw q sc) (dst.view.read (Elt F) f))
    (h1 : TilesB dst 48 96 (tileVal48 (prod48 (wb1 fw) q) (scRow sc 0) loMask 0) 0 48 f f1) (h2 : TilesB dst 48 96 (tileVal48 (prod48 (wb1 fw) q) (scRow sc 1) loMask 1) 1 48 f1 f2) :
    dst.view.read (Elt F) f2 = Bc fw q sc := by
  funext y
  have h0 : (y 0).val < 2 := (y 0).isLt
  have h1' : (y 1).val < 1152 := (y 1).isLt
  by_cases hy : (y 1).val < 768
  · rw [(h2 y).2 (by rintro ⟨-, h, -⟩; omega), (h1 y).2 (by rintro ⟨-, h, -⟩; omega)]
    exact hf y hy
  unfold Bc
  rw [dif_neg hy]
  by_cases e : (y 0).val = (1 : Fin 2).val
  · rw [(h2 y).1 ⟨((y 1).val - 768) / 8, by omega⟩ e (by show (y 1).val / 8 = 96 + ((y 1).val - 768) / 8; omega) (by omega), show y 0 = (1 : Fin 2) from Fin.ext e]
  · have e0 : (y 0).val = (0 : Fin 2).val := by have : (y 0).val ≠ 1 := e; show (y 0).val = 0; omega
    rw [(h2 y).2 (fun h => e h.1), (h1 y).1 ⟨((y 1).val - 768) / 8, by omega⟩ e0 (by show (y 1).val / 8 = 96 + ((y 1).val - 768) / 8; omega) (by omega),
      show y 0 = (0 : Fin 2) from Fin.ext e0]

theorem load_subB1 : scM0_0.view.setOn (Rect.unit (s := S2x96x29x8x128) ![1, 0, 0, 0, 0] S1x48x28x8x128.size inb_S2x96x29x8x128_S1x48x28x8x128_1_0_0_0_0).toLoadRect.set ⊆ dstBox (1, 0) := by
  intro x hx
  obtain ⟨y, hy, rfl⟩ := Finset.mem_map.mp hx
  have hy' : y ∈ (Rect.unit (s := S2x96x29x8x128) ![1, 0, 0, 0, 0] S1x48x28x8x128.size inb_S2x96x29x8x128_S1x48x28x8x128_1_0_0_0_0).set := hy
  rw [Rect.mem_set_unit] at hy'
  have a0 : 1 ≤ (y 0).val ∧ (y 0).val < 1 + 1 := hy' 0
  have a1 : 0 ≤ (y 1).val ∧ (y 1).val < 0 + 48 := hy' 1
  have a2 : 0 ≤ (y 2).val ∧ (y 2).val < 0 + 28 := hy' 2
  have e : scM0_0.view.emb y = y := rfl
  rw [e, mem_dstBox]
  show (y 0).val = 1 ∧ 48 * 0 ≤ (y 1).val ∧ (y 1).val < 48 * 0 + 48 ∧ (y 2).val < 28
  omega

set_option maxHeartbeats 1000000 in
/-- The first slot projected. -/
theorem projectB0_wp (c : Dev nD) (arg1 : Memref sig .tc .vmem S256x3584 .fp8e4m3)
    (fw : HbBuf0 (F := F) c hbM0_0) (fq : HbBuf0 (F := F) c arg1) (sc : HbBuf0 (F := F) c scM0_1)
    (K : Prog (TpuEff nD τ sig (Elt F) Λ₀ .tc) PUnit) (Q : PUnit → sProp 𝕄) :
    iprop(AtRest c 0 (WB0 fw) fw ∗ hbPt0 c arg1 fq ∗ hbPt0 c scM0_1 sc ∗ (∃ f, hbPt0 (F := F) c scM0_3 f)
        ∗ (iprop(AtRest c 0 (WB0 fw) fw ∗ hbPt0 c arg1 fq ∗ hbPt0 c scM0_1 sc
              ∗ ∃ f : HbBuf0 (F := F) c scM0_3, ⌜Half (Bc fw (arg1.view.read (Elt F) fq) sc) (scM0_3.view.read (Elt F) f)⌝ ∗ hbPt0 c scM0_3 f)
            -∗ wp frame (wpE (defs₀ (F := F)) Variants.none (c : Thread nD τ) none) Set.univ K Q))
      ⊢ wp frame (wpE (defs₀ (F := F)) Variants.none (c : Thread nD τ) none) Set.univ
          (projectB0 arg1 scM0_0 scM0_1 scM0_3 K) Q := by
  unfold AtRest projectB0
  iintro ⟨⟨Hv, H0, H1, T0, T1⟩, Hq, Hs, ⟨%f, Hp⟩, HK⟩
  icombine H0 H1 as H01
  ihave H := (halves c 0 (WB0 fw)).2 $$ H01
  iapply (wp_load Variants.none (c : Thread nD τ) none Set.univ (m := scM0_0) (S := dstBox (0, 0) ∪ dstBox (0, 1)) (load_sub 0)) $$ H
  iintro H
  ihave H01 := (halves c 0 (WB0 fw)).1 $$ H
  icases H01 with ⟨H0, H1⟩
  rw [load_WB0]
  iapply (wp_load Variants.none (c : Thread nD τ) none Set.univ (m := arg1) (S := Finset.univ) (Finset.subset_univ _)) $$ Hq
  iintro Hq
  rw [readAt_zero arg1 ![0, 0] (by intro a; fin_cases a <;> rfl)]
  iapply (wp_load Variants.none (c : Thread nD τ) none Set.univ (m := scM0_1) (S := Finset.univ) (Finset.subset_univ _)) $$ Hs
  iintro Hs
  rw [scale_read 0 ![0, 0, 0] rfl]
  iapply (tilesB_wp c scM0_3 96 0 _ _ 0 _ Q 96 _ f)
  isplitl [Hp]; · iexact Hp
  iintro ⟨%f1, %hf1, Hp⟩
  iapply (wp_load Variants.none (c : Thread nD τ) none Set.univ (m := scM0_1) (S := Finset.univ) (Finset.subset_univ _)) $$ Hs
  iintro Hs
  rw [scale_read 1 ![1, 0, 0] rfl]
  iapply (tilesB_wp c scM0_3 96 0 _ _ 1 _ Q 96 _ f1)
  isplitl [Hp]; · iexact Hp
  iintro ⟨%f2, %hf2, Hp⟩
  iapply HK
  isplitl [Hv H0 H1 T0 T1]
  · isplitl [Hv]; · iexact Hv
    isplitl [H0]; · iexact H0
    isplitl [H1]; · iexact H1
    isplitl [T0] <;> iassumption
  isplitl [Hq]; · iexact Hq
  isplitl [Hs]; · iexact Hs
  iexists f2
  isplitr; swap; · iexact Hp
  ipureintro
  exact bDone0 scM0_3 fw _ sc f f1 f2 hf1 hf2

set_option maxHeartbeats 1000000 in
/-- Half of the second slot projected. -/
theorem projectB1_wp (c : Dev nD) (arg1 : Memref sig .tc .vmem S256x3584 .fp8e4m3)
    (fw : HbBuf0 (F := F) c hbM0_0) (fq : HbBuf0 (F := F) c arg1) (sc : HbBuf0 (F := F) c scM0_1) (f : HbBuf0 (F := F) c scM0_3)
    (hf : Half (Bc fw (arg1.view.read (Elt F) fq) sc) (scM0_3.view.read (Elt F) f))
    (K : Prog (TpuEff nD τ sig (Elt F) Λ₀ .tc) PUnit) (Q : PUnit → sProp 𝕄) :
    iprop(AtC c fw ∗ hbPt0 c arg1 fq ∗ hbPt0 c scM0_1 sc ∗ hbPt0 c scM0_3 f
        ∗ (iprop(AtC c fw ∗ hbPt0 c arg1 fq ∗ hbPt0 c scM0_1 sc
              ∗ ∃ f : HbBuf0 (F := F) c scM0_3, ⌜scM0_3.view.read (Elt F) f = Bc fw (arg1.view.read (Elt F) fq) sc⌝ ∗ hbPt0 c scM0_3 f)
            -∗ wp frame (wpE (defs₀ (F := F)) Variants.none (c : Thread nD τ) none) Set.univ K Q))
      ⊢ wp frame (wpE (defs₀ (F := F)) Variants.none (c : Thread nD τ) none) Set.univ
          (projectB1 arg1 scM0_0 scM0_1 scM0_3 K) Q := by
  unfold AtC projectB1
  rw [wPt_eq c (1, 0)]
  iintro ⟨⟨Hv, H0, H1, T0, T1⟩, Hq, Hs, Hp, HK⟩
  iapply (wp_load Variants.none (c : Thread nD τ) none Set.univ (m := scM0_0) (S := dstBox (1, 0)) load_subB1) $$ H0
  iintro H0
  rw [load_WB1]
  iapply (wp_load Variants.none (c : Thread nD τ) none Set.univ (m := arg1) (S := Finset.univ) (Finset.subset_univ _)) $$ Hq
  iintro Hq
  rw [readAt_zero arg1 ![0, 0] (by intro a; fin_cases a <;> rfl)]
  iapply (wp_load Variants.none (c : Thread nD τ) none Set.univ (m := scM0_1) (S := Finset.univ) (Finset.subset_univ _)) $$ Hs
  iintro Hs
  rw [scale_read 0 ![0, 0, 0] rfl]
  iapply (tilesB_wp c scM0_3 48 96 _ _ 0 _ Q 48 _ f)
  isplitl [Hp]; · iexact Hp
  iintro ⟨%f1, %hf1, Hp⟩
  iapply (wp_load Variants.none (c : Thread nD τ) none Set.univ (m := scM0_1) (S := Finset.univ) (Finset.subset_univ _)) $$ Hs
  iintro Hs
  rw [scale_read 1 ![1, 0, 0] rfl]
  iapply (tilesB_wp c scM0_3 48 96 _ _ 1 _ Q 48 _ f1)
  isplitl [Hp]; · iexact Hp
  iintro ⟨%f2, %hf2, Hp⟩
  iapply HK
  isplitl [Hv H0 H1 T0 T1]
  · isplitl [Hv]; · iexact Hv
    isplitl [H0]; · iexact H0
    isplitl [H1]; · iexact H1
    isplitl [T0] <;> iassumption
  isplitl [Hq]; · iexact Hq
  isplitl [Hs]; · iexact Hs
  iexists f2
  isplitr; swap; · iexact Hp
  ipureintro
  exact bDone1 scM0_3 fw _ sc f f1 f2 hf hf1 hf2

end Cert.Project.Hand

end
-- ==== Proof.Project.Conv.lean ====
/-
  The last three times of a finished block's channels, kept for the next call: each is the projection at that time times
  the channel's scale.
-/
module

public import proofs.«01_k».proof.Proof.Project.Saves
public import proofs.«01_k».proof.Proof.Project.TilesB
public import Idealize.ShloMosaic.Lib.KernelVsHost

@[expose] public section

set_option maxRecDepth 65536

noncomputable section

namespace Cert.Project.Hand

open Cert.Project Cert.Project.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

/-! ## What is kept -/

/-- A kept element: the projection at the third, second or last time, times the channel's scale. -/
def csOf (fw : Vec F S2058x28x8x128 .fp8e4m3) (q : FVec F S256x3584 .fp8e4m3) (sc : Vec F S2x8x128 .f32) (ws : Vec F S1x16464 .f32) (y : S3x2x8704.Idx) : F .f32 :=
  FloatOps.mulf
    (if h : (y 2).val < 7680 then outOf fw q sc 0 (ix3 (y 1) ⟨(y 2).val, h⟩ ⟨125 + (y 0).val, by have h : (y 0).val < 3 := (y 0).isLt; omega⟩)
      else Bc fw q sc (ix3 (y 1) ⟨(y 2).val - 7680, by have h : (y 2).val < 8704 := (y 2).isLt; omega⟩ ⟨125 + (y 0).val, by have h : (y 0).val < 3 := (y 0).isLt; omega⟩))
    (ws (ix2 0 ⟨7680 + (y 2).val, by have h : (y 2).val < 8704 := (y 2).isLt; omega⟩))

/-- Where row `j` of batch `b`'s block from channel `lo` lies, -/
def RowAt (j : Fin 3) (b : Fin 2) (lo : Nat) (y : S3x2x8704.Idx) : Prop := (y 0).val = j.val ∧ (y 1).val = b.val ∧ lo ≤ (y 2).val ∧ (y 2).val < lo + 128
/-- and the three rows. -/
def BlkAt (b : Fin 2) (lo : Nat) (y : S3x2x8704.Idx) : Prop := (y 1).val = b.val ∧ lo ≤ (y 2).val ∧ (y 2).val < lo + 128
/-- `f'` is `U` where `P` holds and `f` elsewhere. -/
def Sets (P : S3x2x8704.Idx → Prop) (U f f' : S3x2x8704.Idx → F .f32) : Prop := ∀ y, (P y → f' y = U y) ∧ (¬ P y → f' y = f y)

theorem sets_three (b : Fin 2) (lo : Nat) (U f f1 f2 f3 : S3x2x8704.Idx → F .f32)
    (h1 : Sets (RowAt 0 b lo) U f f1) (h2 : Sets (RowAt 1 b lo) U f1 f2) (h3 : Sets (RowAt 2 b lo) U f2 f3) : Sets (BlkAt b lo) U f f3 := by
  intro y
  have h0 : (y 0).val < 3 := (y 0).isLt
  constructor
  · intro hb
    by_cases c2 : RowAt 2 b lo y
    · exact (h3 y).1 c2
    rw [(h3 y).2 c2]
    by_cases c1 : RowAt 1 b lo y
    · exact (h2 y).1 c1
    rw [(h2 y).2 c1]
    refine (h1 y).1 ⟨?_, hb⟩
    have n2 : ¬ (y 0).val = 2 := fun h => c2 ⟨h, hb⟩
    have n1 : ¬ (y 0).val = 1 := fun h => c1 ⟨h, hb⟩
    show (y 0).val = 0
    omega
  · intro hb
    rw [(h3 y).2 fun h => hb h.2, (h2 y).2 fun h => hb h.2, (h1 y).2 fun h => hb h.2]

/-- Kept for the channels below `384 k` and those of B, C and dt. -/
def Kept (U : S3x2x8704.Idx → F .f32) (k : Nat) (f : S3x2x8704.Idx → F .f32) : Prop := ∀ y : S3x2x8704.Idx, (y 2).val < 384 * k ∨ 7680 ≤ (y 2).val → f y = U y

theorem kept_all (U f : S3x2x8704.Idx → F .f32) (h : Kept U 20 f) : f = U := funext fun y => h y (by omega)

/-- The six blocks of a trip. -/
theorem kept_six (i : Nat) (U f a1 a2 a3 b1 b2 b3 : S3x2x8704.Idx → F .f32)
    (h1 : Sets (BlkAt 0 (384 * i + 128 * 0)) U f a1) (h2 : Sets (BlkAt 0 (384 * i + 128 * 1)) U a1 a2) (h3 : Sets (BlkAt 0 (384 * i + 128 * 2)) U a2 a3)
    (k1 : Sets (BlkAt 1 (384 * i + 128 * 0)) U a3 b1) (k2 : Sets (BlkAt 1 (384 * i + 128 * 1)) U b1 b2) (k3 : Sets (BlkAt 1 (384 * i + 128 * 2)) U b2 b3)
    (H : Kept U i f) : Kept U (i + 1) b3 := by
  have st : ∀ (b : Fin 2) (lo : Nat) (g g' : S3x2x8704.Idx → F .f32) (y : S3x2x8704.Idx), Sets (BlkAt b lo) U g g' → g y = U y → g' y = U y := fun b lo g g' y hs hg => by
    by_cases c : BlkAt b lo y
    · exact (hs y).1 c
    · rw [(hs y).2 c, hg]
  intro y hy
  have h0 : (y 1).val < 2 := (y 1).isLt
  by_cases c0 : (y 2).val < 384 * i ∨ 7680 ≤ (y 2).val
  · exact st _ _ _ _ y k3 (st _ _ _ _ y k2 (st _ _ _ _ y k1 (st _ _ _ _ y h3 (st _ _ _ _ y h2 (st _ _ _ _ y h1 (H y c0))))))
  by_cases c1 : (y 2).val < 384 * i + 128
  · by_cases e : (y 1).val = 0
    · exact st _ _ _ _ y k3 (st _ _ _ _ y k2 (st _ _ _ _ y k1 (st _ _ _ _ y h3 (st _ _ _ _ y h2 ((h1 y).1 ⟨e, by omega, by omega⟩)))))
    · exact st _ _ _ _ y k3 (st _ _ _ _ y k2 ((k1 y).1 ⟨by show (y 1).val = 1; omega, by omega, by omega⟩))
  by_cases c2 : (y 2).val < 384 * i + 256
  · by_cases e : (y 1).val = 0
    · exact st _ _ _ _ y k3 (st _ _ _ _ y k2 (st _ _ _ _ y k1 (st _ _ _ _ y h3 ((h2 y).1 ⟨e, by omega, by omega⟩))))
    · exact st _ _ _ _ y k3 ((k2 y).1 ⟨by show (y 1).val = 1; omega, by omega, by omega⟩)
  · by_cases e : (y 1).val = 0
    · exact st _ _ _ _ y k3 (st _ _ _ _ y k2 (st _ _ _ _ y k1 ((h3 y).1 ⟨e, by omega, by omega⟩)))
    · exact (k3 y).1 ⟨by show (y 1).val = 1; omega, by omega, by omega⟩

/-! ## A row, element by element -/

theorem convPiece_apply (p : Vec F S1x1x128x128 .f32) (w : Vec F S1x128 .f32) (t l : Fin 128) :
    convPiece p w (ix2 t l) = FloatOps.mulf (p (ix4 0 0 l t)) (w (ix2 0 l)) := by
  have e1 : transpose S128x128 [1, 0] (shapeCast S128x128 p shapeCasts_S1x1x128x128_S128x128) transposes_S128x128_p1_0_S128x128 (ix2 t l) = p (ix4 0 0 l t) := by
    rw [transpose_apply _ _ _ _ (ix2 l t) (fun b => by
      match b with
      | ⟨0, _⟩ => rfl
      | ⟨1, _⟩ => rfl)]
    exact shapeCast_apply _ _ _ _ (by
      rw [Shape.rowMajor_val_four, Shape.rowMajor_val_two]
      show ((0 * 1 + 0) * 128 + l.val) * 128 + t.val = l.val * 128 + t.val
      omega)
  have e2 : broadcastTo S128x128 w broadcasts_S1x128_S128x128 (ix2 t l) = w (ix2 0 l) := by
    refine congrArg w (funext fun a => ?_)
    match a with
    | ⟨0, _⟩ => rfl
    | ⟨1, _⟩ => rfl
  exact congrArg₂ (fun a b => FloatOps.mulf a b) e1 e2

theorem convRow_apply (j : Fin 3) (p : Vec F S1x1x128x128 .f32) (w : Vec F S1x128 .f32) (l : Fin 128) :
    convRow j p w (ix3 0 0 l) = FloatOps.mulf (p (ix4 0 0 l ⟨125 + j.val, by have := j.isLt; omega⟩)) (w (ix2 0 l)) := by
  unfold convRow
  refine (shapeCast_addUnit_apply _ _ _ _).trans (Eq.trans ?_ (convPiece_apply p w _ l))
  refine extractStridedSlice_apply _ _ _ _ _ fun a => ?_
  match a with
  | ⟨0, _⟩ => rfl
  | ⟨1, _⟩ => exact (show l.val = 0 + l.val by omega)

theorem inbConv (s b : Fin 2) (k : Fin 3) : ∀ a, (![s.val, b.val, 128 * k.val, 0] : Fin 4 → Nat) a + S1x1x128x128.size a ≤ S2x2x768x128.size a := by
  have := s.isLt; have := b.isLt; have := k.isLt; intro a; fin_cases a
  · show s.val + 1 ≤ 2; omega
  · show b.val + 1 ≤ 2; omega
  · show 128 * k.val + 128 ≤ 768; omega
  · show 0 + 128 ≤ 128; omega
theorem conv_sub (s b : Fin 2) (k : Fin 3) (o : Fin 4 → Nat) (eo : o = ![s.val, b.val, 128 * k.val, 0]) (inb) :
    scM0_2.view.setOn (Rect.unit (s := S2x2x768x128) o S1x1x128x128.size inb).toLoadRect.set ⊆ slotBox s := by
  subst eo
  intro x hx
  obtain ⟨y, hy, rfl⟩ := Finset.mem_map.mp hx
  have hy' : y ∈ (Rect.unit (s := S2x2x768x128) ![s.val, b.val, 128 * k.val, 0] S1x1x128x128.size inb).set := hy
  rw [Rect.mem_set_unit] at hy'
  have a0 : s.val ≤ (y 0).val ∧ (y 0).val < s.val + 1 := hy' 0
  have e : scM0_2.view.emb y = y := rfl
  rw [e, mem_slotBox]
  omega

/-- The kept row, element by element. -/
theorem conv_row (M3 : Memref sig .tc .vmem S1x16464 .f32) (gw : M3.view.ty.Contents (Elt F)) (s b : Fin 2) (k : Fin 3) (i : Fin 20) (j : Fin 3)
    (fw : Vec F S2058x28x8x128 .fp8e4m3) (q : FVec F S256x3584 .fp8e4m3) (sc : Vec F S2x8x128 .f32)
    (o : Fin 4 → Nat) (eo : o = ![s.val, b.val, 128 * k.val, 0]) (inb) (ow : Fin 2 → Nat) (ew : ow = ![0, 384 * i.val + 128 * k.val + 7680]) (inbw)
    (l : Fin 128) (y : S3x2x8704.Idx) (y0 : (y 0).val = j.val) (y1 : (y 1).val = b.val) (y2 : (y 2).val = 384 * i.val + 128 * k.val + l.val) :
    convRow j (View.readAt (Elt F) scM0_2.view (Rect.unit (s := S2x2x768x128) o S1x1x128x128.size inb).toLoadRect (Pc (wv fw i) q sc))
        (View.readAt (Elt F) M3.view (Rect.unit (s := S1x16464) ow S1x128.size inbw).toLoadRect gw) (ix3 0 0 l)
      = csOf fw q sc (M3.view.read (Elt F) gw) y := by
  subst eo ew
  have hk := k.isLt
  have hl := l.isLt
  have hj := j.isLt
  have hi := i.isLt
  have hy : (y 2).val < 7680 := by omega
  rw [convRow_apply]
  unfold csOf
  rw [dif_pos hy]
  unfold outOf
  refine congrArg₂ (fun a b => FloatOps.mulf a b) ?_ ?_
  · show pv (wv fw i) q sc _ = pv (wv fw ⟨(y 2).val / 384, _⟩) q sc _
    rw [show (⟨(y 2).val / 384, by omega⟩ : Fin 20) = i from Fin.ext (by show (y 2).val / 384 = i.val; omega)]
    refine congrArg _ (funext fun a => ?_)
    match a with
    | ⟨0, _⟩ => exact Fin.ext (by show b.val + 1 * 0 = (y 1).val; omega)
    | ⟨1, _⟩ => exact Fin.ext (by show 128 * k.val + 1 * l.val = 384 * 0 + (y 2).val % 384; omega)
    | ⟨2, _⟩ => exact Fin.ext (by show 0 + 1 * (125 + j.val) = 125 + (y 0).val; omega)
  · show M3.view.read (Elt F) gw _ = M3.view.read (Elt F) gw _
    refine congrArg _ (funext fun a => ?_)
    match a with
    | ⟨0, _⟩ => rfl
    | ⟨1, _⟩ => exact Fin.ext (by show 384 * i.val + 128 * k.val + 7680 + 1 * l.val = 7680 + (y 2).val; omega)

/-! ## The steps -/

theorem row_step (M : Memref sig .tc .vmem S3x2x8704 .f32) (j : Fin 3) (b : Fin 2) (lo : Nat) (U : S3x2x8704.Idx → F .f32) (f : M.view.ty.Contents (Elt F))
    (row : FVec F S1x1x128 .f32)
    (hrow : ∀ (l : Fin 128) (y : S3x2x8704.Idx), (y 0).val = j.val → (y 1).val = b.val → (y 2).val = lo + l.val → row (ix3 0 0 l) = U y)
    (o : Fin 3 → Nat) (h) (eo : o = ![j.val, b.val, lo]) :
    Sets (RowAt j b lo) U (M.view.read (Elt F) f) (M.view.read (Elt F) (M.view.writes (Elt F) f [⟨Rect.unit (s := S3x2x8704) o S1x1x128.size h, row⟩])) := by
  intro y
  constructor
  · rintro ⟨c0, c1, c2, c3⟩
    refine (View.read_writes_cons_unit_of_mem M.view f (off' := ![j.val, b.val, lo]) h _ [] y (ix3 (0 : Fin 1) (0 : Fin 1) (⟨(y 2).val - lo, by omega⟩ : Fin 128)) eo ?_).trans ?_
    · intro a
      match a with
      | ⟨0, _⟩ => exact (show (y 0).val = j.val + 0 by omega)
      | ⟨1, _⟩ => exact (show (y 1).val = b.val + 0 by omega)
      | ⟨2, _⟩ => exact (show (y 2).val = lo + ((y 2).val - lo) by omega)
    · exact hrow _ y c0 c1 (by show (y 2).val = lo + ((y 2).val - lo); omega)
  · intro hn
    by_cases c0 : (y 0).val = j.val
    · by_cases c1 : (y 1).val = b.val
      · have c2 : (y 2).val < lo ∨ lo + 128 ≤ (y 2).val := by
          by_contra hc
          exact hn ⟨c0, c1, by omega, by omega⟩
        exact View.read_writes_cons_unit_of_not_mem M.view f (off' := ![j.val, b.val, lo]) h _ [] y eo 2 c2
      · exact View.read_writes_cons_unit_of_not_mem M.view f (off' := ![j.val, b.val, lo]) h _ [] y eo 1 (by
          show (y 1).val < b.val ∨ b.val + 1 ≤ (y 1).val
          omega)
    · exact View.read_writes_cons_unit_of_not_mem M.view f (off' := ![j.val, b.val, lo]) h _ [] y eo 0 (by
        show (y 0).val < j.val ∨ j.val + 1 ≤ (y 0).val
        omega)

theorem putRow_wp (c : Dev nD) (M : Memref sig .tc .vmem S3x2x8704 .f32) (j : Fin 3) (b : Fin 2) (lo : Nat) (U : S3x2x8704.Idx → F .f32) (f : HbBuf0 (F := F) c M)
    (row : FVec F S1x1x128 .f32)
    (hrow : ∀ (l : Fin 128) (y : S3x2x8704.Idx), (y 0).val = j.val → (y 1).val = b.val → (y 2).val = lo + l.val → row (ix3 0 0 l) = U y)
    (o : Fin 3 → Nat) (h) (eo : o = ![j.val, b.val, lo])
    (K : Prog (TpuEff nD τ sig (Elt F) Λ₀ .tc) PUnit) (Q : PUnit → sProp 𝕄) :
    iprop(hbPt0 c M f
        ∗ ((∃ f' : HbBuf0 (F := F) c M, ⌜Sets (RowAt j b lo) U (M.view.read (Elt F) f) (M.view.read (Elt F) f')⌝ ∗ hbPt0 c M f')
            -∗ wp frame (wpE (defs₀ (F := F)) Variants.none (c : Thread nD τ) none) Set.univ K Q))
      ⊢ wp frame (wpE (defs₀ (F := F)) Variants.none (c : Thread nD τ) none) Set.univ (putRow M o h row K) Q := by
  unfold putRow
  iintro ⟨Hf, HK⟩
  iapply (wp_load Variants.none (c : Thread nD τ) none Set.univ (m := M) (S := Finset.univ) (Finset.subset_univ _)) $$ Hf
  iintro Hf
  iapply (wp_store_writes₀ Variants.none (c : Thread nD τ) none Set.univ (m := M) (S := Finset.univ) (access_univ c M _)) $$ Hf
  iintro Hf
  iapply HK
  iexists _
  isplitr; swap; · iexact Hf
  ipureintro
  exact row_step M j b lo U f row hrow o h eo

/-- One block of channels kept. -/
theorem conv_wp (c : Dev nD) (M3 : Memref sig .tc .vmem S1x16464 .f32) (M : Memref sig .tc .vmem S3x2x8704 .f32) (s b : Fin 2) (k : Fin 3) (i : Fin 20)
    (fw : Vec F S2058x28x8x128 .fp8e4m3) (q : FVec F S256x3584 .fp8e4m3) (sc : Vec F S2x8x128 .f32) (gw : HbBuf0 (F := F) c M3) (f : HbBuf0 (F := F) c M)
    (op : Fin 4 → Nat) (hp) (ow : Fin 2 → Nat) (hw) (o0 o1 o2 : Fin 3 → Nat) (h0 h1 h2)
    (ep : op = ![s.val, b.val, 128 * k.val, 0]) (ew : ow = ![0, 384 * i.val + 128 * k.val + 7680])
    (e0 : o0 = ![0, b.val, 384 * i.val + 128 * k.val]) (e1 : o1 = ![1, b.val, 384 * i.val + 128 * k.val]) (e2 : o2 = ![2, b.val, 384 * i.val + 128 * k.val])
    (K : Prog (TpuEff nD τ sig (Elt F) Λ₀ .tc) PUnit) (Q : PUnit → sProp 𝕄) :
    iprop(pPt c s (Pc (wv fw i) q sc) ∗ hbPt0 c M3 gw ∗ hbPt0 c M f
        ∗ (iprop(pPt c s (Pc (wv fw i) q sc) ∗ hbPt0 c M3 gw
              ∗ ∃ f' : HbBuf0 (F := F) c M, ⌜Sets (BlkAt b (384 * i.val + 128 * k.val)) (csOf fw q sc (M3.view.read (Elt F) gw)) (M.view.read (Elt F) f) (M.view.read (Elt F) f')⌝ ∗ hbPt0 c M f')
            -∗ wp frame (wpE (defs₀ (F := F)) Variants.none (c : Thread nD τ) none) Set.univ K Q))
      ⊢ wp frame (wpE (defs₀ (F := F)) Variants.none (c : Thread nD τ) none) Set.univ (conv scM0_2 M3 M op hp ow hw o0 o1 o2 h0 h1 h2 K) Q := by
  rw [pPt_eq]
  unfold conv
  iintro ⟨Hp, Hg, Hf, HK⟩
  iapply (wp_load Variants.none (c : Thread nD τ) none Set.univ (m := scM0_2) (S := slotBox s) (conv_sub s b k op ep hp)) $$ Hp
  iintro Hp
  iapply (wp_load Variants.none (c : Thread nD τ) none Set.univ (m := M3) (S := Finset.univ) (Finset.subset_univ _)) $$ Hg
  iintro Hg
  iapply (putRow_wp c M 0 b (384 * i.val + 128 * k.val) (csOf fw q sc (M3.view.read (Elt F) gw)) f _
    (fun l y y0 y1 y2 => conv_row M3 gw s b k i 0 fw q sc op ep hp ow ew hw l y y0 y1 y2) o0 h0 e0)
  isplitl [Hf]; · iexact Hf
  iintro ⟨%f1, %t1, Hf⟩
  iapply (putRow_wp c M 1 b (384 * i.val + 128 * k.val) (csOf fw q sc (M3.view.read (Elt F) gw)) f1 _
    (fun l y y0 y1 y2 => conv_row M3 gw s b k i 1 fw q sc op ep hp ow ew hw l y y0 y1 y2) o1 h1 e1)
  isplitl [Hf]; · iexact Hf
  iintro ⟨%f2, %t2, Hf⟩
  iapply (putRow_wp c M 2 b (384 * i.val + 128 * k.val) (csOf fw q sc (M3.view.read (Elt F) gw)) f2 _
    (fun l y y0 y1 y2 => conv_row M3 gw s b k i 2 fw q sc op ep hp ow ew hw l y y0 y1 y2) o2 h2 e2)
  isplitl [Hf]; · iexact Hf
  iintro ⟨%f3, %t3, Hf⟩
  iapply HK
  isplitl [Hp]; · iexact Hp
  isplitl [Hg]; · iexact Hg
  iexists f3
  isplitr; swap; · iexact Hf
  ipureintro
  exact sets_three b _ _ _ _ _ _ t1 t2 t3

end Cert.Project.Hand

end
-- ==== Proof.Project.Same.lean ====
/-
  The printed kernel is the program of named steps.
-/
module

public import proofs.«01_k».proof.Proof.Project.Program

@[expose] public section

set_option maxRecDepth 65536

noncomputable section

namespace Cert.Project.Hand

open Cert.Project Cert.Project.Gen
open Idealize.ShloMosaic Idealize.ShloMosaic.TcCoe
open Idealize.SL.Sem

variable {F : FTy → Type} [FloatOps F]

set_option maxHeartbeats 0 in
/-- A trip with a block to project and one to start. -/
theorem region_full (arg0 : Memref sig .tc .hbm S2058x28x8x128 .fp8e4m3) (harg0 : arg0.IsWhole) (arg1 : Memref sig .tc .vmem S256x3584 .fp8e4m3) (harg1 : arg1.IsWhole)
    (arg2 : Memref sig .tc .vmem S256x128 .f32) (harg2 : arg2.IsWhole) (arg3 : Memref sig .tc .hbm S1x16464 .f32) (harg3 : arg3.IsWhole)
    (arg4 : Memref sig .tc .vmem S2x7680x128 .f32) (harg4 : arg4.IsWhole) (arg5 : Memref sig .tc .vmem S2x7680x128 .f32) (harg5 : arg5.IsWhole)
    (arg6 : Memref sig .tc .hbm S3x2x8704 .f32) (harg6 : arg6.IsWhole) (arg7 : Memref sig .tc .vmem S2x96x29x8x128 .fp8e4m3) (harg7 : arg7.IsWhole)
    (arg8 : Memref sig .tc .vmem S2x8x128 .f32) (harg8 : arg8.IsWhole) (arg9 : Memref sig .tc .vmem S2x2x768x128 .f32) (harg9 : arg9.IsWhole)
    (arg10 : Memref sig .tc .vmem S2x1152x128 .f32) (harg10 : arg10.IsWhole) (arg11 : Memref sig .tc .vmem S1x16464 .f32) (harg11 : arg11.IsWhole) (arg12 : Memref sig .tc .vmem S3x2x8704 .f32) (harg12 : arg12.IsWhole)
    (arg13 : DmaSems sig S_) (arg14 : DmaSems sig S2) (arg15 : DmaSems sig S_) (i : Fin k0_t1_loop.trips)
    (h1 : k0_cond1 i = 1#1) (h2 : k0_cond2 i = 1#1) (h3 : k0_cond3 i = 1#1) :
    region (F := F) arg0 harg0 arg1 harg1 arg2 harg2 arg3 harg3 arg4 harg4 arg5 harg5 arg6 harg6 arg7 harg7 arg8 harg8 arg9 harg9 arg10 harg10 arg11 harg11 arg12 harg12 arg13 arg14 arg15 i = next arg0 harg0 arg1 arg7 harg7 arg8 arg9 arg14 i h1 h2 (convs arg9 arg11 arg12 i (saves arg4 arg5 arg9 i (ahead arg0 harg0 arg7 harg7 arg14 i h3 (.ret ⟨⟩)))) := by
  simp only [region, k0_part56, dif_pos h1, dif_pos h2, dif_pos h3]
  rfl

set_option maxHeartbeats 0 in
/-- A trip with a block to project, all copies started. -/
theorem region_mid (arg0 : Memref sig .tc .hbm S2058x28x8x128 .fp8e4m3) (harg0 : arg0.IsWhole) (arg1 : Memref sig .tc .vmem S256x3584 .fp8e4m3) (harg1 : arg1.IsWhole)
    (arg2 : Memref sig .tc .vmem S256x128 .f32) (harg2 : arg2.IsWhole) (arg3 : Memref sig .tc .hbm S1x16464 .f32) (harg3 : arg3.IsWhole)
    (arg4 : Memref sig .tc .vmem S2x7680x128 .f32) (harg4 : arg4.IsWhole) (arg5 : Memref sig .tc .vmem S2x7680x128 .f32) (harg5 : arg5.IsWhole)
    (arg6 : Memref sig .tc .hbm S3x2x8704 .f32) (harg6 : arg6.IsWhole) (arg7 : Memref sig .tc .vmem S2x96x29x8x128 .fp8e4m3) (harg7 : arg7.IsWhole)
    (arg8 : Memref sig .tc .vmem S2x8x128 .f32) (harg8 : arg8.IsWhole) (arg9 : Memref sig .tc .vmem S2x2x768x128 .f32) (harg9 : arg9.IsWhole)
    (arg10 : Memref sig .tc .vmem S2x1152x128 .f32) (harg10 : arg10.IsWhole) (arg11 : Memref sig .tc .vmem S1x16464 .f32) (harg11 : arg11.IsWhole) (arg12 : Memref sig .tc .vmem S3x2x8704 .f32) (harg12 : arg12.IsWhole)
    (arg13 : DmaSems sig S_) (arg14 : DmaSems sig S2) (arg15 : DmaSems sig S_) (i : Fin k0_t1_loop.trips)
    (h1 : k0_cond1 i = 1#1) (h2 : k0_cond2 i = 1#1) (h3 : ¬ k0_cond3 i = 1#1) :
    region (F := F) arg0 harg0 arg1 harg1 arg2 harg2 arg3 harg3 arg4 harg4 arg5 harg5 arg6 harg6 arg7 harg7 arg8 harg8 arg9 harg9 arg10 harg10 arg11 harg11 arg12 harg12 arg13 arg14 arg15 i = next arg0 harg0 arg1 arg7 harg7 arg8 arg9 arg14 i h1 h2 (convs arg9 arg11 arg12 i (saves arg4 arg5 arg9 i (.ret ⟨⟩))) := by
  simp only [region, k0_part56, dif_pos h1, dif_pos h2, dif_neg h3]
  rfl

set_option maxHeartbeats 0 in
/-- The last trip. -/
theorem region_last (arg0 : Memref sig .tc .hbm S2058x28x8x128 .fp8e4m3) (harg0 : arg0.IsWhole) (arg1 : Memref sig .tc .vmem S256x3584 .fp8e4m3) (harg1 : arg1.IsWhole)
    (arg2 : Memref sig .tc .vmem S256x128 .f32) (harg2 : arg2.IsWhole) (arg3 : Memref sig .tc .hbm S1x16464 .f32) (harg3 : arg3.IsWhole)
    (arg4 : Memref sig .tc .vmem S2x7680x128 .f32) (harg4 : arg4.IsWhole) (arg5 : Memref sig .tc .vmem S2x7680x128 .f32) (harg5 : arg5.IsWhole)
    (arg6 : Memref sig .tc .hbm S3x2x8704 .f32) (harg6 : arg6.IsWhole) (arg7 : Memref sig .tc .vmem S2x96x29x8x128 .fp8e4m3) (harg7 : arg7.IsWhole)
    (arg8 : Memref sig .tc .vmem S2x8x128 .f32) (harg8 : arg8.IsWhole) (arg9 : Memref sig .tc .vmem S2x2x768x128 .f32) (harg9 : arg9.IsWhole)
    (arg10 : Memref sig .tc .vmem S2x1152x128 .f32) (harg10 : arg10.IsWhole) (arg11 : Memref sig .tc .vmem S1x16464 .f32) (harg11 : arg11.IsWhole) (arg12 : Memref sig .tc .vmem S3x2x8704 .f32) (harg12 : arg12.IsWhole)
    (arg13 : DmaSems sig S_) (arg14 : DmaSems sig S2) (arg15 : DmaSems sig S_) (i : Fin k0_t1_loop.trips)
    (h1 : ¬ k0_cond1 i = 1#1) (h2 : ¬ k0_cond2 i = 1#1) (h3 : ¬ k0_cond3 i = 1#1) :
    region (F := F) arg0 harg0 arg1 harg1 arg2 harg2 arg3 harg3 arg4 harg4 arg5 harg5 arg6 harg6 arg7 harg7 arg8 harg8 arg9 harg9 arg10 harg10 arg11 harg11 arg12 harg12 arg13 arg14 arg15 i = convs arg9 arg11 arg12 i (saves arg4 arg5 arg9 i (.ret ⟨⟩)) := by
  simp only [region, k0_part56, dif_neg h1, dif_neg h2, dif_neg h3]
  rfl

set_option maxHeartbeats 0 in
/-- The printed kernel is this program. -/
theorem body_eq (arg0 : Memref sig .tc .hbm S2058x28x8x128 .fp8e4m3) (harg0 : arg0.IsWhole) (arg1 : Memref sig .tc .vmem S256x3584 .fp8e4m3) (harg1 : arg1.IsWhole)
    (arg2 : Memref sig .tc .vmem S256x128 .f32) (harg2 : arg2.IsWhole) (arg3 : Memref sig .tc .hbm S1x16464 .f32) (harg3 : arg3.IsWhole)
    (arg4 : Memref sig .tc .vmem S2x7680x128 .f32) (harg4 : arg4.IsWhole) (arg5 : Memref sig .tc .vmem S2x7680x128 .f32) (harg5 : arg5.IsWhole)
    (arg6 : Memref sig .tc .hbm S3x2x8704 .f32) (harg6 : arg6.IsWhole) (arg7 : Memref sig .tc .vmem S2x96x29x8x128 .fp8e4m3) (harg7 : arg7.IsWhole)
    (arg8 : Memref sig .tc .vmem S2x8x128 .f32) (harg8 : arg8.IsWhole) (arg9 : Memref sig .tc .vmem S2x2x768x128 .f32) (harg9 : arg9.IsWhole)
    (arg10 : Memref sig .tc .vmem S2x1152x128 .f32) (harg10 : arg10.IsWhole) (arg11 : Memref sig .tc .vmem S1x16464 .f32) (harg11 : arg11.IsWhole) (arg12 : Memref sig .tc .vmem S3x2x8704 .f32) (harg12 : arg12.IsWhole)
    (arg13 : DmaSems sig S_) (arg14 : DmaSems sig S2) (arg15 : DmaSems sig S_) :
    cc0_mamba2_layer (F := F) arg0 harg0 arg1 harg1 arg2 harg2 arg3 harg3 arg4 harg4 arg5 harg5 arg6 harg6 arg7 harg7 arg8 harg8 arg9 harg9 arg10 harg10 arg11 harg11 arg12 harg12 arg13 arg14 arg15 = body arg0 harg0 arg1 harg1 arg2 harg2 arg3 harg3 arg4 harg4 arg5 harg5 arg6 harg6 arg7 harg7 arg8 harg8 arg9 harg9 arg10 harg10 arg11 harg11 arg12 harg12 arg13 arg14 arg15 := by
  rfl

end Cert.Project.Hand

end
-- ==== Proof.Project.Loop.lean ====
/-
  The loop over the twenty blocks, one trip at a symbolic index. Trip `k` waits for block `k + 1`'s copies and projects
  the block, saves block `k`'s projection, and starts block `k + 3`'s copies into the slot just read.
-/
module

public import proofs.«01_k».proof.Proof.Project.Conv
public import proofs.«01_k».proof.Proof.Project.Same

@[expose] public section

set_option maxRecDepth 16384

noncomputable section

namespace Cert.Project.Hand

open Cert.Project Cert.Project.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Where a trip reads and writes -/

/-- The slot of block `n`. -/
def sl (n : Nat) : Fin 2 := ⟨n % 2, Nat.mod_lt _ (by decide)⟩
theorem sl_two (n : Nat) : sl (n + 2) = sl n := Fin.ext (by show (n + 2) % 2 = n % 2; omega)

theorem cond1_iff : ∀ i : Fin k0_t1_loop.trips, k0_cond1 i = 1#1 ↔ i.val + 1 < 20 := by decide +kernel
theorem cond2_iff : ∀ i : Fin k0_t1_loop.trips, k0_cond2 i = 1#1 ↔ i.val + 1 < 20 := by decide +kernel
theorem cond3_iff : ∀ i : Fin k0_t1_loop.trips, k0_cond3 i = 1#1 ↔ i.val + 3 < 20 := by decide +kernel
theorem off1_sl : ∀ i : Fin k0_t1_loop.trips, k0_off1 i = ![(sl (i.val + 1)).val] := by decide +kernel
theorem off5_sl : ∀ i : Fin k0_t1_loop.trips, k0_off5 i = ![(sl (i.val + 1)).val, 0, 0, 0, 0] := by decide +kernel
theorem off6_sl : ∀ i : Fin k0_t1_loop.trips, k0_off6 i = ![(sl (i.val + 1)).val, 0, 0, 0] := by decide +kernel
theorem off20_sl : ∀ i : Fin k0_t1_loop.trips, k0_off20 i = ![(sl i.val).val, 0, 384 * (0 : Fin 2).val, 0] := by decide +kernel
theorem off22_sl : ∀ i : Fin k0_t1_loop.trips, k0_off22 i = ![(sl i.val).val, 0, 384 * (1 : Fin 2).val, 0] := by decide +kernel
theorem off7_sl : ∀ i : Fin k0_t1_loop.trips, k0_off7 i = ![(sl i.val).val, (0 : Fin 2).val, 128 * (0 : Fin 3).val, 0] := by decide +kernel
theorem off12_sl : ∀ i : Fin k0_t1_loop.trips, k0_off12 i = ![(sl i.val).val, (0 : Fin 2).val, 128 * (1 : Fin 3).val, 0] := by decide +kernel
theorem off13_sl : ∀ i : Fin k0_t1_loop.trips, k0_off13 i = ![(sl i.val).val, (0 : Fin 2).val, 128 * (2 : Fin 3).val, 0] := by decide +kernel
theorem off14_sl : ∀ i : Fin k0_t1_loop.trips, k0_off14 i = ![(sl i.val).val, (1 : Fin 2).val, 128 * (0 : Fin 3).val, 0] := by decide +kernel
theorem off18_sl : ∀ i : Fin k0_t1_loop.trips, k0_off18 i = ![(sl i.val).val, (1 : Fin 2).val, 128 * (1 : Fin 3).val, 0] := by decide +kernel
theorem off19_sl : ∀ i : Fin k0_t1_loop.trips, k0_off19 i = ![(sl i.val).val, (1 : Fin 2).val, 128 * (2 : Fin 3).val, 0] := by decide +kernel
theorem off23_sl : ∀ i : Fin k0_t1_loop.trips, k0_off23 i = ![(sl (i.val + 1)).val] := by decide +kernel
theorem off24_sl : ∀ i : Fin k0_t1_loop.trips, k0_off24 i = ![(sl (i.val + 1)).val, 48 * (0 : Fin 2).val, 0, 0, 0] := by decide +kernel
theorem off26_sl : ∀ i : Fin k0_t1_loop.trips, k0_off26 i = ![(sl (i.val + 1)).val, 48 * (1 : Fin 2).val, 0, 0, 0] := by decide +kernel
theorem off25_x (i : Fin k0_t1_loop.trips) (h : i.val + 3 < 20) : k0_off25 i 960#32 = ![48 * (blk 0 ⟨i.val + 3, h⟩).val, 0, 0, 0] := by
  refine (k0_off25_eq i 1).trans (congrArg (![·, 0, 0, 0]) ?_)
  show 960 * 1 + 48 * i.val + 144 = 48 * (blk 0 ⟨i.val + 3, h⟩).val
  simp [blk]; omega
theorem off25_z (i : Fin k0_t1_loop.trips) (h : i.val + 3 < 20) : k0_off25 i 0#32 = ![48 * (blk 1 ⟨i.val + 3, h⟩).val, 0, 0, 0] := by
  refine (k0_off25_eq i 0).trans (congrArg (![·, 0, 0, 0]) ?_)
  show 960 * 0 + 48 * i.val + 144 = 48 * (blk 1 ⟨i.val + 3, h⟩).val
  simp [blk]; omega

/-! ## The invariant -/

/-- A slot with block `j`'s copies under way, if there is such a block; at rest otherwise. -/
def Fly (c : Dev nD) (fw : HbBuf0 (F := F) c hbM0_0) (s : Fin 2) (j : Nat) : sProp 𝕄 :=
  if h : j < 20 then InFl c s ⟨j, h⟩ fw else Home c s fw
theorem fly_of {c : Dev nD} {fw : HbBuf0 (F := F) c hbM0_0} {s : Fin 2} {j : Nat} (h : j < 20) : Fly c fw s j = InFl c s ⟨j, h⟩ fw := dif_pos h
theorem fly_home {c : Dev nD} {fw : HbBuf0 (F := F) c hbM0_0} {s : Fin 2} {j : Nat} (h : ¬ j < 20) : Fly c fw s j = Home c s fw := dif_neg h

/-- Block `j`'s projection held in its slot, if there is such a block. -/
def Held (c : Dev nD) (fw : HbBuf0 (F := F) c hbM0_0) (q : FVec F S256x3584 .fp8e4m3) (sc : Vec F S2x8x128 .f32) (j : Nat) : sProp 𝕄 :=
  if h : j < 20 then pPt c (sl j) (Pc (wv fw ⟨j, h⟩) q sc) else iprop(∃ f, pPt (F := F) c (sl j) f)
theorem held_of {c : Dev nD} {fw : HbBuf0 (F := F) c hbM0_0} {q : FVec F S256x3584 .fp8e4m3} {sc : Vec F S2x8x128 .f32} {j : Nat} (h : j < 20) :
    Held c fw q sc j = pPt c (sl j) (Pc (wv fw ⟨j, h⟩) q sc) := dif_pos h
theorem held_some {c : Dev nD} {fw : HbBuf0 (F := F) c hbM0_0} {q : FVec F S256x3584 .fp8e4m3} {sc : Vec F S2x8x128 .f32} {j : Nat} (h : ¬ j < 20) :
    Held c fw q sc j = iprop(∃ f, pPt (F := F) c (sl j) f) := dif_neg h

/-- A result's buffer with the rows before `384 k` done. -/
def DoneTo (c : Dev nD) (out : Memref sig .tc .vmem S2x7680x128 .f32) (fw : HbBuf0 (F := F) c hbM0_0) (q : FVec F S256x3584 .fp8e4m3) (sc : Vec F S2x8x128 .f32)
    (h : Fin 2) (k : Nat) : sProp 𝕄 :=
  iprop(∃ fo : HbBuf0 (F := F) c out, ⌜Done out (outOf fw q sc h) k fo⌝ ∗ hbPt0 c out fo)

/-- The kept times done for the channels before `384 k`. -/
def KeptTo (c : Dev nD) (M3 : Memref sig .tc .vmem S1x16464 .f32) (M : Memref sig .tc .vmem S3x2x8704 .f32) (fw : HbBuf0 (F := F) c hbM0_0) (q : FVec F S256x3584 .fp8e4m3)
    (sc : Vec F S2x8x128 .f32) (gw : HbBuf0 (F := F) c M3) (k : Nat) : sProp 𝕄 :=
  iprop(∃ f : HbBuf0 (F := F) c M, ⌜Kept (csOf fw q sc (M3.view.read (Elt F) gw)) k (M.view.read (Elt F) f)⌝ ∗ hbPt0 c M f)

/-- Before trip `k`: blocks `k + 1` and `k + 2` under way, block `k`'s projection held and the other slot free, the
    operands at their contents, both results done before row `384 k`, the kept times before channel `384 k`. -/
def inv (c : Dev nD) (arg1 : Memref sig .tc .vmem S256x3584 .fp8e4m3) (arg3 arg4 : Memref sig .tc .vmem S2x7680x128 .f32)
    (fw : HbBuf0 (F := F) c hbM0_0) (fq : HbBuf0 (F := F) c arg1) (sc : HbBuf0 (F := F) c scM0_1) (gw : HbBuf0 (F := F) c scM0_4) (k : Nat) : sProp 𝕄 :=
  iprop(Fly c fw (sl (k + 1)) (k + 1) ∗ Fly c fw (sl k) (k + 2) ∗ Held c fw (arg1.view.read (Elt F) fq) sc k ∗ (∃ f, pPt (F := F) c (sl (k + 1)) f)
    ∗ hbPt0 c arg1 fq ∗ hbPt0 c scM0_1 sc ∗ DoneTo c arg3 fw (arg1.view.read (Elt F) fq) sc 0 k ∗ DoneTo c arg4 fw (arg1.view.read (Elt F) fq) sc 1 k
    ∗ hbPt0 c scM0_4 gw ∗ KeptTo c scM0_4 scM0_5 fw (arg1.view.read (Elt F) fq) sc gw k ∗ ∃ W, owes (c : Thread nD τ) 0 W)

/-! ## A trip's steps -/

section Steps
variable (c : Dev nD) (arg1 : Memref sig .tc .vmem S256x3584 .fp8e4m3) (harg1 : arg1.IsWhole) (arg2 : Memref sig .tc .vmem S256x128 .f32) (harg2 : arg2.IsWhole)
  (arg3 : Memref sig .tc .vmem S2x7680x128 .f32) (harg3 : arg3.IsWhole) (arg4 : Memref sig .tc .vmem S2x7680x128 .f32) (harg4 : arg4.IsWhole)
  (fw : HbBuf0 (F := F) c hbM0_0) (fq : HbBuf0 (F := F) c arg1) (sc : HbBuf0 (F := F) c scM0_1) (gw : HbBuf0 (F := F) c scM0_4) (i : Fin k0_t1_loop.trips)

/-- The next block waited for and projected into its slot. -/
theorem next_wp (h1 : k0_cond1 i = 1#1) (h2 : k0_cond2 i = 1#1) (hi : i.val + 1 < 20)
    (K : Prog (TpuEff nD τ sig (Elt F) Λ₀ .tc) PUnit) (Q : PUnit → sProp 𝕄) :
    iprop(InFl c (sl (i.val + 1)) ⟨i.val + 1, hi⟩ fw ∗ (∃ W, owes (c : Thread nD τ) 0 W) ∗ hbPt0 c arg1 fq ∗ hbPt0 c scM0_1 sc ∗ (∃ f, pPt (F := F) c (sl (i.val + 1)) f)
        ∗ (iprop(Home c (sl (i.val + 1)) fw ∗ (∃ W, owes (c : Thread nD τ) 0 W) ∗ hbPt0 c arg1 fq ∗ hbPt0 c scM0_1 sc
              ∗ pPt c (sl (i.val + 1)) (Pc (wv fw ⟨i.val + 1, hi⟩) (arg1.view.read (Elt F) fq) sc))
            -∗ wp frame (wpE (defs₀ (F := F)) Variants.none (c : Thread nD τ) none) Set.univ K Q))
      ⊢ wp frame (wpE (defs₀ (F := F)) Variants.none (c : Thread nD τ) none) Set.univ
          (next hbM0_0 (Memref.isWhole_whole _) arg1 scM0_0 (Memref.isWhole_whole _) scM0_1 scM0_2 cc0_scratch7 i h1 h2 K) Q := by
  unfold next
  iintro ⟨HI, ⟨%W, HO⟩, Hq, Hs, Hp, HK⟩
  iapply (wait_wp c (sl (i.val + 1)) ⟨i.val + 1, hi⟩ fw W (eos := off1_sl i))
  isplitl [HI]; · iexact HI
  isplitl [HO]; · iexact HO
  iintro ⟨HA, HO⟩
  iapply (project_wp c arg1 (sl (i.val + 1)) (sl (i.val + 1)) ⟨i.val + 1, hi⟩ fw fq sc (eop := off6_sl i) (eo := off5_sl i))
  isplitl [HA]; · iexact HA
  isplitl [Hq]; · iexact Hq
  isplitl [Hs]; · iexact Hs
  isplitl [Hp]; · iexact Hp
  iintro ⟨HA, Hq, Hs, Hp⟩
  iapply HK
  isplitl [HA]; · iapply (home_of_atRest c _ _ fw); iexact HA
  isplitl [HO]; · iexact HO
  isplitl [Hq]; · iexact Hq
  isplitl [Hs]; · iexact Hs
  iexact Hp

/-- The finished block's last three times kept. -/
theorem convs_wp (hi : i.val < 20)
    (K : Prog (TpuEff nD τ sig (Elt F) Λ₀ .tc) PUnit) (Q : PUnit → sProp 𝕄) :
    iprop(pPt c (sl i.val) (Pc (wv fw ⟨i.val, hi⟩) (arg1.view.read (Elt F) fq) sc) ∗ hbPt0 c scM0_4 gw
        ∗ KeptTo c scM0_4 scM0_5 fw (arg1.view.read (Elt F) fq) sc gw i.val
        ∗ (iprop(pPt c (sl i.val) (Pc (wv fw ⟨i.val, hi⟩) (arg1.view.read (Elt F) fq) sc) ∗ hbPt0 c scM0_4 gw
              ∗ KeptTo c scM0_4 scM0_5 fw (arg1.view.read (Elt F) fq) sc gw (i.val + 1))
            -∗ wp frame (wpE (defs₀ (F := F)) Variants.none (c : Thread nD τ) none) Set.univ K Q))
      ⊢ wp frame (wpE (defs₀ (F := F)) Variants.none (c : Thread nD τ) none) Set.univ (convs scM0_2 scM0_4 scM0_5 i K) Q := by
  unfold convs KeptTo
  iintro ⟨Hp, Hg, ⟨%f, %d, Hf⟩, HK⟩
  iapply (conv_wp c scM0_4 scM0_5 (sl i.val) 0 0 ⟨i.val, hi⟩ fw (arg1.view.read (Elt F) fq) sc gw f _ _ _ _ _ _ _ _ _ _ (off7_sl i)
    (k0_off8_eq i 0) (k0_off9_eq i 0) (k0_off10_eq i 0) (k0_off11_eq i 0))
  isplitl [Hp]; · iexact Hp
  isplitl [Hg]; · iexact Hg
  isplitl [Hf]; · iexact Hf
  iintro ⟨Hp, Hg, ⟨%f0, %t0, Hf⟩⟩
  iapply (conv_wp c scM0_4 scM0_5 (sl i.val) 0 1 ⟨i.val, hi⟩ fw (arg1.view.read (Elt F) fq) sc gw f0 _ _ _ _ _ _ _ _ _ _ (off12_sl i)
    (k0_off8_eq i 1) (k0_off9_eq i 1) (k0_off10_eq i 1) (k0_off11_eq i 1))
  isplitl [Hp]; · iexact Hp
  isplitl [Hg]; · iexact Hg
  isplitl [Hf]; · iexact Hf
  iintro ⟨Hp, Hg, ⟨%f1, %t1, Hf⟩⟩
  iapply (conv_wp c scM0_4 scM0_5 (sl i.val) 0 2 ⟨i.val, hi⟩ fw (arg1.view.read (Elt F) fq) sc gw f1 _ _ _ _ _ _ _ _ _ _ (off13_sl i)
    (k0_off8_eq i 2) (k0_off9_eq i 2) (k0_off10_eq i 2) (k0_off11_eq i 2))
  isplitl [Hp]; · iexact Hp
  isplitl [Hg]; · iexact Hg
  isplitl [Hf]; · iexact Hf
  iintro ⟨Hp, Hg, ⟨%f2, %t2, Hf⟩⟩
  iapply (conv_wp c scM0_4 scM0_5 (sl i.val) 1 0 ⟨i.val, hi⟩ fw (arg1.view.read (Elt F) fq) sc gw f2 _ _ _ _ _ _ _ _ _ _ (off14_sl i)
    (k0_off8_eq i 0) (k0_off15_eq i 0) (k0_off16_eq i 0) (k0_off17_eq i 0))
  isplitl [Hp]; · iexact Hp
  isplitl [Hg]; · iexact Hg
  isplitl [Hf]; · iexact Hf
  iintro ⟨Hp, Hg, ⟨%f3, %t3, Hf⟩⟩
  iapply (conv_wp c scM0_4 scM0_5 (sl i.val) 1 1 ⟨i.val, hi⟩ fw (arg1.view.read (Elt F) fq) sc gw f3 _ _ _ _ _ _ _ _ _ _ (off18_sl i)
    (k0_off8_eq i 1) (k0_off15_eq i 1) (k0_off16_eq i 1) (k0_off17_eq i 1))
  isplitl [Hp]; · iexact Hp
  isplitl [Hg]; · iexact Hg
  isplitl [Hf]; · iexact Hf
  iintro ⟨Hp, Hg, ⟨%f4, %t4, Hf⟩⟩
  iapply (conv_wp c scM0_4 scM0_5 (sl i.val) 1 2 ⟨i.val, hi⟩ fw (arg1.view.read (Elt F) fq) sc gw f4 _ _ _ _ _ _ _ _ _ _ (off19_sl i)
    (k0_off8_eq i 2) (k0_off15_eq i 2) (k0_off16_eq i 2) (k0_off17_eq i 2))
  isplitl [Hp]; · iexact Hp
  isplitl [Hg]; · iexact Hg
  isplitl [Hf]; · iexact Hf
  iintro ⟨Hp, Hg, ⟨%f5, %t5, Hf⟩⟩
  iapply HK
  isplitl [Hp]; · iexact Hp
  isplitl [Hg]; · iexact Hg
  iexists f5
  isplitr; swap; · iexact Hf
  ipureintro
  exact kept_six i.val _ _ _ _ _ _ _ _ t0 t1 t2 t3 t4 t5 d

/-- The finished block saved to both results. -/
theorem saves_wp (hi : i.val < 20)
    (K : Prog (TpuEff nD τ sig (Elt F) Λ₀ .tc) PUnit) (Q : PUnit → sProp 𝕄) :
    iprop(pPt c (sl i.val) (Pc (wv fw ⟨i.val, hi⟩) (arg1.view.read (Elt F) fq) sc)
        ∗ DoneTo c arg3 fw (arg1.view.read (Elt F) fq) sc 0 i.val ∗ DoneTo c arg4 fw (arg1.view.read (Elt F) fq) sc 1 i.val
        ∗ (iprop(pPt c (sl i.val) (Pc (wv fw ⟨i.val, hi⟩) (arg1.view.read (Elt F) fq) sc)
              ∗ DoneTo c arg3 fw (arg1.view.read (Elt F) fq) sc 0 (i.val + 1) ∗ DoneTo c arg4 fw (arg1.view.read (Elt F) fq) sc 1 (i.val + 1))
            -∗ wp frame (wpE (defs₀ (F := F)) Variants.none (c : Thread nD τ) none) Set.univ K Q))
      ⊢ wp frame (wpE (defs₀ (F := F)) Variants.none (c : Thread nD τ) none) Set.univ
          (saves arg3 arg4 scM0_2 i K) Q := by
  unfold saves DoneTo
  iintro ⟨Hp, ⟨%f3, %d3, H3⟩, ⟨%f4, %d4, H4⟩, HK⟩
  iapply (save_wp c arg3 (sl i.val) 0 ⟨i.val, hi⟩ fw (arg1.view.read (Elt F) fq) sc f3 d3 (eo := off20_sl i) (ed := k0_off21_eq i))
  isplitl [Hp]; · iexact Hp
  isplitl [H3]; · iexact H3
  iintro ⟨Hp, H3⟩
  iapply (save_wp c arg4 (sl i.val) 1 ⟨i.val, hi⟩ fw (arg1.view.read (Elt F) fq) sc f4 d4 (eo := off22_sl i) (ed := k0_off21_eq i))
  isplitl [Hp]; · iexact Hp
  isplitl [H4]; · iexact H4
  iintro ⟨Hp, H4⟩
  iapply HK
  isplitl [Hp]; · iexact Hp
  isplitl [H3]; · iexact H3
  iexact H4

/-- A further block's copies started. -/
theorem ahead_wp (h3 : k0_cond3 i = 1#1) (hi : i.val + 3 < 20)
    (K : Prog (TpuEff nD τ sig (Elt F) Λ₀ .tc) PUnit) (Q : PUnit → sProp 𝕄) :
    iprop(Home c (sl (i.val + 1)) fw ∗ (InFl c (sl (i.val + 1)) ⟨i.val + 3, hi⟩ fw
            -∗ wp frame (wpE (defs₀ (F := F)) Variants.none (c : Thread nD τ) none) Set.univ K Q))
      ⊢ wp frame (wpE (defs₀ (F := F)) Variants.none (c : Thread nD τ) none) Set.univ
          (ahead hbM0_0 (Memref.isWhole_whole _) scM0_0 (Memref.isWhole_whole _) cc0_scratch7 i h3 K) Q := by
  unfold ahead
  exact start_wp c (sl (i.val + 1)) ⟨i.val + 3, hi⟩ fw _ _ _ _ _ _ _ _ _ _ _ _ _ _ (off23_sl i) (off25_x i hi) (off25_z i hi) (off24_sl i) (off26_sl i) K Q

/-- One trip. -/
theorem trip : inv c arg1 arg3 arg4 fw fq sc gw i.val
      ⊢ wp frame (wpE (defs₀ (F := F)) Variants.none (c : Thread nD τ) none) Set.univ
          (region hbM0_0 (Memref.isWhole_whole _) arg1 harg1 arg2 harg2 hbM0_1 (Memref.isWhole_whole _) arg3 harg3 arg4 harg4 hbM0_2 (Memref.isWhole_whole _)
            scM0_0 (Memref.isWhole_whole _) scM0_1 (Memref.isWhole_whole _) scM0_2 (Memref.isWhole_whole _) scM0_3 (Memref.isWhole_whole _) scM0_4 (Memref.isWhole_whole _) scM0_5 (Memref.isWhole_whole _)
            cc0_scratch6 cc0_scratch7 cc0_scratch8 i) (fun _ => inv c arg1 arg3 arg4 fw fq sc gw (i.val + 1)) := by
  have hi : i.val < 20 := i.isLt
  unfold inv
  rw [held_of hi, show sl (i.val + 1 + 1) = sl i.val from sl_two _]
  by_cases h1 : i.val + 1 < 20
  · rw [fly_of h1, held_of h1]
    by_cases h3 : i.val + 3 < 20
    · rw [region_full _ _ _ _ _ _ _ _ _ _ _ _ _ _ _ _ _ _ _ _ _ _ _ _ _ _ _ _ _ i ((cond1_iff i).mpr h1) ((cond2_iff i).mpr h1) ((cond3_iff i).mpr h3),
        fly_of (j := i.val + 1 + 2) h3]
      iintro ⟨HI, HF, Hh, Hp, Hq, Hs, H3, H4, Hg, HC, HO⟩
      iapply (next_wp c arg1 fw fq sc i _ _ h1)
      isplitl [HI]; · iexact HI
      isplitl [HO]; · iexact HO
      isplitl [Hq]; · iexact Hq
      isplitl [Hs]; · iexact Hs
      isplitl [Hp]; · iexact Hp
      iintro ⟨HH, HO, Hq, Hs, Hp⟩
      iapply (convs_wp c arg1 fw fq sc gw i hi)
      isplitl [Hh]; · iexact Hh
      isplitl [Hg]; · iexact Hg
      isplitl [HC]; · iexact HC
      iintro ⟨Hh, Hg, HC⟩
      iapply (saves_wp c arg1 arg3 arg4 fw fq sc i hi)
      isplitl [Hh]; · iexact Hh
      isplitl [H3]; · iexact H3
      isplitl [H4]; · iexact H4
      iintro ⟨Hh, H3, H4⟩
      iapply (ahead_wp c fw i _ h3)
      isplitl [HH]; · iexact HH
      iintro HI
      sl_step
      isplitl [HF]; · iexact HF
      isplitl [HI]; · iexact HI
      isplitl [Hp]; · iexact Hp
      isplitl [Hh]; · iexists _; iexact Hh
      isplitl [Hq]; · iexact Hq
      isplitl [Hs]; · iexact Hs
      isplitl [H3]; · iexact H3
      isplitl [H4]; · iexact H4
      isplitl [Hg]; · iexact Hg
      isplitl [HC]; · iexact HC
      iexact HO
    · rw [region_mid _ _ _ _ _ _ _ _ _ _ _ _ _ _ _ _ _ _ _ _ _ _ _ _ _ _ _ _ _ i ((cond1_iff i).mpr h1) ((cond2_iff i).mpr h1) (fun h => h3 ((cond3_iff i).mp h)),
        fly_home (j := i.val + 1 + 2) h3]
      iintro ⟨HI, HF, Hh, Hp, Hq, Hs, H3, H4, Hg, HC, HO⟩
      iapply (next_wp c arg1 fw fq sc i _ _ h1)
      isplitl [HI]; · iexact HI
      isplitl [HO]; · iexact HO
      isplitl [Hq]; · iexact Hq
      isplitl [Hs]; · iexact Hs
      isplitl [Hp]; · iexact Hp
      iintro ⟨HH, HO, Hq, Hs, Hp⟩
      iapply (convs_wp c arg1 fw fq sc gw i hi)
      isplitl [Hh]; · iexact Hh
      isplitl [Hg]; · iexact Hg
      isplitl [HC]; · iexact HC
      iintro ⟨Hh, Hg, HC⟩
      iapply (saves_wp c arg1 arg3 arg4 fw fq sc i hi)
      isplitl [Hh]; · iexact Hh
      isplitl [H3]; · iexact H3
      isplitl [H4]; · iexact H4
      iintro ⟨Hh, H3, H4⟩
      sl_step
      isplitl [HF]; · iexact HF
      isplitl [HH]; · iexact HH
      isplitl [Hp]; · iexact Hp
      isplitl [Hh]; · iexists _; iexact Hh
      isplitl [Hq]; · iexact Hq
      isplitl [Hs]; · iexact Hs
      isplitl [H3]; · iexact H3
      isplitl [H4]; · iexact H4
      isplitl [Hg]; · iexact Hg
      isplitl [HC]; · iexact HC
      iexact HO
  · have h2 : ¬ i.val + 2 < 20 := by omega
    have h3 : ¬ i.val + 1 + 2 < 20 := by omega
    rw [region_last _ _ _ _ _ _ _ _ _ _ _ _ _ _ _ _ _ _ _ _ _ _ _ _ _ _ _ _ _ i (fun h => h1 ((cond1_iff i).mp h)) (fun h => h1 ((cond2_iff i).mp h)) (fun h => h3 ((cond3_iff i).mp h)),
      fly_home h1, fly_home h2, fly_home h3, held_some h1]
    iintro ⟨HI, HF, Hh, Hp, Hq, Hs, H3, H4, Hg, HC, HO⟩
    iapply (convs_wp c arg1 fw fq sc gw i hi)
    isplitl [Hh]; · iexact Hh
    isplitl [Hg]; · iexact Hg
    isplitl [HC]; · iexact HC
    iintro ⟨Hh, Hg, HC⟩
    iapply (saves_wp c arg1 arg3 arg4 fw fq sc i hi)
    isplitl [Hh]; · iexact Hh
    isplitl [H3]; · iexact H3
    isplitl [H4]; · iexact H4
    iintro ⟨Hh, H3, H4⟩
    sl_step
    isplitl [HF]; · iexact HF
    isplitl [HI]; · iexact HI
    isplitl [Hp]; · iexact Hp
    isplitl [Hh]; · iexists _; iexact Hh
    isplitl [Hq]; · iexact Hq
    isplitl [Hs]; · iexact Hs
    isplitl [H3]; · iexact H3
    isplitl [H4]; · iexact H4
    isplitl [Hg]; · iexact Hg
    isplitl [HC]; · iexact HC
    iexact HO

end Steps

end Cert.Project.Hand

end
-- ==== Proof.Project.ConvB.lean ====
/-
  The last three times of the channels of B, C and dt, kept: as for a finished block, from the buffer that holds them.
-/
module

public import proofs.«01_k».proof.Proof.Project.Conv

@[expose] public section

set_option maxRecDepth 65536

noncomputable section

namespace Cert.Project.Hand

open Cert.Project Cert.Project.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx

variable {F : FTy → Type} [FloatOps F]

local notation "𝕄" => MT nD τ sig Unit (Elt F) ℕ (Pipeline.UD sig nD τ) ℕ

theorem convPieceB_apply (p : Vec F S1x128x128 .f32) (w : Vec F S1x128 .f32) (t l : Fin 128) :
    convPieceB p w (ix2 t l) = FloatOps.mulf (p (ix3 0 l t)) (w (ix2 0 l)) := by
  have e1 : transpose S128x128 [1, 0] (shapeCast S128x128 p shapeCasts_S1x128x128_S128x128) transposes_S128x128_p1_0_S128x128 (ix2 t l) = p (ix3 0 l t) := by
    rw [transpose_apply _ _ _ _ (ix2 l t) (fun b => by
      match b with
      | ⟨0, _⟩ => rfl
      | ⟨1, _⟩ => rfl)]
    exact shapeCast_apply _ _ _ _ (by
      rw [Shape.rowMajor_val_three, Shape.rowMajor_val_two]
      show (0 * 128 + l.val) * 128 + t.val = l.val * 128 + t.val
      omega)
  have e2 : broadcastTo S128x128 w broadcasts_S1x128_S128x128 (ix2 t l) = w (ix2 0 l) := by
    refine congrArg w (funext fun a => ?_)
    match a with
    | ⟨0, _⟩ => rfl
    | ⟨1, _⟩ => rfl
  exact congrArg₂ (fun a b => FloatOps.mulf a b) e1 e2

theorem convRowB_apply (j : Fin 3) (p : Vec F S1x128x128 .f32) (w : Vec F S1x128 .f32) (l : Fin 128) :
    convRowB j p w (ix3 0 0 l) = FloatOps.mulf (p (ix3 0 l ⟨125 + j.val, by have := j.isLt; omega⟩)) (w (ix2 0 l)) := by
  unfold convRowB
  refine (shapeCast_addUnit_apply _ _ _ _).trans (Eq.trans ?_ (convPieceB_apply p w _ l))
  refine extractStridedSlice_apply _ _ _ _ _ fun a => ?_
  match a with
  | ⟨0, _⟩ => rfl
  | ⟨1, _⟩ => exact (show l.val = 0 + l.val by omega)

/-- The kept row, element by element. -/
theorem convB_row (M2 : Memref sig .tc .vmem S2x1152x128 .f32) (gb : M2.view.ty.Contents (Elt F)) (M3 : Memref sig .tc .vmem S1x16464 .f32) (gw : M3.view.ty.Contents (Elt F)) (b : Fin 2) (k : Nat) (hk : k < 8) (j : Fin 3)
    (fw : Vec F S2058x28x8x128 .fp8e4m3) (q : FVec F S256x3584 .fp8e4m3) (sc : Vec F S2x8x128 .f32)
    (hb : M2.view.read (Elt F) gb = Bc fw q sc) (inb) (inbw)
    (l : Fin 128) (y : S3x2x8704.Idx) (y0 : (y 0).val = j.val) (y1 : (y 1).val = b.val) (y2 : (y 2).val = 7680 + 128 * k + l.val) :
    convRowB j (View.readAt (Elt F) M2.view (Rect.unit (s := S2x1152x128) ![b.val, 128 * k, 0] S1x128x128.size inb).toLoadRect gb)
        (View.readAt (Elt F) M3.view (Rect.unit (s := S1x16464) ![0, 15360 + 128 * k] S1x128.size inbw).toLoadRect gw) (ix3 0 0 l)
      = csOf fw q sc (M3.view.read (Elt F) gw) y := by
  have hl := l.isLt
  have hj := j.isLt
  have hy : ¬ (y 2).val < 7680 := by omega
  rw [convRowB_apply]
  unfold csOf
  rw [dif_neg hy, ← hb]
  refine congrArg₂ (fun a b => FloatOps.mulf a b) ?_ ?_
  · show M2.view.read (Elt F) gb _ = M2.view.read (Elt F) gb _
    refine congrArg _ (funext fun a => ?_)
    match a with
    | ⟨0, _⟩ => exact Fin.ext (by show b.val + 1 * 0 = (y 1).val; omega)
    | ⟨1, _⟩ => exact Fin.ext (by show 128 * k + 1 * l.val = (y 2).val - 7680; omega)
    | ⟨2, _⟩ => exact Fin.ext (by show 0 + 1 * (125 + j.val) = 125 + (y 0).val; omega)
  · show M3.view.read (Elt F) gw _ = M3.view.read (Elt F) gw _
    refine congrArg _ (funext fun a => ?_)
    match a with
    | ⟨0, _⟩ => rfl
    | ⟨1, _⟩ => exact Fin.ext (by show 15360 + 128 * k + 1 * l.val = 7680 + (y 2).val; omega)

/-- One block of them kept. -/
theorem convB_wp (c : Dev nD) (M2 : Memref sig .tc .vmem S2x1152x128 .f32) (M3 : Memref sig .tc .vmem S1x16464 .f32) (M : Memref sig .tc .vmem S3x2x8704 .f32) (b : Fin 2) (k : Nat) (hk : k < 8)
    (fw : Vec F S2058x28x8x128 .fp8e4m3) (q : FVec F S256x3584 .fp8e4m3) (sc : Vec F S2x8x128 .f32) (gb : HbBuf0 (F := F) c M2) (gw : HbBuf0 (F := F) c M3) (f : HbBuf0 (F := F) c M)
    (hb : M2.view.read (Elt F) gb = Bc fw q sc)
    (K : Prog (TpuEff nD τ sig (Elt F) Λ₀ .tc) PUnit) (Q : PUnit → sProp 𝕄) :
    iprop(hbPt0 c M2 gb ∗ hbPt0 c M3 gw ∗ hbPt0 c M f
        ∗ (iprop(hbPt0 c M2 gb ∗ hbPt0 c M3 gw
              ∗ ∃ f' : HbBuf0 (F := F) c M, ⌜Sets (BlkAt b (7680 + 128 * k)) (csOf fw q sc (M3.view.read (Elt F) gw)) (M.view.read (Elt F) f) (M.view.read (Elt F) f')⌝ ∗ hbPt0 c M f')
            -∗ wp frame (wpE (defs₀ (F := F)) Variants.none (c : Thread nD τ) none) Set.univ K Q))
      ⊢ wp frame (wpE (defs₀ (F := F)) Variants.none (c : Thread nD τ) none) Set.univ (convB M2 M3 M b k hk K) Q := by
  unfold convB
  iintro ⟨Hp, Hg, Hf, HK⟩
  iapply (wp_load Variants.none (c : Thread nD τ) none Set.univ (m := M2) (S := Finset.univ) (Finset.subset_univ _)) $$ Hp
  iintro Hp
  iapply (wp_load Variants.none (c : Thread nD τ) none Set.univ (m := M3) (S := Finset.univ) (Finset.subset_univ _)) $$ Hg
  iintro Hg
  iapply (putRow_wp c M 0 b (7680 + 128 * k) (csOf fw q sc (M3.view.read (Elt F) gw)) f _
    (fun l y y0 y1 y2 => convB_row M2 gb M3 gw b k hk 0 fw q sc hb _ _ l y y0 y1 y2) _ _ rfl)
  isplitl [Hf]; · iexact Hf
  iintro ⟨%f1, %t1, Hf⟩
  iapply (putRow_wp c M 1 b (7680 + 128 * k) (csOf fw q sc (M3.view.read (Elt F) gw)) f1 _
    (fun l y y0 y1 y2 => convB_row M2 gb M3 gw b k hk 1 fw q sc hb _ _ l y y0 y1 y2) _ _ rfl)
  isplitl [Hf]; · iexact Hf
  iintro ⟨%f2, %t2, Hf⟩
  iapply (putRow_wp c M 2 b (7680 + 128 * k) (csOf fw q sc (M3.view.read (Elt F) gw)) f2 _
    (fun l y y0 y1 y2 => convB_row M2 gb M3 gw b k hk 2 fw q sc hb _ _ l y y0 y1 y2) _ _ rfl)
  isplitl [Hf]; · iexact Hf
  iintro ⟨%f3, %t3, Hf⟩
  iapply HK
  isplitl [Hp]; · iexact Hp
  isplitl [Hg]; · iexact Hg
  iexists f3
  isplitr; swap; · iexact Hf
  ipureintro
  exact sets_three b _ _ _ _ _ _ t1 t2 t3

/-- The last `n` blocks' channels. -/
def TailAt (b : Fin 2) (n : Nat) (y : S3x2x8704.Idx) : Prop := (y 1).val = b.val ∧ 7680 + 128 * (8 - n) ≤ (y 2).val

theorem tail_step (b : Fin 2) (n : Nat) (hn : n + 1 ≤ 8) (U f f1 f2 : S3x2x8704.Idx → F .f32)
    (h1 : Sets (BlkAt b (7680 + 128 * (7 - n))) U f f1) (h2 : Sets (TailAt b n) U f1 f2) : Sets (TailAt b (n + 1)) U f f2 := by
  intro y
  constructor
  · rintro ⟨e, hy⟩
    by_cases c : TailAt b n y
    · exact (h2 y).1 c
    have c' : ¬ 7680 + 128 * (8 - n) ≤ (y 2).val := fun h => c ⟨e, h⟩
    rw [(h2 y).2 c]
    exact (h1 y).1 ⟨e, by omega, by omega⟩
  · intro hc
    rw [(h2 y).2 (fun h => hc ⟨h.1, by have := h.2; omega⟩), (h1 y).2 (fun h => hc ⟨h.1, by have := h.2.1; omega⟩)]

theorem convsB_wp (c : Dev nD) (M2 : Memref sig .tc .vmem S2x1152x128 .f32) (M3 : Memref sig .tc .vmem S1x16464 .f32) (M : Memref sig .tc .vmem S3x2x8704 .f32) (b : Fin 2)
    (fw : Vec F S2058x28x8x128 .fp8e4m3) (q : FVec F S256x3584 .fp8e4m3) (sc : Vec F S2x8x128 .f32) (gb : HbBuf0 (F := F) c M2) (gw : HbBuf0 (F := F) c M3)
    (hb : M2.view.read (Elt F) gb = Bc fw q sc)
    (K : Prog (TpuEff nD τ sig (Elt F) Λ₀ .tc) PUnit) (Q : PUnit → sProp 𝕄) (n : Nat) (hn : n ≤ 8) (f : HbBuf0 (F := F) c M) :
    iprop(hbPt0 c M2 gb ∗ hbPt0 c M3 gw ∗ hbPt0 c M f
        ∗ (iprop(hbPt0 c M2 gb ∗ hbPt0 c M3 gw
              ∗ ∃ f' : HbBuf0 (F := F) c M, ⌜Sets (TailAt b n) (csOf fw q sc (M3.view.read (Elt F) gw)) (M.view.read (Elt F) f) (M.view.read (Elt F) f')⌝ ∗ hbPt0 c M f')
            -∗ wp frame (wpE (defs₀ (F := F)) Variants.none (c : Thread nD τ) none) Set.univ K Q))
      ⊢ wp frame (wpE (defs₀ (F := F)) Variants.none (c : Thread nD τ) none) Set.univ (convsB M2 M3 M b K n hn) Q := by
  induction n generalizing f with
  | zero =>
    iintro ⟨Hp, Hg, Hf, HK⟩
    iapply HK
    isplitl [Hp]; · iexact Hp
    isplitl [Hg]; · iexact Hg
    iexists f
    isplitr; swap; · iexact Hf
    ipureintro
    exact fun y => ⟨fun h => absurd (y 2).isLt (by have h' : 7680 + 128 * (8 - 0) ≤ (y 2).val := h.2; show ¬ (y 2).val < 8704; omega), fun _ => rfl⟩
  | succ n ih =>
    rw [convsB]
    iintro ⟨Hp, Hg, Hf, HK⟩
    iapply (convB_wp c M2 M3 M b (7 - n) _ fw q sc gb gw f hb)
    isplitl [Hp]; · iexact Hp
    isplitl [Hg]; · iexact Hg
    isplitl [Hf]; · iexact Hf
    iintro ⟨Hp, Hg, ⟨%f1, %t1, Hf⟩⟩
    iapply (ih _ f1)
    isplitl [Hp]; · iexact Hp
    isplitl [Hg]; · iexact Hg
    isplitl [Hf]; · iexact Hf
    iintro ⟨Hp, Hg, ⟨%f2, %t2, Hf⟩⟩
    iapply HK
    isplitl [Hp]; · iexact Hp
    isplitl [Hg]; · iexact Hg
    iexists f2
    isplitr; swap; · iexact Hf
    ipureintro
    exact tail_step b n hn _ _ _ _ t1 t2

/-- Both batches' kept. -/
theorem tails_kept (U f f1 f2 : S3x2x8704.Idx → F .f32) (h1 : Sets (TailAt 0 8) U f f1) (h2 : Sets (TailAt 1 8) U f1 f2) : Kept U 0 f2 := by
  intro y hy
  have h0 : (y 1).val < 2 := (y 1).isLt
  have hy' : 7680 ≤ (y 2).val := by omega
  by_cases e : (y 1).val = (1 : Fin 2).val
  · exact (h2 y).1 ⟨e, by omega⟩
  · have e0 : (y 1).val = (0 : Fin 2).val := by have : (y 1).val ≠ 1 := e; show (y 1).val = 0; omega
    rw [(h2 y).2 (fun h => e h.1)]
    exact (h1 y).1 ⟨e0, by omega⟩

end Cert.Project.Hand

end
-- ==== Proof.Project.Run.lean ====
/-
  The body's triple: from the operands whole and the buffers at anything, the body ends with both results at what is
  projected, the kept times copied out, and everything else given back.
-/
module

public import proofs.«01_k».proof.Proof.Project.Loop
public import proofs.«01_k».proof.Proof.Project.ConvB

@[expose] public section

set_option maxRecDepth 16384

noncomputable section

namespace Cert.Project.Hand

open Cert.Project Cert.Project.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- A slot never used is at rest. -/
theorem home_intro (c : Dev nD) (s : Fin 2) (fw : HbBuf0 (F := F) c hbM0_0) :
    iprop(semVal ((c : Thread nD τ), SemLoc.dma (cellC s)) 0 ∗ (∃ f, wPt (F := F) c s 0 f) ∗ (∃ f, wPt (F := F) c s 1 f) ∗ tokPt c s 0 fw ∗ tokPt c s 1 fw)
      ⊢ Home c s fw := .rfl
theorem cell0 (c : Dev nD) : (semVal ((c : Thread nD τ), SemLoc.dma 5) 0 : sProp 𝕄) = semVal ((c : Thread nD τ), SemLoc.dma (cellC 0)) 0 := rfl
theorem cell1 (c : Dev nD) : (semVal ((c : Thread nD τ), SemLoc.dma 6) 0 : sProp 𝕄) = semVal ((c : Thread nD τ), SemLoc.dma (cellC 1)) 0 := rfl

/-- What the loop is entered with is the invariant before its first trip. -/
theorem inv_zero (c : Dev nD) (arg1 : Memref sig .tc .vmem S256x3584 .fp8e4m3) (arg3 arg4 : Memref sig .tc .vmem S2x7680x128 .f32)
    (fw : HbBuf0 (F := F) c hbM0_0) (fq : HbBuf0 (F := F) c arg1) (sc : HbBuf0 (F := F) c scM0_1) (gw : HbBuf0 (F := F) c scM0_4) (f3 : HbBuf0 (F := F) c arg3) (f4 : HbBuf0 (F := F) c arg4)
    (fc : HbBuf0 (F := F) c scM0_5) (hk : Kept (csOf fw (arg1.view.read (Elt F) fq) sc (scM0_4.view.read (Elt F) gw)) 0 (scM0_5.view.read (Elt F) fc)) :
    iprop(InFl c 1 1 fw ∗ InFl c 0 2 fw ∗ pPt c 0 (Pc (wv fw 0) (arg1.view.read (Elt F) fq) sc) ∗ (∃ f, pPt (F := F) c 1 f)
      ∗ hbPt0 c arg1 fq ∗ hbPt0 c scM0_1 sc ∗ hbPt0 c arg3 f3 ∗ hbPt0 c arg4 f4 ∗ hbPt0 c scM0_4 gw ∗ hbPt0 c scM0_5 fc ∗ ∃ W, owes (c : Thread nD τ) 0 W)
      ⊢ inv c arg1 arg3 arg4 fw fq sc gw 0 := by
  unfold inv DoneTo KeptTo
  rw [held_of (show 0 < 20 by decide), fly_of (show 0 + 1 < 20 by decide), fly_of (show 0 + 2 < 20 by decide)]
  iintro ⟨HI, HF, Hp, Hp', Hq, Hs, H3, H4, Hg, HC, HO⟩
  isplitl [HI]; · iexact HI
  isplitl [HF]; · iexact HF
  isplitl [Hp]; · iexact Hp
  isplitl [Hp']; · iexact Hp'
  isplitl [Hq]; · iexact Hq
  isplitl [Hs]; · iexact Hs
  isplitl [H3]
  · iexists f3; isplitr; · ipureintro; exact done_zero _ _ _
    iexact H3
  isplitl [H4]
  · iexists f4; isplitr; · ipureintro; exact done_zero _ _ _
    iexact H4
  isplitl [Hg]; · iexact Hg
  isplitl [HC]
  · iexists fc; isplitr; · ipureintro; exact hk
    iexact HC
  iexact HO

/-- What the loop leaves. -/
theorem inv_last (c : Dev nD) (arg1 : Memref sig .tc .vmem S256x3584 .fp8e4m3) (arg3 arg4 : Memref sig .tc .vmem S2x7680x128 .f32)
    (fw : HbBuf0 (F := F) c hbM0_0) (fq : HbBuf0 (F := F) c arg1) (sc : HbBuf0 (F := F) c scM0_1) (gw : HbBuf0 (F := F) c scM0_4) :
    inv c arg1 arg3 arg4 fw fq sc gw 20
      ⊢ iprop(Home c 0 fw ∗ Home c 1 fw ∗ iprop((∃ f, pPt (F := F) c 0 f) ∗ (∃ f, pPt (F := F) c 1 f)) ∗ hbPt0 c arg1 fq ∗ hbPt0 c scM0_1 sc
        ∗ (∃ fo : HbBuf0 (F := F) c arg3, ⌜arg3.view.read (Elt F) fo = outOf fw (arg1.view.read (Elt F) fq) sc 0⌝ ∗ hbPt0 c arg3 fo)
        ∗ (∃ fo : HbBuf0 (F := F) c arg4, ⌜arg4.view.read (Elt F) fo = outOf fw (arg1.view.read (Elt F) fq) sc 1⌝ ∗ hbPt0 c arg4 fo)
        ∗ hbPt0 c scM0_4 gw
        ∗ (∃ f : HbBuf0 (F := F) c scM0_5, ⌜scM0_5.view.read (Elt F) f = csOf fw (arg1.view.read (Elt F) fq) sc (scM0_4.view.read (Elt F) gw)⌝ ∗ hbPt0 c scM0_5 f)
        ∗ ∃ W, owes (c : Thread nD τ) 0 W) := by
  unfold inv DoneTo KeptTo
  rw [held_some (show ¬ 20 < 20 by decide), fly_home (show ¬ 20 + 1 < 20 by decide), fly_home (show ¬ 20 + 2 < 20 by decide),
    show sl (20 + 1) = 1 from rfl, show sl 20 = 0 from rfl]
  iintro ⟨HI, HF, Hp, Hp', Hq, Hs, ⟨%f3, %d3, H3⟩, ⟨%f4, %d4, H4⟩, Hg, ⟨%fc, %dc, HC⟩, HO⟩
  isplitl [HF]; · iexact HF
  isplitl [HI]; · iexact HI
  isplitl [Hp Hp']
  · isplitl [Hp]; · iexact Hp
    iexact Hp'
  isplitl [Hq]; · iexact Hq
  isplitl [Hs]; · iexact Hs
  isplitl [H3]
  · iexists f3; isplitr; · ipureintro; exact done_all _ _ _ d3
    iexact H3
  isplitl [H4]
  · iexists f4; isplitr; · ipureintro; exact done_all _ _ _ d4
    iexact H4
  isplitl [Hg]; · iexact Hg
  isplitl [HC]
  · iexists fc; isplitr; · ipureintro; exact kept_all _ _ dc
    iexact HC
  iexact HO

section Whole

set_option maxHeartbeats 1000000
set_option sl_exec.dmaWindow true
set_option sl_exec.dmaWindowSet true

/-- The whole of the weights' scales copied into their buffer, and meanwhile what turns `A` into `B`. -/
theorem copyIn_wp (c : Dev nD) (fp : HbBuf0 (F := F) c hbM0_1) (g : HbBuf0 (F := F) c scM0_4) (W : Waits sig Unit)
    (M : Prog (TpuEff nD τ sig (Elt F) Λ₀ .tc) PUnit → Prog (TpuEff nD τ sig (Elt F) Λ₀ .tc) PUnit) (A B : sProp 𝕄)
    (hM : ∀ (P : Prog (TpuEff nD τ sig (Elt F) Λ₀ .tc) PUnit) (K : PUnit → sProp 𝕄),
      iprop(A ∗ (B -∗ wp frame (wpE (defs₀ (F := F)) Variants.none (c : Thread nD τ) none) Set.univ P K))
        ⊢ wp frame (wpE (defs₀ (F := F)) Variants.none (c : Thread nD τ) none) Set.univ (M P) K)
    (P : Prog (TpuEff nD τ sig (Elt F) Λ₀ .tc) PUnit) (K : PUnit → sProp 𝕄) :
    iprop(A ∗ hbPt0 c hbM0_1 fp ∗ hbPt0 c scM0_4 g ∗ semVal ((c : Thread nD τ), SemLoc.dma 4) 0 ∗ owes (c : Thread nD τ) 0 W
        ∗ (iprop(B ∗ hbPt0 c hbM0_1 fp ∗ hbPt0 c scM0_4 fp ∗ semVal ((c : Thread nD τ), SemLoc.dma 4) 0 ∗ ∃ W, owes (c : Thread nD τ) 0 W)
            -∗ wp frame (wpE (defs₀ (F := F)) Variants.none (c : Thread nD τ) none) Set.univ P K))
      ⊢ wp frame (wpE (defs₀ (F := F)) Variants.none (c : Thread nD τ) none) Set.univ
          (copyIn hbM0_1 (Memref.isWhole_whole _) scM0_4 (Memref.isWhole_whole _) cc0_scratch6 M P) K := by
  unfold copyIn
  iintro ⟨HA, Hw, HG, Hp, HO, HK⟩
  sl_exec
  iapply (hM _ K)
  isplitl [HA]; · iexact HA
  iintro HB
  sl_exec
  ihave HG' := (show hbPt0 c scM0_4 (View.write (Elt F) scM0_4.view g (copyIn_wp.sl.dma0 c fp) Finset.univ) ⊢ hbPt0 c scM0_4 fp from .of_eq (congrArg (fun f => hbPt0 c scM0_4 f) (View.write_whole_univ _ _ _))) $$ HG
  iapply HK
  isplitl [HB]; · iexact HB
  isplitl [Hw]; · iexact Hw
  isplitl [HG']; · iexact HG'
  isplitl [Hp]; · iexact Hp
  iexists _; iexact HO

/-- The whole of what is kept copied out into the third result. -/
theorem copyOut_wp (c : Dev nD) (g : HbBuf0 (F := F) c scM0_5) (f : HbBuf0 (F := F) c hbM0_2) (W : Waits sig Unit)
    (P : Prog (TpuEff nD τ sig (Elt F) Λ₀ .tc) PUnit) (K : PUnit → sProp 𝕄) :
    iprop(hbPt0 c scM0_5 g ∗ hbPt0 c hbM0_2 f ∗ semVal ((c : Thread nD τ), SemLoc.dma 7) 0 ∗ owes (c : Thread nD τ) 0 W
        ∗ (iprop(hbPt0 c scM0_5 g ∗ hbPt0 c hbM0_2 g ∗ semVal ((c : Thread nD τ), SemLoc.dma 7) 0 ∗ ∃ W, owes (c : Thread nD τ) 0 W)
            -∗ wp frame (wpE (defs₀ (F := F)) Variants.none (c : Thread nD τ) none) Set.univ P K))
      ⊢ wp frame (wpE (defs₀ (F := F)) Variants.none (c : Thread nD τ) none) Set.univ
          (copyOut scM0_5 (Memref.isWhole_whole _) hbM0_2 (Memref.isWhole_whole _) cc0_scratch8 P) K := by
  unfold copyOut
  iintro ⟨HC, Hr, Hp, HO, HK⟩
  sl_exec
  ihave Hr' := (show hbPt0 c hbM0_2 (View.write (Elt F) hbM0_2.view f (copyOut_wp.sl.dma0 c g) Finset.univ) ⊢ hbPt0 c hbM0_2 g from .of_eq (congrArg (fun f => hbPt0 c hbM0_2 f) (View.write_whole_univ _ _ _))) $$ Hr
  iapply HK
  isplitl [HC]; · iexact HC
  isplitl [Hr']; · iexact Hr'
  isplitl [Hp]; · iexact Hp
  iexists _; iexact HO

end Whole

set_option maxHeartbeats 1000000 in
/-- The body's triple. -/
theorem run (c : Dev nD) (arg1 : Memref sig .tc .vmem S256x3584 .fp8e4m3) (harg1 : arg1.IsWhole) (arg2 : Memref sig .tc .vmem S256x128 .f32) (harg2 : arg2.IsWhole)
    (arg3 : Memref sig .tc .vmem S2x7680x128 .f32) (harg3 : arg3.IsWhole) (arg4 : Memref sig .tc .vmem S2x7680x128 .f32) (harg4 : arg4.IsWhole)
    (fw : HbBuf0 (F := F) c hbM0_0) (fq : HbBuf0 (F := F) c arg1) (fs : HbBuf0 (F := F) c arg2) (f3 : HbBuf0 (F := F) c arg3) (f4 : HbBuf0 (F := F) c arg4)
    (fp : HbBuf0 (F := F) c hbM0_1) (W : Waits sig Unit) (K : PUnit → sProp 𝕄) :
    iprop(hbPt0 c arg1 fq ∗ hbPt0 c arg2 fs ∗ hbPt0 c arg3 f3 ∗ hbPt0 c arg4 f4 ∗ (∃ f, hbPt0 (F := F) c scM0_0 f) ∗ (∃ f, hbPt0 (F := F) c scM0_1 f) ∗ (∃ f, hbPt0 (F := F) c scM0_2 f) ∗ (∃ f, hbPt0 (F := F) c scM0_3 f) ∗ (∃ f, hbPt0 (F := F) c scM0_4 f) ∗ (∃ f, hbPt0 (F := F) c scM0_5 f)
        ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ hbPt0 c hbM0_0 fw ∗ hbPt0 c hbM0_1 fp ∗ (∃ f, hbPt0 (F := F) c hbM0_2 f) ∗ owes (c : Thread nD τ) 0 W
        ∗ (iprop(hbPt0 c arg1 fq ∗ hbPt0 c arg2 fs
          ∗ (∃ fo : HbBuf0 (F := F) c arg3, ⌜arg3.view.read (Elt F) fo = outOf fw (arg1.view.read (Elt F) fq) (scOf (arg2.view.read (Elt F) fs)) 0⌝ ∗ hbPt0 c arg3 fo)
          ∗ (∃ fo : HbBuf0 (F := F) c arg4, ⌜arg4.view.read (Elt F) fo = outOf fw (arg1.view.read (Elt F) fq) (scOf (arg2.view.read (Elt F) fs)) 1⌝ ∗ hbPt0 c arg4 fo)
          ∗ (∃ f, hbPt0 (F := F) c scM0_0 f) ∗ (∃ f, hbPt0 (F := F) c scM0_1 f) ∗ (∃ f, hbPt0 (F := F) c scM0_2 f) ∗ (∃ f, hbPt0 (F := F) c scM0_3 f) ∗ (∃ f, hbPt0 (F := F) c scM0_4 f) ∗ (∃ f, hbPt0 (F := F) c scM0_5 f)
          ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ hbPt0 c hbM0_0 fw ∗ hbPt0 c hbM0_1 fp
          ∗ hbPt0 c hbM0_2 (csOf fw (arg1.view.read (Elt F) fq) (scOf (arg2.view.read (Elt F) fs)) fp) ∗ ∃ W, owes (c : Thread nD τ) 0 W) -∗ K ⟨⟩))
      ⊢ wp frame (wpE (defs₀ (F := F)) Variants.none (c : Thread nD τ) none) Set.univ
          (cc0_mamba2_layer hbM0_0 (Memref.isWhole_whole _) arg1 harg1 arg2 harg2 hbM0_1 (Memref.isWhole_whole _) arg3 harg3 arg4 harg4 hbM0_2 (Memref.isWhole_whole _)
            scM0_0 (Memref.isWhole_whole _) scM0_1 (Memref.isWhole_whole _) scM0_2 (Memref.isWhole_whole _) scM0_3 (Memref.isWhole_whole _) scM0_4 (Memref.isWhole_whole _) scM0_5 (Memref.isWhole_whole _)
            cc0_scratch6 cc0_scratch7 cc0_scratch8) K := by
  rw [body_eq, cell0, cell1]
  unfold body
  iintro ⟨Hq, Hs, H3, H4, HW, ⟨%g0, HS⟩, ⟨%p0, HP⟩, HB, ⟨%w0, HG⟩, ⟨%c0, HC⟩, Hp, Hv0, Hv1, Ho, Hw, Hn, ⟨%r0, Hr⟩, HO, HK⟩
  ihave HW' := (w_split c) $$ HW
  icases HW' with ⟨⟨W00, W01, W10, W11⟩, HX⟩
  ihave HP' := (p_split c) $$ [HP]
  · iexists p0; iexact HP
  icases HP' with ⟨P0, P1⟩
  ihave Hw' := (tok_split c fw).1 $$ Hw
  icases Hw' with ⟨HR, T00, T01, T10, T11⟩
  ihave HH0 := (home_intro c 0 fw) $$ [Hv0 W00 W01 T00 T01]
  · isplitl [Hv0]; · iexact Hv0
    isplitl [W00]; · iexact W00
    isplitl [W01]; · iexact W01
    isplitl [T00] <;> iassumption
  ihave HH1 := (home_intro c 1 fw) $$ [Hv1 W10 W11 T10 T11]
  · isplitl [Hv1]; · iexact Hv1
    isplitl [W10]; · iexact W10
    isplitl [W11]; · iexact W11
    isplitl [T10] <;> iassumption
  iapply (copyIn_wp c fp w0 W _ iprop(Home c 0 fw ∗ Home c 1 fw) iprop(InB c fw ∗ InC c fw ∗ ∃ f, boxPt (F := F) c boxC f)
    fun P K => by
      iintro ⟨⟨HH0, HH1⟩, HK⟩
      iapply (startBC_wp c fw)
      isplitl [HH0]; · iexact HH0
      isplitl [HH1]; · iexact HH1
      iexact HK)
  isplitl [HH0 HH1]
  · isplitl [HH0]; · iexact HH0
    iexact HH1
  isplitl [Hn]; · iexact Hn
  isplitl [HG]; · iexact HG
  isplitl [Hp]; · iexact Hp
  isplitl [HO]; · iexact HO
  iintro ⟨⟨HI0, HI1, HZ⟩, Hn, HG', Hp, ⟨%W0, HO⟩⟩
  iapply (scales_wp c arg2 scM0_1 0 fs g0 _ _ _ _ rfl rfl)
  isplitl [Hs]; · iexact Hs
  isplitl [HS]; · iexact HS
  iintro ⟨Hs, ⟨%g1, %e1, HS⟩⟩
  iapply (scales_wp c arg2 scM0_1 1 fs g1 _ _ _ _ rfl rfl)
  isplitl [Hs]; · iexact Hs
  isplitl [HS]; · iexact HS
  iintro ⟨Hs, ⟨%g2, %e2, HS⟩⟩
  have hg : g2 = scOf (arg2.view.read (Elt F) fs) := sc_both _ g0 g1 g2 e1 e2
  subst hg
  iapply (zeros_wp c fw)
  isplitl [HZ]; · iexact HZ
  iintro HZ
  iapply (waitB_wp c fw W0)
  isplitl [HI0]; · iexact HI0
  isplitl [HO]; · iexact HO
  iintro ⟨HA, ⟨%W2, HO⟩⟩
  iapply (projectB0_wp c arg1 fw fq (scOf (arg2.view.read (Elt F) fs)))
  isplitl [HA]; · iexact HA
  isplitl [Hq]; · iexact Hq
  isplitl [HS]; · iexact HS
  isplitl [HB]; · iexact HB
  iintro ⟨HA, Hq, HS, ⟨%b1, %hb1, HB⟩⟩
  ihave HH0 := (home_of_atRest c 0 (WB0 fw) fw) $$ HA
  iapply (start_wp c 0 0 fw _ _ _ _ _ _ _ _ _ _ _ _ _ _ rfl rfl rfl rfl rfl)
  isplitl [HH0]; · iexact HH0
  iintro HI0
  iapply (waitC_wp c fw W2)
  isplitl [HI1]; · iexact HI1
  isplitl [HZ]; · iexact HZ
  isplitl [HO]; · iexact HO
  iintro ⟨HA, ⟨%W3, HO⟩⟩
  iapply (projectB1_wp c arg1 fw fq (scOf (arg2.view.read (Elt F) fs)) b1 hb1)
  isplitl [HA]; · iexact HA
  isplitl [Hq]; · iexact Hq
  isplitl [HS]; · iexact HS
  isplitl [HB]; · iexact HB
  iintro ⟨HA, Hq, HS, ⟨%b2, %hb2, HB⟩⟩
  ihave HH1 := (home_of_atC c fw) $$ HA
  iapply (start_wp c 1 1 fw _ _ _ _ _ _ _ _ _ _ _ _ _ _ rfl rfl rfl rfl rfl)
  isplitl [HH1]; · iexact HH1
  iintro HI1
  iapply (convsB_wp c scM0_3 scM0_4 scM0_5 0 fw (arg1.view.read (Elt F) fq) (scOf (arg2.view.read (Elt F) fs)) b2 fp hb2 _ _ 8 _ c0)
  isplitl [HB]; · iexact HB
  isplitl [HG']; · iexact HG'
  isplitl [HC]; · iexact HC
  iintro ⟨HB, HG', ⟨%c1, %hc1, HC⟩⟩
  iapply (convsB_wp c scM0_3 scM0_4 scM0_5 1 fw (arg1.view.read (Elt F) fq) (scOf (arg2.view.read (Elt F) fs)) b2 fp hb2 _ _ 8 _ c1)
  isplitl [HB]; · iexact HB
  isplitl [HG']; · iexact HG'
  isplitl [HC]; · iexact HC
  iintro ⟨HB, HG', ⟨%c2, %hc2, HC⟩⟩
  iapply (wait_wp c 0 0 fw W3 _ _ _ _ _ _ _ _ _ _ _ _ _ _ rfl)
  isplitl [HI0]; · iexact HI0
  isplitl [HO]; · iexact HO
  iintro ⟨HA, HO⟩
  iapply (project_wp c arg1 0 0 0 fw fq (scOf (arg2.view.read (Elt F) fs)) _ _ _ _ rfl rfl)
  isplitl [HA]; · iexact HA
  isplitl [Hq]; · iexact Hq
  isplitl [HS]; · iexact HS
  isplitl [P0]; · iexact P0
  iintro ⟨HA, Hq, HS, P0⟩
  ihave HH0 := (home_of_atRest c 0 (Wc fw 0) fw) $$ HA
  iapply (start_wp c 0 2 fw _ _ _ _ _ _ _ _ _ _ _ _ _ _ rfl rfl rfl rfl rfl)
  isplitl [HH0]; · iexact HH0
  iintro HI0
  rw [Prog.bind_assoc]
  sl_for (fun k _ => inv c arg1 arg3 arg4 fw fq (scOf (arg2.view.read (Elt F) fs)) fp k) $$ [HI1 HI0 P0 P1 Hq HS H3 H4 HG' HC HO]
  case region => exact fun k _ => trip c arg1 harg1 arg2 harg2 arg3 harg3 arg4 harg4 fw fq (scOf (arg2.view.read (Elt F) fs)) fp k
  · iapply (inv_zero c arg1 arg3 arg4 fw fq (scOf (arg2.view.read (Elt F) fs)) fp f3 f4 c2 (tails_kept _ _ _ _ hc1 hc2))
    isplitl [HI1]; · iexact HI1
    isplitl [HI0]; · iexact HI0
    isplitl [P0]; · iexact P0
    isplitl [P1]; · iexact P1
    isplitl [Hq]; · iexact Hq
    isplitl [HS]; · iexact HS
    isplitl [H3]; · iexact H3
    isplitl [H4]; · iexact H4
    isplitl [HG']; · iexact HG'
    isplitl [HC]; · iexact HC
    iexact HO
  iintro %acc HL
  ihave HE := (show inv c arg1 arg3 arg4 fw fq (scOf (arg2.view.read (Elt F) fs)) fp (Scf.trips k0_t1_loop.lb k0_t1_loop.ub k0_t1_loop.st) ⊢ _ from
    inv_last c arg1 arg3 arg4 fw fq (scOf (arg2.view.read (Elt F) fs)) fp) $$ HL
  unfold Home
  icases HE with ⟨⟨Hv0, W00, W01, T00, T01⟩, ⟨Hv1, W10, W11, T10, T11⟩, HP, Hq, HS, H3, H4, HG, ⟨%fc, %dc, HC⟩, ⟨%W1, HO⟩⟩
  ihave HP := (p_join c p0) $$ HP
  ihave HW := (w_join c) $$ [W00 W01 W10 W11 HX]
  · isplitr [HX]
    · isplitl [W00]; · iexact W00
      isplitl [W01]; · iexact W01
      isplitl [W10]; · iexact W10
      iexact W11
    · iexact HX
  ihave Hw := (tok_split c fw).2 $$ [HR T00 T01 T10 T11]
  · isplitl [HR]; · iexact HR
    isplitl [T00]; · iexact T00
    isplitl [T01]; · iexact T01
    isplitl [T10]; · iexact T10
    iexact T11
  have hc : fc = csOf fw (arg1.view.read (Elt F) fq) (scOf (arg2.view.read (Elt F) fs)) fp := dc
  subst hc
  iapply (copyOut_wp c _ r0 W1)
  isplitl [HC]; · iexact HC
  isplitl [Hr]; · iexact Hr
  isplitl [Ho]; · iexact Ho
  isplitl [HO]; · iexact HO
  iintro ⟨HC, Hr', Ho, HO⟩
  sl_step
  iapply HK
  isplitl [Hq]; · iexact Hq
  isplitl [Hs]; · iexact Hs
  isplitl [H3]; · iexact H3
  isplitl [H4]; · iexact H4
  isplitl [HW]; · iexact HW
  isplitl [HS]; · iexists _; iexact HS
  isplitl [HP]; · iexact HP
  isplitl [HB]; · iexists _; iexact HB
  isplitl [HG]; · iexists _; iexact HG
  isplitl [HC]; · iexists _; iexact HC
  isplitl [Hp]; · iexact Hp
  isplitl [Hv0]; · iexact Hv0
  isplitl [Hv1]; · iexact Hv1
  isplitl [Ho]; · iexact Ho
  isplitl [Hw]; · iexact Hw
  isplitl [Hn]; · iexact Hn
  isplitl [Hr']; · iexact Hr'
  iexact HO

end Cert.Project.Hand

end
-- ==== Proof.Project.Frame.lean ====
/-
  The whole run of the input projection: the body's triple at the one grid point, the launch, the frame claim and what
  the three result arrays hold at the end, as functions of the operands the region finds.
-/
module

public import proofs.«01_k».proof.Proof.Project.Run

@[expose] public section

set_option maxRecDepth 16384

noncomputable section

namespace Cert.Project.Hand

open Cert.Project Cert.Project.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## What the results hold -/

/-- The one grid point. -/
abbrev t0 : Fin cfg0.N := ⟨0, by decide⟩
theorem eq_t0 (t : Fin cfg0.N) : t = t0 := Fin.ext (Nat.lt_one_iff.mp t.isLt)

/-- The codes and the scales the body is handed. -/
abbrev codes (c : Dev nD) : Vec F S256x3584 .fp8e4m3 := iblk m c 0 t0
abbrev rowScales (c : Dev nD) : Vec F S256x128 .f32 := iblk m c 1 t0

/-- Result `h` at the end. -/
def out (c : Dev nD) (h : Fin 2) : Vec F S2x7680x128 .f32 := outOf (V m c main_v2) (codes m c) (scOf (rowScales m c)) h
/-- The third result at the end: the last times of the first half, scaled, -/
def csOut (c : Dev nD) : Vec F S3x2x8704 .f32 := csOf (V m c main_v2) (codes m c) (scOf (rowScales m c)) (V m c main_v6)
/-- and every buffer the body writes by its own copies (that one). -/
def G (c : Dev nD) : (b : Ref sig .tc) → Buf (Elt F) ((c : Thread nD τ).loc b) :=
  Function.update (V m c) main_v7_2 (csOut m c)
theorem G_eq (c : Dev nD) : G m c main_v7_2 = csOut m c := Function.update_self _ _ _

/-- A whole memref owned is its buffer at contents that read so. -/
theorem owns_hb (c : Dev nD) {sp : Space} {S : Shape} {e : EltTy} (M : Memref sig .tc sp S e) (h : M.IsWhole) (X : S.Idx → Elt F e) :
    (owns (c : Thread nD τ) M fullShare X : sProp 𝕄) = iprop(∃ f : HbBuf0 (F := F) c M, ⌜M.view.read (Elt F) f = X⌝ ∗ hbPt0 c M f) := by
  unfold owns; rw [h.set_eq_univ]

/-! ## The pipeline's proof data -/

/-- The proof data on core `c`: the arrays as the region finds them, each input's buffer at its block, each result's at
    what is projected, and the invariant with the third result as found before the point and at `G` after it. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => out m c 0
    | ⟨3, _⟩ => out m c 1
  Φ t := Pipeline.ΦDRG osem0 spec0 H0 R0 (V m) (if t.val = 0 then V m else G m) c
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out m c 0 := by dsimp only [dats]
theorem after0_3 (c : Dev nD) (t : Fin cfg0.N) : (dats m 0 c).after 3 t = out m c 1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at the point: the run's triple on the invariant's conjuncts and the windows' buffers. -/
theorem sound_body (c : Dev nD) (t : Fin cfg0.N) :
    bodyPre m c t ⊢ wp frame (wpE (defs₀ (F := F)) Variants.none c none) Set.univ (bodyAt0 t) (fun _ => bodyPost m c t) := by
  obtain rfl := eq_t0 t
  unfold bodyPre bodyPost bodyAt0
  simp only [before0_0, before0_1]
  rw [show (dats m 0 c).Φ t0.castSucc = Pipeline.ΦDRG osem0 spec0 H0 R0 (V m) (V m) c from rfl,
    show (dats m 0 c).Φ t0.succ = Pipeline.ΦDRG osem0 spec0 H0 R0 (V m) (G m) c from rfl,
    after0_0, after0_1, after0_2, after0_3, PhiG_eq, PhiG_eq, G_eq]
  simp only [owns_hb c (ms0_0 t0) (hs0_0 t0), owns_hb c (ms0_1 t0) (hs0_1 t0), owns_hb c (ms0_2 t0) (hs0_2 t0), owns_hb c (ms0_3 t0) (hs0_3 t0)]
  unfold Dat.owesAt Pipeline.owesWithin
  rw [show (dats m 0 c).owed t0.castSucc = 0 from rfl, show (dats m 0 c).owed t0.succ = 0 from rfl]
  iintro ⟨⟨⟨HS0, HS1, HS2, HS3, HS4, HS5⟩, Hg, ⟨Hq0, Hq1, Hq2, Hq3⟩, ⟨Hw, Hn⟩, Hr⟩, ⟨%W, -, HW⟩, ⟨%d0, %f0, %e0, H0⟩, ⟨%d1, %f1, %e1, H1⟩, ⟨%d2, %f2, %e2, H2⟩, ⟨%d3, %f3, %e3, H3⟩⟩
  have ho : ∀ h, outOf (V m c main_v2) ((ms0_0 t0).view.read (Elt F) f0) (scOf ((ms0_1 t0).view.read (Elt F) f1)) h = out m c h := fun h =>
    (congrArg (fun a => outOf _ a _ h) e0).trans (congrArg (fun a => outOf _ (codes m c) (scOf a) h) e1)
  have hc : csOf (V m c main_v2) ((ms0_0 t0).view.read (Elt F) f0) (scOf ((ms0_1 t0).view.read (Elt F) f1)) (V m c main_v6) = csOut m c :=
    (congrArg (fun a => csOf _ a _ _) e0).trans (congrArg (fun a => csOf _ (codes m c) (scOf a) _) e1)
  iapply (run c (ms0_0 t0) (hs0_0 t0) (ms0_1 t0) (hs0_1 t0) (ms0_2 t0) (hs0_2 t0) (ms0_3 t0) (hs0_3 t0) (V m c main_v2) f0 f1 f2 f3 (V m c main_v6) W _)
  isplitl [H0]; · iexact H0
  isplitl [H1]; · iexact H1
  isplitl [H2]; · iexact H2
  isplitl [H3]; · iexact H3
  isplitl [HS0]; · iexact HS0
  isplitl [HS1]; · iexact HS1
  isplitl [HS2]; · iexact HS2
  isplitl [HS3]; · iexact HS3
  isplitl [HS4]; · iexact HS4
  isplitl [HS5]; · iexact HS5
  isplitl [Hq0]; · iexact Hq0
  isplitl [Hq1]; · iexact Hq1
  isplitl [Hq2]; · iexact Hq2
  isplitl [Hq3]; · iexact Hq3
  isplitl [Hw]; · iexact Hw
  isplitl [Hn]; · iexact Hn
  isplitl [Hr]; · iexists _; iexact Hr
  isplitl [HW]; · iexact HW
  iintro ⟨H0, H1, ⟨%g2, %k2, H2⟩, ⟨%g3, %k3, H3⟩, HS0, HS1, HS2, HS3, HS4, HS5, Hq0, Hq1, Hq2, Hq3, Hw, Hn, Hr, ⟨%W', HW'⟩⟩
  isplitl [HS0 HS1 HS2 HS3 HS4 HS5 Hg Hq0 Hq1 Hq2 Hq3 Hw Hn Hr]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    isplitl [Hg]
    · iexact Hg
    isplitl [Hq0 Hq1 Hq2 Hq3]
    · isplitl [Hq0]; · iexact Hq0
      isplitl [Hq1]; · iexact Hq1
      isplitl [Hq2]; · iexact Hq2
      iexact Hq3
    isplitl [Hw Hn]
    · isplitl [Hw]; · iexact Hw
      iexact Hn
    iapply (BIBase.Entails.of_eq (congrArg (fun f => hbPt0 c hbM0_2 f) hc))
    iexact Hr
  isplitl [HW']
  · iexists W'; isplitr; · ipureintro; exact fun _ _ => Or.inl trivial
    iexact HW'
  isplitl [H0]
  · iexists f0; isplitr; · ipureintro; exact e0
    iexact H0
  isplitl [H1]
  · iexists f1; isplitr; · ipureintro; exact e1
    iexact H1
  isplitl [H2]
  · iexists g2; isplitr; · ipureintro; exact k2.trans (ho 0)
    iexact H2
  · iexists g3; isplitr; · ipureintro; exact k3.trans (ho 1)
    iexact H3

/-- The body table's row is the body. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run, the frame and the value -/

-- the launch theorem's implicit arguments are found by unifying its conclusion with this one, which takes unfolding
-- plain definitions in a metavariable's type
set_option backward.isDefEq.respectTransparency.types false in
/-- The launch: every array as the post says, the third result at `G`, and every semaphore counter at zero at the end. -/
theorem run_main_quiescent : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain m Variants.none) (hA := A_eq m) (G := G m)
    (hin := fun _ => .rfl) (hout := fun _ => .rfl)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1.toR c).2 main_arg0 (Finset.mem_sdiff.mpr ⟨Pipeline.mem_restRefs_of main_arg0 (by decide) (by decide), by decide⟩)).trans (V_main_arg0 m c),
      ((h.1.toR c).2 main_arg1 (Finset.mem_sdiff.mpr ⟨Pipeline.mem_restRefs_of main_arg1 (by decide) (by decide), by decide⟩)).trans (V_main_arg1 m c),
      ((h.1.toR c).2 main_arg2 (Finset.mem_sdiff.mpr ⟨Pipeline.mem_restRefs_of main_arg2 (by decide) (by decide), by decide⟩)).trans (V_main_arg2 m c),
      ((h.1.toR c).2 main_arg3 (Finset.mem_sdiff.mpr ⟨Pipeline.mem_restRefs_of main_arg3 (by decide) (by decide), by decide⟩)).trans (V_main_arg3 m c)⟩) (run_main_quiescent m ρ)

/-- The frame claim, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ) ((θ_run defs _ _).mono (fun _ h => h.2) (run_main_quiescent m ρ))

/-! ## The result arrays -/

/-- A result's window writes one block, the whole array. -/
theorem arr_2 (c : Dev nD) : (dats m 0 c).arrAt 2 cfg0.N = out m c 0 := by
  have hb : ((cfg0.win 2).blk t0).view.read (Elt F) ((dats m 0 c).arrAt 2 cfg0.N) = (dats m 0 c).flushed 2 t0 :=
    (dats m 0 c).read_blk_arrAt_eq_flushed 2 (fun t t' _ _ hne => absurd ((eq_t0 t).trans (eq_t0 t').symm) hne) cfg0.N t0 t0.isLt (by decide)
  have hf : (dats m 0 c).flushed 2 t0 = (cfg0.win 2).cut (grid0.coords t0) (out m c 0) := by
    show (cfg0.win 2).cut (grid0.coords t0) ((dats m 0 c).after 2 t0) = _
    rw [after0_2]
  rw [hf] at hb
  funext i
  refine Eq.trans ?_ (congrFun hb i)
  refine congrArg ((dats m 0 c).arrAt 2 cfg0.N) (funext fun a => ?_)
  match a with
  | ⟨0, _⟩ => exact Fin.ext (by show (i 0).val = 0 + 1 * (i 0).val; omega)
  | ⟨1, _⟩ => exact Fin.ext (by show (i 1).val = 0 + 1 * (i 1).val; omega)
  | ⟨2, _⟩ => exact Fin.ext (by show (i 2).val = 0 + 1 * (i 2).val; omega)
theorem arr_3 (c : Dev nD) : (dats m 0 c).arrAt 3 cfg0.N = out m c 1 := by
  have hb : ((cfg0.win 3).blk t0).view.read (Elt F) ((dats m 0 c).arrAt 3 cfg0.N) = (dats m 0 c).flushed 3 t0 :=
    (dats m 0 c).read_blk_arrAt_eq_flushed 3 (fun t t' _ _ hne => absurd ((eq_t0 t).trans (eq_t0 t').symm) hne) cfg0.N t0 t0.isLt (by decide)
  have hf : (dats m 0 c).flushed 3 t0 = (cfg0.win 3).cut (grid0.coords t0) (out m c 1) := by
    show (cfg0.win 3).cut (grid0.coords t0) ((dats m 0 c).after 3 t0) = _
    rw [after0_3]
  rw [hf] at hb
  funext i
  refine Eq.trans ?_ (congrFun hb i)
  refine congrArg ((dats m 0 c).arrAt 3 cfg0.N) (funext fun a => ?_)
  match a with
  | ⟨0, _⟩ => exact Fin.ext (by show (i 0).val = 0 + 1 * (i 0).val; omega)
  | ⟨1, _⟩ => exact Fin.ext (by show (i 1).val = 0 + 1 * (i 1).val; omega)
  | ⟨2, _⟩ => exact Fin.ext (by show (i 2).val = 0 + 1 * (i 2).val; omega)

/-- What the result arrays hold at the end. -/
theorem value : θ_run defs (onTc (τ := τ) (main (F := F))) ⟨m, fun _ => 0, ρ⟩ (fun r => ∀ c : Dev nD,
      r.2.mem ((c.tc : Thread nD τ).loc main_v7_0) = out m c 0 ∧ r.2.mem ((c.tc : Thread nD τ).loc main_v7_1) = out m c 1
      ∧ r.2.mem ((c.tc : Thread nD τ).loc main_v7_2) = csOut m c) :=
  (θ_run defs _ _).mono (fun _ h c => ⟨((h.1.toR c).1 2).trans (arr_2 m c), ((h.1.toR c).1 3).trans (arr_3 m c),
      (h.1.written c (Finset.mem_singleton_self _)).trans (G_eq m c)⟩) (run_main_quiescent m ρ)

/-- The three results and the unchanged arguments, together. -/
theorem result : θ_run defs (onTc (τ := τ) (main (F := F))) ⟨m, fun _ => 0, ρ⟩ (fun r => ∀ c : Dev nD,
      r.2.mem ((c.tc : Thread nD τ).loc main_v7_0) = out m c 0 ∧ r.2.mem ((c.tc : Thread nD τ).loc main_v7_1) = out m c 1
      ∧ r.2.mem ((c.tc : Thread nD τ).loc main_v7_2) = csOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run _ _ _).mono (fun r h c => ⟨(h.1 c).1, (h.1 c).2.1, (h.1 c).2.2, h.2 c⟩) (θ_run_and (value m ρ) (unchanged m ρ))

end Cert.Project.Hand

end
-- ==== Proof.Ideal.lean ====
/-
  The program over the reals is the printed one, by definition: with no rewrites, the two are printed alike. So what is
  proved of the printed program at any values, run over the reals, is proved of the other.
-/
module

public import proofs.«01_k».proof.Defs

@[expose] public section

set_option maxRecDepth 65536

noncomputable section

namespace Cert.Hand

open Idealize.ShloMosaic Idealize.SL.Sem

variable {F : FTy → Type} [FloatOps F]

/-! ## The output projection -/

/-- The body table is the same. -/
theorem kernel_body [Cert.Kernel.Facts] [Cert.KernelIdeal.Facts] : Cert.Kernel.defs₀ (F := F) = Cert.KernelIdeal.defs₀ (F := F) := by
  refine congrArg Defs.onTc (funext fun k => ?_)
  match k with
  | 0 => exact funext fun ⟨_, _⟩ => rfl

/-- The table with the pipeline's entries is the same. -/
theorem kernel_defs [Cert.Kernel.Facts] [Cert.KernelIdeal.Facts] : Cert.Kernel.defs (F := F) = Cert.KernelIdeal.defs (F := F) :=
  congrArg (Pipeline.defs (Cert.Kernel.pcfgs (F := F))) kernel_body

/-- So a run of the one is a run of the other. -/
theorem kernel_run [Cert.Kernel.Facts] [Cert.KernelIdeal.Facts] (σ : MemSt Cert.Kernel.nD Cert.Kernel.τ Cert.Kernel.sig (Elt F)) (P : Unit × MemSt Cert.Kernel.nD Cert.Kernel.τ Cert.Kernel.sig (Elt F) → Prop)
    (h : θ_run (Cert.Kernel.defs (F := F)) (onTc (τ := Cert.Kernel.τ) (Cert.Kernel.main (F := F))) σ P) :
    θ_run (Cert.KernelIdeal.defs (F := F)) (onTc (τ := Cert.KernelIdeal.τ) (Cert.KernelIdeal.main (F := F))) σ P :=
  (congrArg (fun d => θ_run d (onTc (τ := Cert.Kernel.τ) (Cert.Kernel.main (F := F))) σ P) kernel_defs).mp h

/-! ## The input projection -/

/-- The body table is the same. -/
theorem project_body [Cert.Project.Facts] [Cert.ProjectIdeal.Facts] : Cert.Project.defs₀ (F := F) = Cert.ProjectIdeal.defs₀ (F := F) := by
  refine congrArg Defs.onTc (funext fun k => ?_)
  match k with
  | 0 => exact funext fun ⟨_, _⟩ => rfl

/-- The table with the pipeline's entries is the same. -/
theorem project_defs [Cert.Project.Facts] [Cert.ProjectIdeal.Facts] : Cert.Project.defs (F := F) = Cert.ProjectIdeal.defs (F := F) :=
  congrArg (Pipeline.defs (Cert.Project.pcfgs (F := F))) project_body

/-- So a run of the one is a run of the other. -/
theorem project_run [Cert.Project.Facts] [Cert.ProjectIdeal.Facts] (σ : MemSt Cert.Project.nD Cert.Project.τ Cert.Project.sig (Elt F)) (P : Unit × MemSt Cert.Project.nD Cert.Project.τ Cert.Project.sig (Elt F) → Prop)
    (h : θ_run (Cert.Project.defs (F := F)) (onTc (τ := Cert.Project.τ) (Cert.Project.main (F := F))) σ P) :
    θ_run (Cert.ProjectIdeal.defs (F := F)) (onTc (τ := Cert.ProjectIdeal.τ) (Cert.ProjectIdeal.main (F := F))) σ P :=
  (congrArg (fun d => θ_run d (onTc (τ := Cert.Project.τ) (Cert.Project.main (F := F))) σ P) project_defs).mp h

end Cert.Hand

end
-- ==== Proof.Value.ProjectKernel.lean ====
/-
  The in-projection's results, element by element, over the extended reals: each is one row of the weights against one row
  of the codes, times the row's scale. The kernel permutes the rows of a block before its product and puts the tiles
  together from two groups of four rows after it; the two undo each other.
-/
module

public import proofs.«01_k».proof.Proof.Project.Frame
public import Idealize.ShloMosaic.Lib.KernelVsHost
public import Idealize.ShloMosaic.Lib.MatmulPlain
public import Idealize.ShloMosaic.Lib.ValueIdxRank6

@[expose] public section

set_option maxRecDepth 65536

noncomputable section

namespace Cert.Project.Hand

open Cert.Project Cert.Project.Gen
open Idealize.ShloMosaic Idealize.ShloMosaic.TcCoe Idealize.ShloMosaic.Tactic
open Idealize.SL Idealize.SL.RA Idealize.SL.BI Idealize.SL.Sem
open Idealize.ShloMosaic.Rounds
open Idealize.ShloMosaic.ValueIdx

/-! ## A tile, element by element -/

section Tile
variable {F : FTy → Type} [FloatOps F]

/-- The mask is one on the first four rows. -/
theorem loMask_lo (j : Fin 8) (l : Fin 128) (h : j.val < 4) : loMask (ix2 j l) = 1#1 := by
  have key : ∀ j : Fin 8, j.val < 4 → IntOp.cmpi .slt (BitVec.ofNat 32 j.val) 4#32 = 1#1 := by decide
  refine Eq.trans ?_ (key j h)
  exact congrArg (fun z => IntOp.cmpi .slt z 4#32) (iota_single_apply _ _ _ _ _ _)
/-- And zero on the last four. -/
theorem loMask_hi (j : Fin 8) (l : Fin 128) (h : ¬ j.val < 4) : loMask (ix2 j l) = 0#1 := by
  have key : ∀ j : Fin 8, ¬ j.val < 4 → IntOp.cmpi .slt (BitVec.ofNat 32 j.val) 4#32 = 0#1 := by decide
  refine Eq.trans ?_ (key j h)
  exact congrArg (fun z => IntOp.cmpi .slt z 4#32) (iota_single_apply _ _ _ _ _ _)

/-- The row of the product that tile `t` shows at its row `j`. -/
def selRow (t : Fin 96) (j : Fin 8) : Fin 768 :=
  ⟨64 * (t.val / 8) + 32 * (j.val / 4) + 4 * (t.val % 8) + j.val % 4, by have := t.isLt; have := j.isLt; omega⟩

/-- Eight rows of the product at row `j`. -/
theorem slice_apply (r : FVec F S768x256 .f32) (b : Fin 2) (t : Fin 96) (d : Nat) (hd : d = 0 ∨ d = 32) (j : Fin 8) (l : Fin 128) (R : Fin 768)
    (hR : R.val = rowA t + d + j.val) :
    extractStridedSlice S8x128 ![rowA t + d, 128 * b.val] r (rowA_slices d hd b t) (ix2 j l)
      = r (ix2 R ⟨128 * b.val + l.val, by have := b.isLt; have := l.isLt; omega⟩) := by
  refine extractStridedSlice_apply _ r _ _ _ fun a => ?_
  match a with
  | ⟨0, _⟩ => exact hR
  | ⟨1, _⟩ => rfl
/-- The rotation by four swaps the two halves. -/
theorem rot_apply (x : FVec F S8x128 .f32) (j j' : Fin 8) (l : Fin 128) (h : j'.val = (j.val + 4) % 8) :
    dynamicRotate 0 4#32 none x rotates_S8x128_d0 (ix2 j l) = x (ix2 j' l) := by
  refine dynamicRotate_apply _ _ _ _ _ _ fun b => ?_
  match b with
  | ⟨0, _⟩ => exact h
  | ⟨1, _⟩ => rfl

/-- A tile's element: one element of the product times the scale. -/
theorem tileVal_apply (r : FVec F S768x256 .f32) (sc : FVec F S8x128 .f32) (b : Fin 2) (t : Fin 96) (j : Fin 8) (l : Fin 128) :
    tileVal r sc loMask b t (ix2 j l)
      = FloatOps.mulf (r (ix2 (selRow t j) ⟨128 * b.val + l.val, by have := b.isLt; have := l.isLt; omega⟩)) (sc (ix2 j l)) := by
  have ht := t.isLt
  have hj := j.isLt
  unfold tileVal
  refine congrArg (fun z => FloatOps.mulf z (sc (ix2 j l))) ?_
  have hswap : (j.val + 4) % 8 < 8 := Nat.mod_lt _ (by decide)
  by_cases hp : t.val % 2 = 0
  · rw [if_pos hp, select_apply]
    by_cases hlo : j.val < 4
    · rw [loMask_lo j l hlo, select_one]
      exact slice_apply r b t 0 (.inl rfl) j l _ (by show 64 * (t.val / 8) + 32 * (j.val / 4) + 4 * (t.val % 8) + j.val % 4 = 64 * (t.val / 8) + 8 * (t.val % 8 / 2) + 0 + j.val; omega)
    · rw [loMask_hi j l hlo, select_zero, rot_apply _ j ⟨(j.val + 4) % 8, hswap⟩ l rfl]
      exact slice_apply r b t 32 (.inr rfl) _ l _ (by show 64 * (t.val / 8) + 32 * (j.val / 4) + 4 * (t.val % 8) + j.val % 4 = 64 * (t.val / 8) + 8 * (t.val % 8 / 2) + 32 + (j.val + 4) % 8; omega)
  · rw [if_neg hp, select_apply]
    by_cases hlo : j.val < 4
    · rw [loMask_lo j l hlo, select_one, rot_apply _ j ⟨(j.val + 4) % 8, hswap⟩ l rfl]
      exact slice_apply r b t 0 (.inl rfl) _ l _ (by show 64 * (t.val / 8) + 32 * (j.val / 4) + 4 * (t.val % 8) + j.val % 4 = 64 * (t.val / 8) + 8 * (t.val % 8 / 2) + 0 + (j.val + 4) % 8; omega)
    · rw [loMask_hi j l hlo, select_zero]
      exact slice_apply r b t 32 (.inr rfl) j l _ (by show 64 * (t.val / 8) + 32 * (j.val / 4) + 4 * (t.val % 8) + j.val % 4 = 64 * (t.val / 8) + 8 * (t.val % 8 / 2) + 32 + j.val; omega)

/-! ## The permuted block -/

/-- The block of weights as the product takes it. -/
def lhsOf (w : FVec F S1x96x28x8x128 .fp8e4m3) : FVec F S768x3584 .fp8e4m3 :=
  shapeCast S768x3584 (transpose S12x2x8x4x28x128 [0, 3, 1, 4, 2, 5] (shapeCast S12x8x28x2x4x128 (shapeCast S96x28x8x128 w shapeCasts_S1x96x28x8x128_S96x28x8x128)
      shapeCasts_S96x28x8x128_S12x8x28x2x4x128) transposes_S12x8x28x2x4x128_p0_3_1_4_2_5_S12x2x8x4x28x128) shapeCasts_S12x2x8x4x28x128_S768x3584

/-- Row `selRow t j` of it is row `j` of the block's tile `t`. -/
theorem lhs_apply (w : FVec F S1x96x28x8x128 .fp8e4m3) (t : Fin 96) (j : Fin 8) (k : Fin 3584) (h1 : k.val / 128 < 28) (h2 : k.val % 128 < 128) :
    lhsOf w (ix2 (selRow t j) k) = w (ix5 0 t ⟨k.val / 128, h1⟩ j ⟨k.val % 128, h2⟩) := by
  have ht := t.isLt
  have hj := j.isLt
  have hk := k.isLt
  unfold lhsOf
  rw [shapeCast_apply _ _ _ (ix6 (⟨t.val / 8, by omega⟩ : Fin 12) (⟨j.val / 4, by omega⟩ : Fin 2) (⟨t.val % 8, by omega⟩ : Fin 8) (⟨j.val % 4, by omega⟩ : Fin 4)
    (⟨k.val / 128, h1⟩ : Fin 28) (⟨k.val % 128, h2⟩ : Fin 128)) (by
      rw [Shape.rowMajor_val_six, Shape.rowMajor_val_two]
      show ((((t.val / 8 * 2 + j.val / 4) * 8 + t.val % 8) * 4 + j.val % 4) * 28 + k.val / 128) * 128 + k.val % 128
        = (64 * (t.val / 8) + 32 * (j.val / 4) + 4 * (t.val % 8) + j.val % 4) * 3584 + k.val
      omega)]
  rw [transpose_apply _ _ _ _ (ix6 (⟨t.val / 8, by omega⟩ : Fin 12) (⟨t.val % 8, by omega⟩ : Fin 8) (⟨k.val / 128, h1⟩ : Fin 28) (⟨j.val / 4, by omega⟩ : Fin 2)
    (⟨j.val % 4, by omega⟩ : Fin 4) (⟨k.val % 128, h2⟩ : Fin 128)) (fun b => by
      match b with
      | ⟨0, _⟩ => rfl
      | ⟨1, _⟩ => rfl
      | ⟨2, _⟩ => rfl
      | ⟨3, _⟩ => rfl
      | ⟨4, _⟩ => rfl
      | ⟨5, _⟩ => rfl)]
  rw [shapeCast_apply _ _ _ (ix4 t (⟨k.val / 128, h1⟩ : Fin 28) j (⟨k.val % 128, h2⟩ : Fin 128)) (by
      rw [Shape.rowMajor_val_six, Shape.rowMajor_val_four]
      show ((t.val * 28 + k.val / 128) * 8 + j.val) * 128 + k.val % 128
        = ((((t.val / 8 * 8 + t.val % 8) * 28 + k.val / 128) * 2 + j.val / 4) * 4 + j.val % 4) * 128 + k.val % 128
      omega)]
  refine (shapeCast_dropUnit_apply _ _ _ _).trans (congrArg w (funext fun a => ?_))
  match a with
  | ⟨0, _⟩ => rfl
  | ⟨1, _⟩ => rfl
  | ⟨2, _⟩ => rfl
  | ⟨3, _⟩ => rfl
  | ⟨4, _⟩ => rfl

/-! ## Half a block -/

/-- The same for half a block: the row of its product that tile `t` shows at its row `j`. -/
def selRow48 (t : Fin 48) (j : Fin 8) : Fin 384 :=
  ⟨64 * (t.val / 8) + 32 * (j.val / 4) + 4 * (t.val % 8) + j.val % 4, by have := t.isLt; have := j.isLt; omega⟩

/-- Eight rows of the product at row `j`. -/
theorem slice48_apply (r : FVec F S384x256 .f32) (b : Fin 2) (t : Fin 48) (d : Nat) (hd : d = 0 ∨ d = 32) (j : Fin 8) (l : Fin 128) (R : Fin 384)
    (hR : R.val = 64 * (t.val / 8) + 8 * (t.val % 8 / 2) + d + j.val) :
    extractStridedSlice S8x128 ![64 * (t.val / 8) + 8 * (t.val % 8 / 2) + d, 128 * b.val] r (rowA_slices48 d hd b t) (ix2 j l)
      = r (ix2 R ⟨128 * b.val + l.val, by have := b.isLt; have := l.isLt; omega⟩) := by
  refine extractStridedSlice_apply _ r _ _ _ fun a => ?_
  match a with
  | ⟨0, _⟩ => exact hR
  | ⟨1, _⟩ => rfl
/-- A tile's element: one element of the product times the scale. -/
theorem tileVal48_apply (r : FVec F S384x256 .f32) (sc : FVec F S8x128 .f32) (b : Fin 2) (t : Fin 48) (j : Fin 8) (l : Fin 128) :
    tileVal48 r sc loMask b t (ix2 j l)
      = FloatOps.mulf (r (ix2 (selRow48 t j) ⟨128 * b.val + l.val, by have := b.isLt; have := l.isLt; omega⟩)) (sc (ix2 j l)) := by
  have ht := t.isLt
  have hj := j.isLt
  unfold tileVal48
  refine congrArg (fun z => FloatOps.mulf z (sc (ix2 j l))) ?_
  have hswap : (j.val + 4) % 8 < 8 := Nat.mod_lt _ (by decide)
  by_cases hp : t.val % 2 = 0
  · rw [if_pos hp, select_apply]
    by_cases hlo : j.val < 4
    · rw [loMask_lo j l hlo, select_one]
      exact slice48_apply r b t 0 (.inl rfl) j l _ (by show 64 * (t.val / 8) + 32 * (j.val / 4) + 4 * (t.val % 8) + j.val % 4 = 64 * (t.val / 8) + 8 * (t.val % 8 / 2) + 0 + j.val; omega)
    · rw [loMask_hi j l hlo, select_zero, rot_apply _ j ⟨(j.val + 4) % 8, hswap⟩ l rfl]
      exact slice48_apply r b t 32 (.inr rfl) _ l _ (by show 64 * (t.val / 8) + 32 * (j.val / 4) + 4 * (t.val % 8) + j.val % 4 = 64 * (t.val / 8) + 8 * (t.val % 8 / 2) + 32 + (j.val + 4) % 8; omega)
  · rw [if_neg hp, select_apply]
    by_cases hlo : j.val < 4
    · rw [loMask_lo j l hlo, select_one, rot_apply _ j ⟨(j.val + 4) % 8, hswap⟩ l rfl]
      exact slice48_apply r b t 0 (.inl rfl) _ l _ (by show 64 * (t.val / 8) + 32 * (j.val / 4) + 4 * (t.val % 8) + j.val % 4 = 64 * (t.val / 8) + 8 * (t.val % 8 / 2) + 0 + (j.val + 4) % 8; omega)
    · rw [loMask_hi j l hlo, select_zero]
      exact slice48_apply r b t 32 (.inr rfl) j l _ (by show 64 * (t.val / 8) + 32 * (j.val / 4) + 4 * (t.val % 8) + j.val % 4 = 64 * (t.val / 8) + 8 * (t.val % 8 / 2) + 32 + j.val; omega)

/-- The block of weights as the product takes it. -/
def lhs48 (w : FVec F S1x48x28x8x128 .fp8e4m3) : FVec F S384x3584 .fp8e4m3 :=
  shapeCast S384x3584 (transpose S6x2x8x4x28x128 [0, 3, 1, 4, 2, 5] (shapeCast S6x8x28x2x4x128 (shapeCast S48x28x8x128 w shapeCasts_S1x48x28x8x128_S48x28x8x128)
      shapeCasts_S48x28x8x128_S6x8x28x2x4x128) transposes_S6x8x28x2x4x128_p0_3_1_4_2_5_S6x2x8x4x28x128) shapeCasts_S6x2x8x4x28x128_S384x3584

/-- Row `selRow48 t j` of it is row `j` of the block's tile `t`. -/
theorem lhs48_apply (w : FVec F S1x48x28x8x128 .fp8e4m3) (t : Fin 48) (j : Fin 8) (k : Fin 3584) (h1 : k.val / 128 < 28) (h2 : k.val % 128 < 128) :
    lhs48 w (ix2 (selRow48 t j) k) = w (ix5 0 t ⟨k.val / 128, h1⟩ j ⟨k.val % 128, h2⟩) := by
  have ht := t.isLt
  have hj := j.isLt
  have hk := k.isLt
  unfold lhs48
  rw [shapeCast_apply _ _ _ (ix6 (⟨t.val / 8, by omega⟩ : Fin 6) (⟨j.val / 4, by omega⟩ : Fin 2) (⟨t.val % 8, by omega⟩ : Fin 8) (⟨j.val % 4, by omega⟩ : Fin 4)
    (⟨k.val / 128, h1⟩ : Fin 28) (⟨k.val % 128, h2⟩ : Fin 128)) (by
      rw [Shape.rowMajor_val_six, Shape.rowMajor_val_two]
      show ((((t.val / 8 * 2 + j.val / 4) * 8 + t.val % 8) * 4 + j.val % 4) * 28 + k.val / 128) * 128 + k.val % 128
        = (64 * (t.val / 8) + 32 * (j.val / 4) + 4 * (t.val % 8) + j.val % 4) * 3584 + k.val
      omega)]
  rw [transpose_apply _ _ _ _ (ix6 (⟨t.val / 8, by omega⟩ : Fin 6) (⟨t.val % 8, by omega⟩ : Fin 8) (⟨k.val / 128, h1⟩ : Fin 28) (⟨j.val / 4, by omega⟩ : Fin 2)
    (⟨j.val % 4, by omega⟩ : Fin 4) (⟨k.val % 128, h2⟩ : Fin 128)) (fun b => by
      match b with
      | ⟨0, _⟩ => rfl
      | ⟨1, _⟩ => rfl
      | ⟨2, _⟩ => rfl
      | ⟨3, _⟩ => rfl
      | ⟨4, _⟩ => rfl
      | ⟨5, _⟩ => rfl)]
  rw [shapeCast_apply _ _ _ (ix4 t (⟨k.val / 128, h1⟩ : Fin 28) j (⟨k.val % 128, h2⟩ : Fin 128)) (by
      rw [Shape.rowMajor_val_six, Shape.rowMajor_val_four]
      show ((t.val * 28 + k.val / 128) * 8 + j.val) * 128 + k.val % 128
        = ((((t.val / 8 * 8 + t.val % 8) * 28 + k.val / 128) * 2 + j.val / 4) * 4 + j.val % 4) * 128 + k.val % 128
      omega)]
  refine (shapeCast_dropUnit_apply _ _ _ _).trans (congrArg w (funext fun a => ?_))
  match a with
  | ⟨0, _⟩ => rfl
  | ⟨1, _⟩ => rfl
  | ⟨2, _⟩ => rfl
  | ⟨3, _⟩ => rfl
  | ⟨4, _⟩ => rfl

end Tile

/-! ## The product -/

theorem prod_apply (w : FVec Ideal S1x96x28x8x128 .fp8e4m3) (q : FVec Ideal S256x3584 .fp8e4m3) (r : Fin 768) (c : Fin 256) :
    prod w q (ix2 r c) = ∑ k : Fin 3584, lhsOf w (ix2 r k) * q (ix2 c k) := by
  have e : shapeCast S256x3584 q shapeCasts_S256x3584_S256x3584 = q := funext fun x => shapeCast_apply _ _ _ x rfl
  unfold prod
  rw [e]
  refine (Ideal.matmul_transposedRhs_apply (M := 768) (K := 3584) (N := 256) none (lhsOf w) q (constant S768x256 .f32 0x00000000#32) r c).trans ?_
  refine Eq.trans (congrArg (· + _) ?_) (zero_add _)
  exact Ideal.ofBits_zero_f32

theorem prod48_apply (w : FVec Ideal S1x48x28x8x128 .fp8e4m3) (q : FVec Ideal S256x3584 .fp8e4m3) (r : Fin 384) (c : Fin 256) :
    prod48 w q (ix2 r c) = ∑ k : Fin 3584, lhs48 w (ix2 r k) * q (ix2 c k) := by
  have e : shapeCast S256x3584 q shapeCasts_S256x3584_S256x3584 = q := funext fun x => shapeCast_apply _ _ _ x rfl
  unfold prod48
  rw [e]
  refine (Ideal.matmul_transposedRhs_apply (M := 384) (K := 3584) (N := 256) none (lhs48 w) q (constant S384x256 .f32 0x00000000#32) r c).trans ?_
  refine Eq.trans (congrArg (· + _) ?_) (zero_add _)
  exact Ideal.ofBits_zero_f32

/-- A projected block's element. -/
theorem pv_apply (w : FVec Ideal S1x96x28x8x128 .fp8e4m3) (q : FVec Ideal S256x3584 .fp8e4m3) (s : Vec Ideal S2x8x128 .f32) (b : Fin 2) (n : Fin 768) (l : Fin 128)
    (t : Fin 96) (j : Fin 8) (h : n.val = 8 * t.val + j.val) :
    pv w q s (ix3 b n l) = (∑ k : Fin 3584, w (ix5 0 t ⟨k.val / 128, by have := k.isLt; omega⟩ j ⟨k.val % 128, Nat.mod_lt _ (by decide)⟩)
      * q (ix2 ⟨128 * b.val + l.val, by have := b.isLt; have := l.isLt; omega⟩ k)) * s (ix3 b j l) := by
  have hj := j.isLt
  have et : (⟨n.val / 8, by have := n.isLt; omega⟩ : Fin 96) = t := Fin.ext (by show n.val / 8 = t.val; omega)
  have ej : (⟨n.val % 8, Nat.mod_lt _ (by decide)⟩ : Fin 8) = j := Fin.ext (by show n.val % 8 = j.val; omega)
  show tileVal (prod w q) (scRow s b) loMask b ⟨n.val / 8, _⟩ (ix2 ⟨n.val % 8, _⟩ l) = _
  rw [et, ej, tileVal_apply, prod_apply]
  refine congrArg (· * s (ix3 b j l)) (Finset.sum_congr rfl fun k _ => ?_)
  rw [lhs_apply]

/-- A result's element: channel `n` of the weights against the row's codes, times the row's scale. -/
theorem outOf_apply (fw : Vec Ideal S2058x28x8x128 .fp8e4m3) (q : FVec Ideal S256x3584 .fp8e4m3) (g : Vec Ideal S256x128 .f32) (h : Fin 2) (y : S2x7680x128.Idx)
    (R : Fin 2058) (j : Fin 8) (hR : 8 * R.val + j.val = (if h.val = 0 then 7680 else 0) + (y 1).val) :
    outOf fw q (scOf g) h y = (∑ k : Fin 3584, fw (ix4 R ⟨k.val / 128, by have := k.isLt; omega⟩ j ⟨k.val % 128, Nat.mod_lt _ (by decide)⟩)
      * q (ix2 ⟨128 * (y 0).val + (y 2).val, by have h : (y 0).val < 2 := (y 0).isLt; have h : (y 2).val < 128 := (y 2).isLt; omega⟩ k))
      * g (ix2 ⟨128 * (y 0).val + (y 2).val, by have h : (y 0).val < 2 := (y 0).isLt; have h : (y 2).val < 128 := (y 2).isLt; omega⟩
          ⟨j.val, by have := j.isLt; omega⟩) := by
  have hy : (y 1).val < 7680 := (y 1).isLt
  have hj := j.isLt
  have hh := h.isLt
  unfold outOf
  refine (pv_apply _ q (scOf g) (y 0) _ (y 2) ⟨48 * h.val + (y 1).val % 384 / 8, by omega⟩ j ?_).trans ?_
  · show 384 * h.val + (y 1).val % 384 = 8 * (48 * h.val + (y 1).val % 384 / 8) + j.val
    split at hR <;> omega
  · have eR : rowOf ⟨(y 1).val / 384, by omega⟩ ⟨48 * h.val + (y 1).val % 384 / 8, by omega⟩ = R := by
      refine Fin.ext ?_
      show (if 48 * h.val + (y 1).val % 384 / 8 < 48 then 960 else 0) + 48 * ((y 1).val / 384) + (48 * h.val + (y 1).val % 384 / 8) % 48 = R.val
      split at hR <;> split <;> omega
    refine congrArg (· * _) (Finset.sum_congr rfl fun k _ => congrArg (· * _) ?_)
    exact congrArg (fun z => fw (ix4 z ⟨k.val / 128, by have := k.isLt; omega⟩ j ⟨k.val % 128, Nat.mod_lt _ (by decide)⟩)) eR

/-- The same for an element of the channels kept apart. -/
theorem Bc_apply (fw : Vec Ideal S2058x28x8x128 .fp8e4m3) (q : FVec Ideal S256x3584 .fp8e4m3) (g : Vec Ideal S256x128 .f32) (y : S2x1152x128.Idx)
    (R : Fin 2058) (j : Fin 8) (hR : 8 * R.val + j.val = 15360 + (y 1).val) :
    Bc fw q (scOf g) y = (∑ k : Fin 3584, fw (ix4 R ⟨k.val / 128, by have := k.isLt; omega⟩ j ⟨k.val % 128, Nat.mod_lt _ (by decide)⟩)
      * q (ix2 ⟨128 * (y 0).val + (y 2).val, by have h : (y 0).val < 2 := (y 0).isLt; have h : (y 2).val < 128 := (y 2).isLt; omega⟩ k))
      * g (ix2 ⟨128 * (y 0).val + (y 2).val, by have h : (y 0).val < 2 := (y 0).isLt; have h : (y 2).val < 128 := (y 2).isLt; omega⟩
          ⟨j.val, by have := j.isLt; omega⟩) := by
  have hj := j.isLt
  have hr := R.isLt
  have ej : (⟨(y 1).val % 8, Nat.mod_lt _ (by decide)⟩ : Fin 8) = j := Fin.ext (by show (y 1).val % 8 = j.val; omega)
  unfold Bc
  by_cases h : (y 1).val < 768
  · rw [dif_pos h, ej]
    refine (tileVal_apply _ _ (y 0) _ j (y 2)).trans ?_
    rw [prod_apply]
    refine congrArg (· * _) (Finset.sum_congr rfl fun k _ => congrArg (· * _) ?_)
    rw [lhs_apply _ _ _ k (by have := k.isLt; omega) (Nat.mod_lt _ (by decide))]
    exact congrArg (fun z => fw (ix4 z ⟨k.val / 128, by have := k.isLt; omega⟩ j ⟨k.val % 128, Nat.mod_lt _ (by decide)⟩))
      (Fin.ext (by show 1920 + (y 1).val / 8 = R.val; omega))
  · rw [dif_neg h, ej]
    refine (tileVal48_apply _ _ (y 0) _ j (y 2)).trans ?_
    rw [prod48_apply]
    refine congrArg (· * _) (Finset.sum_congr rfl fun k _ => congrArg (· * _) ?_)
    rw [lhs48_apply _ _ _ k (by have := k.isLt; omega) (Nat.mod_lt _ (by decide))]
    unfold wb1
    have ht : ((y 1).val - 768) / 8 < 42 := by omega
    refine (dif_pos ht).trans ?_
    exact congrArg (fun z => fw (ix4 z ⟨k.val / 128, by have := k.isLt; omega⟩ j ⟨k.val % 128, Nat.mod_lt _ (by decide)⟩))
      (Fin.ext (by show 2016 + ((y 1).val - 768) / 8 = R.val; omega))

/-! ## What the region's operands hold: the arguments, re-laid by the host -/

variable (m : (ℓ : Loc nD τ sig) → Buf (Elt Ideal) ℓ)

theorem V_w (c : Dev nD) : V m c main_v2 = transpose S2058x28x8x128 [0, 2, 1, 3] (shapeCast S2058x8x28x128
    (transpose S16464x3584 [1, 0] (m ((c : Thread nD τ).loc main_arg2)) transposes_S3584x16464_S16464x3584_1_0) shapeCasts_S16464x3584_S2058x8x28x128)
    transposes_S2058x8x28x128_S2058x28x8x128_0_2_1_3 := by
  unfold_abbrev_sides
  after_results
  rfl
theorem V_q (c : Dev nD) : V m c main_v3 = shapeCast S256x3584 (m ((c : Thread nD τ).loc main_arg0)) shapeCasts_S2x128x3584_S256x3584 := by
  unfold_abbrev_sides
  after_results
  rfl
theorem V_s (c : Dev nD) : V m c main_v5 = broadcastInDim S256x128 ![0, 1] bcast_S256x1_S256x128_0_1
    (shapeCast S256x1 (m ((c : Thread nD τ).loc main_arg1)) shapeCasts_S2x128_S256x1) := by
  unfold_abbrev_sides
  after_results
  rfl
theorem V_ws (c : Dev nD) : V m c main_v6 = shapeCast S1x16464 (m ((c : Thread nD τ).loc main_arg3)) shapeCasts_S16464_S1x16464 := by
  unfold_abbrev_sides
  after_results
  rfl

/-- The re-tiled weights, element by element. -/
theorem w_apply (x : Vec Ideal S3584x16464 .fp8e4m3) (R : Fin 2058) (kb : Fin 28) (j : Fin 8) (l : Fin 128) (k : Fin 3584) (n : Fin 16464)
    (hk : k.val = 128 * kb.val + l.val) (hn : n.val = 8 * R.val + j.val) :
    transpose S2058x28x8x128 [0, 2, 1, 3] (shapeCast S2058x8x28x128 (transpose S16464x3584 [1, 0] x transposes_S3584x16464_S16464x3584_1_0)
      shapeCasts_S16464x3584_S2058x8x28x128) transposes_S2058x8x28x128_S2058x28x8x128_0_2_1_3 (ix4 R kb j l) = x (ix2 k n) := by
  rw [transpose_apply _ _ _ _ (ix4 R j kb l) (fun b => by
      match b with
      | ⟨0, _⟩ => rfl
      | ⟨1, _⟩ => rfl
      | ⟨2, _⟩ => rfl
      | ⟨3, _⟩ => rfl)]
  rw [shapeCast_apply _ _ _ (ix2 n k) (by
      rw [Shape.rowMajor_val_two, Shape.rowMajor_val_four]
      show n.val * 3584 + k.val = ((R.val * 8 + j.val) * 28 + kb.val) * 128 + l.val
      rw [hk, hn]; omega)]
  exact transpose_apply _ _ _ _ _ (fun b => by
    match b with
    | ⟨0, _⟩ => rfl
    | ⟨1, _⟩ => rfl)
/-- The scales, the same on every lane. -/
theorem s_apply (x : Vec Ideal S256x1 .f32) (r : Fin 256) (l : Fin 128) :
    broadcastInDim S256x128 ![0, 1] bcast_S256x1_S256x128_0_1 x (ix2 r l) = x (ix2 r 0) :=
  broadcastInDim_apply _ _ _ _ _ fun a => by
    match a with
    | ⟨0, _⟩ => rfl
    | ⟨1, _⟩ => rfl

/-- The codes are the region's first operand as a whole, the scales its second. -/
theorem codes_eq (c : Dev nD) : codes m c = V m c main_v3 := by
  funext i
  refine congrArg (V m c main_v3) (funext fun a => ?_)
  match a with
  | ⟨0, _⟩ => exact Fin.ext (by show 0 + 1 * (i 0).val = (i 0).val; omega)
  | ⟨1, _⟩ => exact Fin.ext (by show 0 + 1 * (i 1).val = (i 1).val; omega)
theorem rowScales_eq (c : Dev nD) : rowScales m c = V m c main_v5 := by
  funext i
  refine congrArg (V m c main_v5) (funext fun a => ?_)
  match a with
  | ⟨0, _⟩ => exact Fin.ext (by show 0 + 1 * (i 0).val = (i 0).val; omega)
  | ⟨1, _⟩ => exact Fin.ext (by show 0 + 1 * (i 1).val = (i 1).val; omega)

end Cert.Project.Hand

end
-- ==== Proof.Value.ProjectReference.lean ====
/-
  What the in-projection's reference leaves in its three result arrays, over the reals: at batch `b`, channel `n`,
  position `l`, the product of the row's codes and the channel's column of weights, times the row's scale. The first result
  reads the 7680 columns from 7680 on, the second the first 7680; the third keeps, of the 8704 columns from 7680 on, the last
  three positions, each times its channel's scale.
-/
module

public import proofs.«01_k».proof.Proof.Gen.ProjectReferenceIdeal.Value
public import Idealize.ShloMosaic.Lib.Pointwise

@[expose] public section

set_option maxRecDepth 65536

noncomputable section

namespace Cert.ProjectReferenceIdeal.Hand

open Cert.ProjectReferenceIdeal Cert.ProjectReferenceIdeal.Gen
open Idealize.ShloMosaic Idealize.ShloMosaic.TcCoe

variable (m : (ℓ : Loc nD τ sig) → Buf (Elt Ideal) ℓ)

/-- The one grid point. -/
abbrev t0 : Fin cfg0.N := ⟨0, by decide⟩

/-! ## What the region's operands hold: the arguments, re-laid by the host -/

theorem V_q (c : Dev nD) : V m c main_v0 = shapeCast S256x3584 (m ((c : Thread nD τ).loc main_arg0)) shapeCasts_S2x128x3584_S256x3584 := by
  unfold_abbrev_sides
  after_results
  rfl
theorem V_s (c : Dev nD) : V m c main_v1 = shapeCast S256x1 (m ((c : Thread nD τ).loc main_arg1)) shapeCasts_S2x128_S256x1 := by
  unfold_abbrev_sides
  after_results
  rfl
theorem V_ws (c : Dev nD) : V m c main_v2 = shapeCast S1x16464 (m ((c : Thread nD τ).loc main_arg3)) shapeCasts_S16464_S1x16464 := by
  unfold_abbrev_sides
  after_results
  rfl

/-! ## Each window's block is the whole array -/

theorem iblk0 (c : Dev nD) : iblk m c 0 t0 = V m c main_v0 := by
  funext i
  refine congrArg (V m c main_v0) (funext fun a => ?_)
  match a with
  | ⟨0, _⟩ => exact Fin.ext (by show 0 + 1 * (i 0).val = (i 0).val; omega)
  | ⟨1, _⟩ => exact Fin.ext (by show 0 + 1 * (i 1).val = (i 1).val; omega)
theorem iblk1 (c : Dev nD) : iblk m c 1 t0 = V m c main_v1 := by
  funext i
  refine congrArg (V m c main_v1) (funext fun a => ?_)
  match a with
  | ⟨0, _⟩ => exact Fin.ext (by show 0 + 1 * (i 0).val = (i 0).val; omega)
  | ⟨1, _⟩ => exact Fin.ext (by show 0 + 1 * (i 1).val = (i 1).val; omega)
theorem iblk2 (c : Dev nD) : iblk m c 2 t0 = V m c main_arg2 := by
  funext i
  refine congrArg (V m c main_arg2) (funext fun a => ?_)
  match a with
  | ⟨0, _⟩ => exact Fin.ext (by show 0 + 1 * (i 0).val = (i 0).val; omega)
  | ⟨1, _⟩ => exact Fin.ext (by show 0 + 1 * (i 1).val = (i 1).val; omega)
theorem iblk3 (c : Dev nD) : iblk m c 3 t0 = V m c main_v2 := by
  funext i
  refine congrArg (V m c main_v2) (funext fun a => ?_)
  match a with
  | ⟨0, _⟩ => exact Fin.ext (by show 0 + 1 * (i 0).val = (i 0).val; omega)
  | ⟨1, _⟩ => exact Fin.ext (by show 0 + 1 * (i 1).val = (i 1).val; omega)

/-! ## The results -/

/-- A load at offset zero of the whole of an array. -/
theorem ld_zero {S : Shape} {e : EltTy} (x : Vec Ideal S e) (o : Fin S.rank → Nat) (ho : ∀ a, o a = 0)
    (h : ∀ a, o a + S.size a ≤ S.size a) : View.ld x (Rect.unit o S.size h) = x := by
  funext i
  refine congrArg x (funext fun a => Fin.ext ?_)
  show o a + 1 * (i a).val = (i a).val
  rw [ho a]; omega

/-- The projection at row `r`, column `n`. -/
def projAt (q : Vec Ideal S256x3584 .fp8e4m3) (s : Vec Ideal S256x1 .f32) (w : Vec Ideal S3584x16464 .fp8e4m3) (r : Fin 256) (n : Fin 16464) : EReal :=
  (∑ k : Fin 3584, q (ix2 r k) * w (ix2 k n)) * s (ix2 r 0)

theorem pay_apply (q : Vec Ideal S256x3584 .fp8e4m3) (s : Vec Ideal S256x1 .f32) (w : Vec Ideal S3584x16464 .fp8e4m3) (i : S256x16464.Idx) :
    k0_pay7 q w s i = projAt q s w (i 0) (i 1) := by
  unfold projAt
  pointwise [k0_pay7]

/-- A result's element: batch, channel and position as the projection's row and column, the channels from `d` on. -/
def refAt (q : Vec Ideal S256x3584 .fp8e4m3) (s : Vec Ideal S256x1 .f32) (w : Vec Ideal S3584x16464 .fp8e4m3) (d : Nat) (hd : d ≤ 7680)
    (y : S2x7680x128.Idx) : EReal :=
  projAt q s w ⟨(y 0).val * 128 + (y 2).val, by have h : (y 0).val < 2 := (y 0).isLt; have h : (y 2).val < 128 := (y 2).isLt; omega⟩
    ⟨(y 1).val + d, by have h : (y 1).val < 7680 := (y 1).isLt; omega⟩

theorem out4_eq (q : Vec Ideal S256x3584 .fp8e4m3) (s : Vec Ideal S256x1 .f32) (w : Vec Ideal S3584x16464 .fp8e4m3) (ws : Vec Ideal S1x16464 .f32) :
    out0_4 q s w ws = refAt q s w 7680 (by decide) := by
  have hz : ∀ a : Fin 2, (![0, 0] : Fin 2 → Nat) a = 0 := by intro a; fin_cases a <;> rfl
  funext y
  unfold out0_4
  rw [ld_zero q _ hz, ld_zero w _ hz, ld_zero s _ hz, Value.canon4_eq]
  exact pay_apply q s w _
theorem out5_eq (q : Vec Ideal S256x3584 .fp8e4m3) (s : Vec Ideal S256x1 .f32) (w : Vec Ideal S3584x16464 .fp8e4m3) (ws : Vec Ideal S1x16464 .f32) :
    out0_5 q s w ws = refAt q s w 0 (by decide) := by
  have hz : ∀ a : Fin 2, (![0, 0] : Fin 2 → Nat) a = 0 := by intro a; fin_cases a <;> rfl
  funext y
  unfold out0_5
  rw [ld_zero q _ hz, ld_zero w _ hz, ld_zero s _ hz, Value.canon5_eq]
  exact pay_apply q s w _

/-- The third result's element: the projection at one of the last three positions, times the channel's scale. -/
def refCs (q : Vec Ideal S256x3584 .fp8e4m3) (s : Vec Ideal S256x1 .f32) (w : Vec Ideal S3584x16464 .fp8e4m3) (ws : Vec Ideal S1x16464 .f32)
    (y : S3x2x8704.Idx) : EReal :=
  projAt q s w ⟨(y 1).val * 128 + (125 + (y 0).val), by have h : (y 0).val < 3 := (y 0).isLt; have h : (y 1).val < 2 := (y 1).isLt; omega⟩
      ⟨(y 2).val + 7680, by have h : (y 2).val < 8704 := (y 2).isLt; omega⟩
    * ws (ix2 0 ⟨7680 + (y 2).val, by have h : (y 2).val < 8704 := (y 2).isLt; omega⟩)

/-- The columns from 7680 on, scaled. -/
theorem scaled_apply (q : Vec Ideal S256x3584 .fp8e4m3) (s : Vec Ideal S256x1 .f32) (w : Vec Ideal S3584x16464 .fp8e4m3) (ws : Vec Ideal S1x16464 .f32)
    (r : Fin 256) (n : Fin 8704) :
    k0_pay12 q w s ws (ix2 r n) = projAt q s w r ⟨n.val + 7680, by have := n.isLt; omega⟩ * ws (ix2 0 ⟨7680 + n.val, by have := n.isLt; omega⟩) := by
  have hn := n.isLt
  unfold k0_pay12
  refine (extractStridedSlice_apply _ _ _ _ (ix2 r ⟨n.val + 7680, by omega⟩) fun a => ?_).trans ?_
  · match a with
    | ⟨0, _⟩ => show r.val = 0 + r.val; omega
    | ⟨1, _⟩ => show n.val + 7680 = 7680 + n.val; omega
  · show k0_pay7 q w s (ix2 r ⟨n.val + 7680, _⟩) * _ = _
    rw [pay_apply]
    refine congrArg (_ * ·) ((broadcastTo_apply _ _ _ (ix2 0 ⟨7680 + n.val, by omega⟩) fun a => ?_).trans (shapeCast_apply _ _ _ _ rfl))
    match a with
    | ⟨0, _⟩ => rfl
    | ⟨1, _⟩ => show 7680 + n.val = n.val + 7680; omega

/-- One row of it, as stored. -/
theorem row_apply (v : FVec Ideal S256x8704 .f32) (o : Fin 256) (h : S256x8704.Slices ![o.val, 0] S1x8704) (x : S1x1x8704.Idx) :
    shapeCast S1x1x8704 (shapeCast S8704 (extractStridedSlice S1x8704 ![o.val, 0] v h) shapeCasts_S1x8704_S8704) shapeCasts_S8704_S1x1x8704 x = v (ix2 o (⟨(x 2).val, (x 2).isLt⟩ : Fin 8704)) := by
  have h0 : (x 0).val < 1 := (x 0).isLt
  have h1 : (x 1).val < 1 := (x 1).isLt
  refine (shapeCast_apply _ _ x (ix1 (⟨(x 2).val, (x 2).isLt⟩ : Fin 8704)) (by
    rw [Shape.rowMajor_val_one, Shape.rowMajor_val_three]
    show (x 2).val = ((x 0).val * 1 + (x 1).val) * 8704 + (x 2).val
    omega)).trans ?_
  refine (shapeCast_apply _ _ _ (ix2 (0 : Fin 1) (⟨(x 2).val, (x 2).isLt⟩ : Fin 8704)) (by
    rw [Shape.rowMajor_val_one, Shape.rowMajor_val_two]
    show 0 * 8704 + (x 2).val = (x 2).val
    omega)).trans ?_
  refine extractStridedSlice_apply _ _ _ _ _ fun a => ?_
  match a with
  | ⟨0, _⟩ => rfl
  | ⟨1, _⟩ => show (x 2).val = 0 + (x 2).val; omega

/-- The row stored for batch `b` and position `125 + j` is the third result there. -/
theorem piece_apply (q : Vec Ideal S256x3584 .fp8e4m3) (s : Vec Ideal S256x1 .f32) (w : Vec Ideal S3584x16464 .fp8e4m3) (ws : Vec Ideal S1x16464 .f32)
    (o : Fin 256) (h : S256x8704.Slices ![o.val, 0] S1x8704) (x : S1x1x8704.Idx) (y : S3x2x8704.Idx)
    (eo : o.val = 128 * (y 1).val + 125 + (y 0).val) (e2 : (y 2).val = (x 2).val) :
    shapeCast S1x1x8704 (shapeCast S8704 (extractStridedSlice S1x8704 ![o.val, 0] (k0_pay12 q w s ws) h) shapeCasts_S1x8704_S8704) shapeCasts_S8704_S1x1x8704 x
      = refCs q s w ws y := by
  have hx : (x 2).val < 8704 := (x 2).isLt
  refine (row_apply _ o h x).trans ((scaled_apply q s w ws o ⟨(x 2).val, (x 2).isLt⟩).trans ?_)
  unfold refCs
  have e : (⟨(x 2).val, (x 2).isLt⟩ : Fin 8704) = ⟨(y 2).val, (y 2).isLt⟩ := Fin.ext e2.symm
  rw [e]
  refine congrArg (· * _) (congrArg (fun r => projAt q s w r _) (Fin.ext ?_))
  show o.val = (y 1).val * 128 + (125 + (y 0).val)
  omega

theorem out6_eq (q : Vec Ideal S256x3584 .fp8e4m3) (s : Vec Ideal S256x1 .f32) (w : Vec Ideal S3584x16464 .fp8e4m3) (ws : Vec Ideal S1x16464 .f32) :
    out0_6 q s w ws = refCs q s w ws := by
  have hz : ∀ a : Fin 2, (![0, 0] : Fin 2 → Nat) a = 0 := by intro a; fin_cases a <;> rfl
  funext y
  unfold out0_6 k0_pay14
  rw [ld_zero q _ hz, ld_zero w _ hz, ld_zero s _ hz, ld_zero ws _ hz]
  refine View.canon_apply_of_pieces (Val := Elt Ideal) (e := .f32) (refCs q s w ws) _ ?_ y (cover0_6 _ _ _ _ _ _ y)
  intro pc hpc
  rcases List.mem_cons.mp hpc with rfl | hpc
  · exact fun x => piece_apply q s w ws 255 slices_S256x8704_o255_0_S1x8704 x _ (by have h0 : (x 0).val < 1 := (x 0).isLt; have h1 : (x 1).val < 1 := (x 1).isLt; show 255 = 128 * (1 + 1 * (x 1).val) + 125 + (2 + 1 * (x 0).val); omega) (by show 0 + 1 * (x 2).val = (x 2).val; omega)
  rcases List.mem_cons.mp hpc with rfl | hpc
  · exact fun x => piece_apply q s w ws 254 slices_S256x8704_o254_0_S1x8704 x _ (by have h0 : (x 0).val < 1 := (x 0).isLt; have h1 : (x 1).val < 1 := (x 1).isLt; show 254 = 128 * (1 + 1 * (x 1).val) + 125 + (1 + 1 * (x 0).val); omega) (by show 0 + 1 * (x 2).val = (x 2).val; omega)
  rcases List.mem_cons.mp hpc with rfl | hpc
  · exact fun x => piece_apply q s w ws 253 slices_S256x8704_o253_0_S1x8704 x _ (by have h0 : (x 0).val < 1 := (x 0).isLt; have h1 : (x 1).val < 1 := (x 1).isLt; show 253 = 128 * (1 + 1 * (x 1).val) + 125 + (0 + 1 * (x 0).val); omega) (by show 0 + 1 * (x 2).val = (x 2).val; omega)
  rcases List.mem_cons.mp hpc with rfl | hpc
  · exact fun x => piece_apply q s w ws 127 slices_S256x8704_o127_0_S1x8704 x _ (by have h0 : (x 0).val < 1 := (x 0).isLt; have h1 : (x 1).val < 1 := (x 1).isLt; show 127 = 128 * (0 + 1 * (x 1).val) + 125 + (2 + 1 * (x 0).val); omega) (by show 0 + 1 * (x 2).val = (x 2).val; omega)
  rcases List.mem_cons.mp hpc with rfl | hpc
  · exact fun x => piece_apply q s w ws 126 slices_S256x8704_o126_0_S1x8704 x _ (by have h0 : (x 0).val < 1 := (x 0).isLt; have h1 : (x 1).val < 1 := (x 1).isLt; show 126 = 128 * (0 + 1 * (x 1).val) + 125 + (1 + 1 * (x 0).val); omega) (by show 0 + 1 * (x 2).val = (x 2).val; omega)
  rcases List.mem_cons.mp hpc with rfl | hpc
  · exact fun x => piece_apply q s w ws 125 slices_S256x8704_o125_0_S1x8704 x _ (by have h0 : (x 0).val < 1 := (x 0).isLt; have h1 : (x 1).val < 1 := (x 1).isLt; show 125 = 128 * (0 + 1 * (x 1).val) + 125 + (0 + 1 * (x 0).val); omega) (by show 0 + 1 * (x 2).val = (x 2).val; omega)
  nomatch hpc

/-- The three result arrays at the end. -/
theorem arrAt4_eq (c : Dev nD) : (dats m 0 c).arrAt 4 cfg0.N = refAt (V m c main_v0) (V m c main_v1) (V m c main_arg2) 7680 (by decide) := by
  have hb := Value.blocks4 m c t0 (by decide)
  rw [Value.flushed4, out4_eq, iblk0, iblk1, iblk2] at hb
  funext i
  refine Eq.trans ?_ (congrFun hb i)
  refine congrArg ((dats m 0 c).arrAt 4 cfg0.N) (funext fun a => ?_)
  match a with
  | ⟨0, _⟩ => exact Fin.ext (by show (i 0).val = 0 + 1 * (i 0).val; omega)
  | ⟨1, _⟩ => exact Fin.ext (by show (i 1).val = 0 + 1 * (i 1).val; omega)
  | ⟨2, _⟩ => exact Fin.ext (by show (i 2).val = 0 + 1 * (i 2).val; omega)
theorem arrAt5_eq (c : Dev nD) : (dats m 0 c).arrAt 5 cfg0.N = refAt (V m c main_v0) (V m c main_v1) (V m c main_arg2) 0 (by decide) := by
  have hb := Value.blocks5 m c t0 (by decide)
  rw [Value.flushed5, out5_eq, iblk0, iblk1, iblk2] at hb
  funext i
  refine Eq.trans ?_ (congrFun hb i)
  refine congrArg ((dats m 0 c).arrAt 5 cfg0.N) (funext fun a => ?_)
  match a with
  | ⟨0, _⟩ => exact Fin.ext (by show (i 0).val = 0 + 1 * (i 0).val; omega)
  | ⟨1, _⟩ => exact Fin.ext (by show (i 1).val = 0 + 1 * (i 1).val; omega)
  | ⟨2, _⟩ => exact Fin.ext (by show (i 2).val = 0 + 1 * (i 2).val; omega)
theorem arrAt6_eq (c : Dev nD) : (dats m 0 c).arrAt 6 cfg0.N = refCs (V m c main_v0) (V m c main_v1) (V m c main_arg2) (V m c main_v2) := by
  have hb := Value.blocks6 m c t0 (by decide)
  rw [Value.flushed6, out6_eq, iblk0, iblk1, iblk2, iblk3] at hb
  funext i
  refine Eq.trans ?_ (congrFun hb i)
  refine congrArg ((dats m 0 c).arrAt 6 cfg0.N) (funext fun a => ?_)
  match a with
  | ⟨0, _⟩ => exact Fin.ext (by show (i 0).val = 0 + 1 * (i 0).val; omega)
  | ⟨1, _⟩ => exact Fin.ext (by show (i 1).val = 0 + 1 * (i 1).val; omega)
  | ⟨2, _⟩ => exact Fin.ext (by show (i 2).val = 0 + 1 * (i 2).val; omega)

end Cert.ProjectReferenceIdeal.Hand

end
-- ==== Proof.Value.ProjectEquation.lean ====
/-
  The in-projection's kernel and reference leave the same three arrays: at every batch, channel and position the product of
  the row's codes and the channel's weights, times the row's scale — the two factors of each term in the other order, and the last positions of the first times the channel's scale.
-/
module

public import proofs.«01_k».proof.Proof.Value.ProjectKernel
public import proofs.«01_k».proof.Proof.Value.ProjectReference

@[expose] public section

set_option maxRecDepth 65536

noncomputable section

namespace Cert.Hand.Project

open Idealize.ShloMosaic Idealize.ShloMosaic.TcCoe

/-- One result from the same arguments: `h` says which of the two, `d` the first of its columns. -/
theorem same (q : Vec Ideal Cert.Project.S256x3584 .fp8e4m3) (s : Vec Ideal Cert.Project.S256x1 .f32) (w : Vec Ideal Cert.Project.S3584x16464 .fp8e4m3)
    (h : Fin 2) (d : Nat) (hd : d ≤ 7680) (e : d = if h.val = 0 then 7680 else 0) :
    Cert.ProjectReferenceIdeal.Hand.refAt q s w d hd
      = Cert.Project.Hand.outOf (transpose Cert.Project.S2058x28x8x128 [0, 2, 1, 3] (shapeCast Cert.Project.S2058x8x28x128
          (transpose Cert.Project.S16464x3584 [1, 0] w Cert.Project.Gen.transposes_S3584x16464_S16464x3584_1_0) Cert.Project.Gen.shapeCasts_S16464x3584_S2058x8x28x128)
          Cert.Project.Gen.transposes_S2058x8x28x128_S2058x28x8x128_0_2_1_3) q
          (Cert.Project.Hand.scOf (broadcastInDim Cert.Project.S256x128 ![0, 1] Cert.Project.Gen.bcast_S256x1_S256x128_0_1 s)) h := by
  funext y
  have hy : (y 1).val < 7680 := (y 1).isLt
  have h0 : (y 0).val < 2 := (y 0).isLt
  have h2 : (y 2).val < 128 := (y 2).isLt
  rw [Cert.Project.Hand.outOf_apply _ q _ h y ⟨((y 1).val + d) / 8, by omega⟩ ⟨((y 1).val + d) % 8, Nat.mod_lt _ (by decide)⟩ (by
    rw [← e]
    show 8 * (((y 1).val + d) / 8) + ((y 1).val + d) % 8 = d + (y 1).val
    omega), Cert.Project.Hand.s_apply]
  unfold Cert.ProjectReferenceIdeal.Hand.refAt Cert.ProjectReferenceIdeal.Hand.projAt
  have er : (⟨(y 0).val * 128 + (y 2).val, by omega⟩ : Fin 256) = ⟨128 * (y 0).val + (y 2).val, by omega⟩ :=
    Fin.ext (by show (y 0).val * 128 + (y 2).val = 128 * (y 0).val + (y 2).val; omega)
  rw [er]
  refine congrArg (· * s (ix2 ⟨128 * (y 0).val + (y 2).val, by omega⟩ 0)) (Finset.sum_congr rfl fun k _ => ?_)
  have hk := k.isLt
  rw [Cert.Project.Hand.w_apply w ⟨((y 1).val + d) / 8, by omega⟩ ⟨k.val / 128, by omega⟩ ⟨((y 1).val + d) % 8, Nat.mod_lt _ (by decide)⟩
    ⟨k.val % 128, Nat.mod_lt _ (by decide)⟩ k ⟨(y 1).val + d, by omega⟩
    (by show k.val = 128 * (k.val / 128) + k.val % 128; omega)
    (by show (y 1).val + d = 8 * (((y 1).val + d) / 8) + ((y 1).val + d) % 8; omega)]
  exact mul_comm _ _

/-- The channels kept apart, from the same arguments. -/
theorem same_bc (q : Vec Ideal Cert.Project.S256x3584 .fp8e4m3) (s : Vec Ideal Cert.Project.S256x1 .f32) (w : Vec Ideal Cert.Project.S3584x16464 .fp8e4m3)
    (y : Cert.Project.S2x1152x128.Idx) (r : Fin 256) (n : Fin 16464) (hr : r.val = (y 0).val * 128 + (y 2).val) (hn : n.val = 15360 + (y 1).val) :
    Cert.ProjectReferenceIdeal.Hand.projAt q s w r n
      = Cert.Project.Hand.Bc (transpose Cert.Project.S2058x28x8x128 [0, 2, 1, 3] (shapeCast Cert.Project.S2058x8x28x128
          (transpose Cert.Project.S16464x3584 [1, 0] w Cert.Project.Gen.transposes_S3584x16464_S16464x3584_1_0) Cert.Project.Gen.shapeCasts_S16464x3584_S2058x8x28x128)
          Cert.Project.Gen.transposes_S2058x8x28x128_S2058x28x8x128_0_2_1_3) q
          (Cert.Project.Hand.scOf (broadcastInDim Cert.Project.S256x128 ![0, 1] Cert.Project.Gen.bcast_S256x1_S256x128_0_1 s)) y := by
  have hn' := n.isLt
  have h0 : (y 0).val < 2 := (y 0).isLt
  have h2 : (y 2).val < 128 := (y 2).isLt
  rw [Cert.Project.Hand.Bc_apply _ q _ y ⟨n.val / 8, by omega⟩ ⟨n.val % 8, Nat.mod_lt _ (by decide)⟩ (by
    show 8 * (n.val / 8) + n.val % 8 = 15360 + (y 1).val
    omega), Cert.Project.Hand.s_apply]
  unfold Cert.ProjectReferenceIdeal.Hand.projAt
  have er : r = ⟨128 * (y 0).val + (y 2).val, by omega⟩ := Fin.ext (by show r.val = 128 * (y 0).val + (y 2).val; omega)
  rw [er]
  refine congrArg (· * s (ix2 ⟨128 * (y 0).val + (y 2).val, by omega⟩ 0)) (Finset.sum_congr rfl fun k _ => ?_)
  have hk := k.isLt
  rw [Cert.Project.Hand.w_apply w ⟨n.val / 8, by omega⟩ ⟨k.val / 128, by omega⟩ ⟨n.val % 8, Nat.mod_lt _ (by decide)⟩
    ⟨k.val % 128, Nat.mod_lt _ (by decide)⟩ k n
    (by show k.val = 128 * (k.val / 128) + k.val % 128; omega)
    (by show n.val = 8 * (n.val / 8) + n.val % 8; omega)]
  exact mul_comm _ _

variable (m : (ℓ : Loc Cert.Project.nD Cert.Project.τ Cert.Project.sig) → Buf (Elt Ideal) ℓ)
  (m' : (ℓ : Loc Cert.ProjectReferenceIdeal.nD Cert.ProjectReferenceIdeal.τ Cert.ProjectReferenceIdeal.sig) → Buf (Elt Ideal) ℓ)

/-- The kernel's result `h`, from the arguments. -/
theorem out_eq (c : Dev Cert.Project.nD) (h : Fin 2) (d : Nat) (hd : d ≤ 7680) (e : d = if h.val = 0 then 7680 else 0) :
    Cert.ProjectReferenceIdeal.Hand.refAt
      (shapeCast Cert.Project.S256x3584 (m ((c.tc : Thread Cert.Project.nD Cert.Project.τ).loc Cert.Project.main_arg0)) Cert.Project.Gen.shapeCasts_S2x128x3584_S256x3584)
      (shapeCast Cert.Project.S256x1 (m ((c.tc : Thread Cert.Project.nD Cert.Project.τ).loc Cert.Project.main_arg1)) Cert.Project.Gen.shapeCasts_S2x128_S256x1)
      (m ((c.tc : Thread Cert.Project.nD Cert.Project.τ).loc Cert.Project.main_arg2)) d hd
      = Cert.Project.Hand.out m c h := by
  unfold Cert.Project.Hand.out
  rw [Cert.Project.Hand.codes_eq, Cert.Project.Hand.rowScales_eq, Cert.Project.Hand.V_w, Cert.Project.Hand.V_q, Cert.Project.Hand.V_s]
  exact same _ _ _ h d hd e

/-- The kernel's third result, from the arguments. -/
theorem cs_eq (c : Dev Cert.Project.nD) :
    Cert.ProjectReferenceIdeal.Hand.refCs
      (shapeCast Cert.Project.S256x3584 (m ((c.tc : Thread Cert.Project.nD Cert.Project.τ).loc Cert.Project.main_arg0)) Cert.Project.Gen.shapeCasts_S2x128x3584_S256x3584)
      (shapeCast Cert.Project.S256x1 (m ((c.tc : Thread Cert.Project.nD Cert.Project.τ).loc Cert.Project.main_arg1)) Cert.Project.Gen.shapeCasts_S2x128_S256x1)
      (m ((c.tc : Thread Cert.Project.nD Cert.Project.τ).loc Cert.Project.main_arg2))
      (shapeCast Cert.Project.S1x16464 (m ((c.tc : Thread Cert.Project.nD Cert.Project.τ).loc Cert.Project.main_arg3)) Cert.Project.Gen.shapeCasts_S16464_S1x16464)
      = Cert.Project.Hand.csOut m c := by
  unfold Cert.Project.Hand.csOut
  rw [Cert.Project.Hand.codes_eq, Cert.Project.Hand.rowScales_eq, Cert.Project.Hand.V_w, Cert.Project.Hand.V_q, Cert.Project.Hand.V_s, Cert.Project.Hand.V_ws]
  funext y
  have h0 : (y 0).val < 3 := (y 0).isLt
  have h1 : (y 1).val < 2 := (y 1).isLt
  have h2 : (y 2).val < 8704 := (y 2).isLt
  unfold Cert.ProjectReferenceIdeal.Hand.refCs Cert.Project.Hand.csOf
  refine congrArg (· * _) ?_
  by_cases h : (y 2).val < 7680
  · rw [dif_pos h, ← same _ _ _ 0 7680 (by decide) rfl]
    rfl
  · rw [dif_neg h]
    exact same_bc _ _ _ _ _ _ rfl (by show (y 2).val + 7680 = 15360 + ((y 2).val - 7680); omega)

/-- From arguments that agree, the three pairs of result arrays agree. -/
theorem result_eq (c : Dev Cert.Project.nD)
    (h0 : m' ((c.tc : Thread Cert.ProjectReferenceIdeal.nD Cert.ProjectReferenceIdeal.τ).loc Cert.ProjectReferenceIdeal.main_arg0) = m ((c.tc : Thread Cert.Project.nD Cert.Project.τ).loc Cert.Project.main_arg0))
    (h1 : m' ((c.tc : Thread Cert.ProjectReferenceIdeal.nD Cert.ProjectReferenceIdeal.τ).loc Cert.ProjectReferenceIdeal.main_arg1) = m ((c.tc : Thread Cert.Project.nD Cert.Project.τ).loc Cert.Project.main_arg1))
    (h2 : m' ((c.tc : Thread Cert.ProjectReferenceIdeal.nD Cert.ProjectReferenceIdeal.τ).loc Cert.ProjectReferenceIdeal.main_arg2) = m ((c.tc : Thread Cert.Project.nD Cert.Project.τ).loc Cert.Project.main_arg2))
    (h3 : m' ((c.tc : Thread Cert.ProjectReferenceIdeal.nD Cert.ProjectReferenceIdeal.τ).loc Cert.ProjectReferenceIdeal.main_arg3) = m ((c.tc : Thread Cert.Project.nD Cert.Project.τ).loc Cert.Project.main_arg3)) :
    (Cert.ProjectReferenceIdeal.Gen.dats m' 0 c).arrAt 4 Cert.ProjectReferenceIdeal.cfg0.N = Cert.Project.Hand.out m c 0
    ∧ (Cert.ProjectReferenceIdeal.Gen.dats m' 0 c).arrAt 5 Cert.ProjectReferenceIdeal.cfg0.N = Cert.Project.Hand.out m c 1
    ∧ (Cert.ProjectReferenceIdeal.Gen.dats m' 0 c).arrAt 6 Cert.ProjectReferenceIdeal.cfg0.N = Cert.Project.Hand.csOut m c := by
  rw [Cert.ProjectReferenceIdeal.Hand.arrAt4_eq, Cert.ProjectReferenceIdeal.Hand.arrAt5_eq, Cert.ProjectReferenceIdeal.Hand.arrAt6_eq, Cert.ProjectReferenceIdeal.Hand.V_q,
    Cert.ProjectReferenceIdeal.Hand.V_s, Cert.ProjectReferenceIdeal.Hand.V_ws, Cert.ProjectReferenceIdeal.Gen.V_main_arg2, h0, h1, h2, h3]
  exact ⟨out_eq m c 0 7680 (by decide) rfl, out_eq m c 1 0 (by decide) rfl, cs_eq m c⟩

end Cert.Hand.Project

end
-- ==== Proof.lean ====
/-
  The proof of `Cert.Claim`, for the output projection and the input projection each: the frames of the kernel (as printed
  and over the reals), the frame of the reference, and the equality of the kernel's results with the reference's over the
  reals. The program over the reals is the printed one by definition, so what is proved of the printed one at any values
  is used for both.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Project
public import proofs.«01_k».proof.Proof.Gen.ProjectIdeal
public import proofs.«01_k».proof.Proof.Gen.Project.Frame
public import proofs.«01_k».proof.Proof.Gen.ProjectReferenceIdeal
public import proofs.«01_k».proof.Proof.Gen.ProjectReferenceIdeal.Frame
public import proofs.«01_k».proof.Proof.Gen.ProjectReferenceIdeal.Value
public import proofs.«01_k».proof.Proof.Gen.ProjectIdeal.Frame
public import proofs.«01_k».proof.Proof.Gen.ReferenceIdeal.Frame
public import proofs.«01_k».proof.Proof.Gen.ReferenceIdeal.Value
public import proofs.«01_k».proof.Proof.Kernel.Frame
public import proofs.«01_k».proof.Proof.Value.Equation
public import proofs.«01_k».proof.Proof.Project.Frame
public import proofs.«01_k».proof.Proof.Ideal
public import proofs.«01_k».proof.Proof.Value.ProjectEquation
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Project.Gen.facts, Cert.ProjectIdeal.Gen.facts, Cert.ProjectReferenceIdeal.Gen.facts,
  fun m ρ _ => Cert.Kernel.Hand.frame m ρ, fun m ρ _ => Cert.Hand.kernel_run _ _ (Cert.Kernel.Hand.frame m ρ), fun m ρ _ => Cert.ReferenceIdeal.Gen.frame m ρ,
  fun m ρ _ => Cert.Project.Hand.frame m ρ, fun m ρ _ => Cert.Hand.project_run _ _ (Cert.Project.Hand.frame m ρ), fun m ρ _ => Cert.ProjectReferenceIdeal.Gen.frame m ρ,
  trivial, fun m g m' g' _ hag => by
    refine ⟨fun c => Cert.Kernel.Hand.out m c, ?_, ?_⟩
    · exact Cert.Hand.kernel_run _ _ (Cert.Kernel.Hand.result m g)
    · refine (θ_run _ _ _).mono (fun r h c => ⟨(h c).1.trans ?_, (h c).2⟩) (Cert.ReferenceIdeal.Value.run_blocks m' g')
      obtain ⟨h0, h1, h2, h3, h4⟩ := hag c
      exact Cert.Hand.result_eq m m' c h0 h1 h2 h3 h4,
  trivial, fun m g m' g' _ hag => by
    refine ⟨fun c => Cert.Project.Hand.out m c 0, fun c => Cert.Project.Hand.out m c 1, fun c => Cert.Project.Hand.csOut m c, ?_, ?_⟩
    · exact Cert.Hand.project_run _ _ (Cert.Project.Hand.result m g)
    · refine (θ_run _ _ _).mono (fun r h c => ?_) (Cert.ProjectReferenceIdeal.Value.run_blocks m' g')
      obtain ⟨h0, h1, h2, h3⟩ := hag c
      have e := Cert.Hand.Project.result_eq m m' c h0 h1 h2 h3
      exact ⟨(h c).1.trans e.1, (h c).2.1.trans e.2.1, (h c).2.2.1.trans e.2.2, (h c).2.2.2⟩⟩

end Cert.Proof

end
